-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_finite [hPre_in_finite : Cert.Pre_in_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10))) = (fun _ => 1#1)

def Pre_QkvBwd (m : (ℓ : Loc Cert.QkvBwd.nD Cert.QkvBwd.τ Cert.QkvBwd.sig) → Buf (Elt Bits) ℓ) : Prop :=
  True

def Pre_QkvBwdIdeal (m : (ℓ : Loc Cert.QkvBwdIdeal.nD Cert.QkvBwdIdeal.τ Cert.QkvBwdIdeal.sig) → Buf (Elt Ideal) ℓ) : Prop :=
  True

def Pre_QkvBwdRefIdeal (m : (ℓ : Loc Cert.QkvBwdRefIdeal.nD Cert.QkvBwdRefIdeal.τ Cert.QkvBwdRefIdeal.sig) → Buf (Elt Ideal) ℓ) : Prop :=
  True

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_InBwdRefIdeal_pre_in_finite [hInBwdRefIdeal : Cert.InBwdRefIdeal.Facts] [hPre_in_finite : Cert.Pre_in_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_QkvBwd [hQkvBwd : Cert.QkvBwd.Facts] : Prop :=
  ∀ (m : (ℓ : Loc Cert.QkvBwd.nD Cert.QkvBwd.τ Cert.QkvBwd.sig) → Buf (Elt Bits) ℓ) (g : Dev Cert.QkvBwd.nD → PrngReg), Pre_QkvBwd m →
    θ_run (Cert.QkvBwd.defs (F := Bits)) (onTc (τ := Cert.QkvBwd.τ) (Cert.QkvBwd.main (F := Bits))) ⟨m, fun _ => 0, g⟩ (fun r => (∀ c : Dev Cert.QkvBwd.nD,
      r.2.mem ((c.tc : Thread Cert.QkvBwd.nD Cert.QkvBwd.τ).loc Cert.QkvBwd.main_arg0) = m ((c.tc : Thread Cert.QkvBwd.nD Cert.QkvBwd.τ).loc Cert.QkvBwd.main_arg0)
      ∧ r.2.mem ((c.tc : Thread Cert.QkvBwd.nD Cert.QkvBwd.τ).loc Cert.QkvBwd.main_arg1) = m ((c.tc : Thread Cert.QkvBwd.nD Cert.QkvBwd.τ).loc Cert.QkvBwd.main_arg1)
      ∧ r.2.mem ((c.tc : Thread Cert.QkvBwd.nD Cert.QkvBwd.τ).loc Cert.QkvBwd.main_arg2) = m ((c.tc : Thread Cert.QkvBwd.nD Cert.QkvBwd.τ).loc Cert.QkvBwd.main_arg2)
      ∧ r.2.mem ((c.tc : Thread Cert.QkvBwd.nD Cert.QkvBwd.τ).loc Cert.QkvBwd.main_arg3) = m ((c.tc : Thread Cert.QkvBwd.nD Cert.QkvBwd.τ).loc Cert.QkvBwd.main_arg3)
      ∧ r.2.mem ((c.tc : Thread Cert.QkvBwd.nD Cert.QkvBwd.τ).loc Cert.QkvBwd.main_arg4) = m ((c.tc : Thread Cert.QkvBwd.nD Cert.QkvBwd.τ).loc Cert.QkvBwd.main_arg4)
      ∧ r.2.mem ((c.tc : Thread Cert.QkvBwd.nD Cert.QkvBwd.τ).loc Cert.QkvBwd.main_arg5) = m ((c.tc : Thread Cert.QkvBwd.nD Cert.QkvBwd.τ).loc Cert.QkvBwd.main_arg5)
      ∧ r.2.mem ((c.tc : Thread Cert.QkvBwd.nD Cert.QkvBwd.τ).loc Cert.QkvBwd.main_arg6) = m ((c.tc : Thread Cert.QkvBwd.nD Cert.QkvBwd.τ).loc Cert.QkvBwd.main_arg6)
      ∧ r.2.mem ((c.tc : Thread Cert.QkvBwd.nD Cert.QkvBwd.τ).loc Cert.QkvBwd.main_arg7) = m ((c.tc : Thread Cert.QkvBwd.nD Cert.QkvBwd.τ).loc Cert.QkvBwd.main_arg7)
      ∧ r.2.mem ((c.tc : Thread Cert.QkvBwd.nD Cert.QkvBwd.τ).loc Cert.QkvBwd.main_arg8) = m ((c.tc : Thread Cert.QkvBwd.nD Cert.QkvBwd.τ).loc Cert.QkvBwd.main_arg8)
      ∧ r.2.mem ((c.tc : Thread Cert.QkvBwd.nD Cert.QkvBwd.τ).loc Cert.QkvBwd.main_arg9) = m ((c.tc : Thread Cert.QkvBwd.nD Cert.QkvBwd.τ).loc Cert.QkvBwd.main_arg9)
      ∧ r.2.mem ((c.tc : Thread Cert.QkvBwd.nD Cert.QkvBwd.τ).loc Cert.QkvBwd.main_arg10) = m ((c.tc : Thread Cert.QkvBwd.nD Cert.QkvBwd.τ).loc Cert.QkvBwd.main_arg10)
      ∧ r.2.mem ((c.tc : Thread Cert.QkvBwd.nD Cert.QkvBwd.τ).loc Cert.QkvBwd.main_arg11) = m ((c.tc : Thread Cert.QkvBwd.nD Cert.QkvBwd.τ).loc Cert.QkvBwd.main_arg11)
      ∧ r.2.mem ((c.tc : Thread Cert.QkvBwd.nD Cert.QkvBwd.τ).loc Cert.QkvBwd.main_arg12) = m ((c.tc : Thread Cert.QkvBwd.nD Cert.QkvBwd.τ).loc Cert.QkvBwd.main_arg12)
      ∧ r.2.mem ((c.tc : Thread Cert.QkvBwd.nD Cert.QkvBwd.τ).loc Cert.QkvBwd.main_arg13) = m ((c.tc : Thread Cert.QkvBwd.nD Cert.QkvBwd.τ).loc Cert.QkvBwd.main_arg13))
      ∧ r.2.sem = fun _ => 0)

def quiescent_QkvBwdIdeal [hQkvBwdIdeal : Cert.QkvBwdIdeal.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg), Pre_QkvBwdIdeal m →
    θ_run (Cert.QkvBwdIdeal.defs (F := Ideal)) (onTc (τ := Cert.QkvBwdIdeal.τ) (Cert.QkvBwdIdeal.main (F := Ideal))) ⟨m, fun _ => 0, g⟩ (fun r => (∀ c : Dev Cert.QkvBwdIdeal.nD,
      r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
      ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
      ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
      ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
      ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
      ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5)
      ∧ r.2.mem ((c.tc : Thread Cert.QkvBwdIdeal.nD Cert.QkvBwdIdeal.τ).loc Cert.QkvBwdIdeal.main_arg6) = m ((c.tc : Thread Cert.QkvBwdIdeal.nD Cert.QkvBwdIdeal.τ).loc Cert.QkvBwdIdeal.main_arg6)
      ∧ r.2.mem ((c.tc : Thread Cert.QkvBwdIdeal.nD Cert.QkvBwdIdeal.τ).loc Cert.QkvBwdIdeal.main_arg7) = m ((c.tc : Thread Cert.QkvBwdIdeal.nD Cert.QkvBwdIdeal.τ).loc Cert.QkvBwdIdeal.main_arg7)
      ∧ r.2.mem ((c.tc : Thread Cert.QkvBwdIdeal.nD Cert.QkvBwdIdeal.τ).loc Cert.QkvBwdIdeal.main_arg8) = m ((c.tc : Thread Cert.QkvBwdIdeal.nD Cert.QkvBwdIdeal.τ).loc Cert.QkvBwdIdeal.main_arg8)
      ∧ r.2.mem ((c.tc : Thread Cert.QkvBwdIdeal.nD Cert.QkvBwdIdeal.τ).loc Cert.QkvBwdIdeal.main_arg9) = m ((c.tc : Thread Cert.QkvBwdIdeal.nD Cert.QkvBwdIdeal.τ).loc Cert.QkvBwdIdeal.main_arg9)
      ∧ r.2.mem ((c.tc : Thread Cert.QkvBwdIdeal.nD Cert.QkvBwdIdeal.τ).loc Cert.QkvBwdIdeal.main_arg10) = m ((c.tc : Thread Cert.QkvBwdIdeal.nD Cert.QkvBwdIdeal.τ).loc Cert.QkvBwdIdeal.main_arg10)
      ∧ r.2.mem ((c.tc : Thread Cert.QkvBwdIdeal.nD Cert.QkvBwdIdeal.τ).loc Cert.QkvBwdIdeal.main_arg11) = m ((c.tc : Thread Cert.QkvBwdIdeal.nD Cert.QkvBwdIdeal.τ).loc Cert.QkvBwdIdeal.main_arg11)
      ∧ r.2.mem ((c.tc : Thread Cert.QkvBwdIdeal.nD Cert.QkvBwdIdeal.τ).loc Cert.QkvBwdIdeal.main_arg12) = m ((c.tc : Thread Cert.QkvBwdIdeal.nD Cert.QkvBwdIdeal.τ).loc Cert.QkvBwdIdeal.main_arg12)
      ∧ r.2.mem ((c.tc : Thread Cert.QkvBwdIdeal.nD Cert.QkvBwdIdeal.τ).loc Cert.QkvBwdIdeal.main_arg13) = m ((c.tc : Thread Cert.QkvBwdIdeal.nD Cert.QkvBwdIdeal.τ).loc Cert.QkvBwdIdeal.main_arg13))
      ∧ r.2.sem = fun _ => 0)

def quiescent_QkvBwdRefIdeal [hQkvBwdRefIdeal : Cert.QkvBwdRefIdeal.Facts] : Prop :=
  ∀ (m : (ℓ : Loc Cert.QkvBwdRefIdeal.nD Cert.QkvBwdRefIdeal.τ Cert.QkvBwdRefIdeal.sig) → Buf (Elt Ideal) ℓ) (g : Dev Cert.QkvBwdRefIdeal.nD → PrngReg), Pre_QkvBwdRefIdeal m →
    θ_run (Cert.QkvBwdRefIdeal.defs (F := Ideal)) (onTc (τ := Cert.QkvBwdRefIdeal.τ) (Cert.QkvBwdRefIdeal.main (F := Ideal))) ⟨m, fun _ => 0, g⟩ (fun r => (∀ c : Dev Cert.QkvBwdRefIdeal.nD,
      r.2.mem ((c.tc : Thread Cert.QkvBwdRefIdeal.nD Cert.QkvBwdRefIdeal.τ).loc Cert.QkvBwdRefIdeal.main_arg0) = m ((c.tc : Thread Cert.QkvBwdRefIdeal.nD Cert.QkvBwdRefIdeal.τ).loc Cert.QkvBwdRefIdeal.main_arg0)
      ∧ r.2.mem ((c.tc : Thread Cert.QkvBwdRefIdeal.nD Cert.QkvBwdRefIdeal.τ).loc Cert.QkvBwdRefIdeal.main_arg1) = m ((c.tc : Thread Cert.QkvBwdRefIdeal.nD Cert.QkvBwdRefIdeal.τ).loc Cert.QkvBwdRefIdeal.main_arg1)
      ∧ r.2.mem ((c.tc : Thread Cert.QkvBwdRefIdeal.nD Cert.QkvBwdRefIdeal.τ).loc Cert.QkvBwdRefIdeal.main_arg2) = m ((c.tc : Thread Cert.QkvBwdRefIdeal.nD Cert.QkvBwdRefIdeal.τ).loc Cert.QkvBwdRefIdeal.main_arg2)
      ∧ r.2.mem ((c.tc : Thread Cert.QkvBwdRefIdeal.nD Cert.QkvBwdRefIdeal.τ).loc Cert.QkvBwdRefIdeal.main_arg3) = m ((c.tc : Thread Cert.QkvBwdRefIdeal.nD Cert.QkvBwdRefIdeal.τ).loc Cert.QkvBwdRefIdeal.main_arg3)
      ∧ r.2.mem ((c.tc : Thread Cert.QkvBwdRefIdeal.nD Cert.QkvBwdRefIdeal.τ).loc Cert.QkvBwdRefIdeal.main_arg4) = m ((c.tc : Thread Cert.QkvBwdRefIdeal.nD Cert.QkvBwdRefIdeal.τ).loc Cert.QkvBwdRefIdeal.main_arg4)
      ∧ r.2.mem ((c.tc : Thread Cert.QkvBwdRefIdeal.nD Cert.QkvBwdRefIdeal.τ).loc Cert.QkvBwdRefIdeal.main_arg5) = m ((c.tc : Thread Cert.QkvBwdRefIdeal.nD Cert.QkvBwdRefIdeal.τ).loc Cert.QkvBwdRefIdeal.main_arg5)
      ∧ r.2.mem ((c.tc : Thread Cert.QkvBwdRefIdeal.nD Cert.QkvBwdRefIdeal.τ).loc Cert.QkvBwdRefIdeal.main_arg6) = m ((c.tc : Thread Cert.QkvBwdRefIdeal.nD Cert.QkvBwdRefIdeal.τ).loc Cert.QkvBwdRefIdeal.main_arg6)
      ∧ r.2.mem ((c.tc : Thread Cert.QkvBwdRefIdeal.nD Cert.QkvBwdRefIdeal.τ).loc Cert.QkvBwdRefIdeal.main_arg7) = m ((c.tc : Thread Cert.QkvBwdRefIdeal.nD Cert.QkvBwdRefIdeal.τ).loc Cert.QkvBwdRefIdeal.main_arg7)
      ∧ r.2.mem ((c.tc : Thread Cert.QkvBwdRefIdeal.nD Cert.QkvBwdRefIdeal.τ).loc Cert.QkvBwdRefIdeal.main_arg8) = m ((c.tc : Thread Cert.QkvBwdRefIdeal.nD Cert.QkvBwdRefIdeal.τ).loc Cert.QkvBwdRefIdeal.main_arg8)
      ∧ r.2.mem ((c.tc : Thread Cert.QkvBwdRefIdeal.nD Cert.QkvBwdRefIdeal.τ).loc Cert.QkvBwdRefIdeal.main_arg9) = m ((c.tc : Thread Cert.QkvBwdRefIdeal.nD Cert.QkvBwdRefIdeal.τ).loc Cert.QkvBwdRefIdeal.main_arg9)
      ∧ r.2.mem ((c.tc : Thread Cert.QkvBwdRefIdeal.nD Cert.QkvBwdRefIdeal.τ).loc Cert.QkvBwdRefIdeal.main_arg10) = m ((c.tc : Thread Cert.QkvBwdRefIdeal.nD Cert.QkvBwdRefIdeal.τ).loc Cert.QkvBwdRefIdeal.main_arg10)
      ∧ r.2.mem ((c.tc : Thread Cert.QkvBwdRefIdeal.nD Cert.QkvBwdRefIdeal.τ).loc Cert.QkvBwdRefIdeal.main_arg11) = m ((c.tc : Thread Cert.QkvBwdRefIdeal.nD Cert.QkvBwdRefIdeal.τ).loc Cert.QkvBwdRefIdeal.main_arg11)
      ∧ r.2.mem ((c.tc : Thread Cert.QkvBwdRefIdeal.nD Cert.QkvBwdRefIdeal.τ).loc Cert.QkvBwdRefIdeal.main_arg12) = m ((c.tc : Thread Cert.QkvBwdRefIdeal.nD Cert.QkvBwdRefIdeal.τ).loc Cert.QkvBwdRefIdeal.main_arg12)
      ∧ r.2.mem ((c.tc : Thread Cert.QkvBwdRefIdeal.nD Cert.QkvBwdRefIdeal.τ).loc Cert.QkvBwdRefIdeal.main_arg13) = m ((c.tc : Thread Cert.QkvBwdRefIdeal.nD Cert.QkvBwdRefIdeal.τ).loc Cert.QkvBwdRefIdeal.main_arg13))
      ∧ r.2.sem = fun _ => 0)

def preserves_InBwd_InBwdIdeal : Prop :=
  True

def algebraic_InBwdIdeal_InBwdRefIdeal_pre_in_finite [hInBwdIdeal : Cert.InBwdIdeal.Facts] [hInBwdRefIdeal : Cert.InBwdRefIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v22_0)) (v1 : (c : Dev Cert.InBwdIdeal.nD) → Buf (Elt Ideal) ((c.tc : Thread Cert.InBwdIdeal.nD Cert.InBwdIdeal.τ).loc Cert.InBwdIdeal.main_v22_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v22_0) = v0 c
          ∧ r.2.mem ((c.tc : Thread Cert.InBwdIdeal.nD Cert.InBwdIdeal.τ).loc Cert.InBwdIdeal.main_v22_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v44) = v0 c
          ∧ r.2.mem ((c.tc : Thread Cert.InBwdRefIdeal.nD Cert.InBwdRefIdeal.τ).loc Cert.InBwdRefIdeal.main_v41) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_AttnBwd_AttnBwdIdeal : Prop :=
  True

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v37_0)) (v1 : (c : Dev Cert.AttnBwdIdeal.nD) → Buf (Elt Ideal) ((c.tc : Thread Cert.AttnBwdIdeal.nD Cert.AttnBwdIdeal.τ).loc Cert.AttnBwdIdeal.main_v37_1)) (v2 : (c : Dev Cert.AttnBwdIdeal.nD) → Buf (Elt Ideal) ((c.tc : Thread Cert.AttnBwdIdeal.nD Cert.AttnBwdIdeal.τ).loc Cert.AttnBwdIdeal.main_v37_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v37_0) = v0 c
          ∧ r.2.mem ((c.tc : Thread Cert.AttnBwdIdeal.nD Cert.AttnBwdIdeal.τ).loc Cert.AttnBwdIdeal.main_v37_1) = v1 c
          ∧ r.2.mem ((c.tc : Thread Cert.AttnBwdIdeal.nD Cert.AttnBwdIdeal.τ).loc Cert.AttnBwdIdeal.main_v37_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v61) = v0 c
          ∧ r.2.mem ((c.tc : Thread Cert.AttnBwdRefIdeal.nD Cert.AttnBwdRefIdeal.τ).loc Cert.AttnBwdRefIdeal.main_v68) = v1 c
          ∧ r.2.mem ((c.tc : Thread Cert.AttnBwdRefIdeal.nD Cert.AttnBwdRefIdeal.τ).loc Cert.AttnBwdRefIdeal.main_v73) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_Post_PostIdeal : Prop :=
  True

def algebraic_PostIdeal_PostRefIdeal_pre_post_finite [hPostIdeal : Cert.PostIdeal.Facts] [hPostRefIdeal : Cert.PostRefIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_post_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)) →
    ∃ (v0 : (c : Dev Cert.PostIdeal.nD) → Buf (Elt Ideal) ((c.tc : Thread Cert.PostIdeal.nD Cert.PostIdeal.τ).loc Cert.PostIdeal.main_v16_0)) (v1 : (c : Dev Cert.PostIdeal.nD) → Buf (Elt Ideal) ((c.tc : Thread Cert.PostIdeal.nD Cert.PostIdeal.τ).loc Cert.PostIdeal.main_v16_1)) (v2 : (c : Dev Cert.PostIdeal.nD) → Buf (Elt Ideal) ((c.tc : Thread Cert.PostIdeal.nD Cert.PostIdeal.τ).loc Cert.PostIdeal.main_v16_2)) (v3 : (c : Dev Cert.PostIdeal.nD) → Buf (Elt Ideal) ((c.tc : Thread Cert.PostIdeal.nD Cert.PostIdeal.τ).loc Cert.PostIdeal.main_v16_3)) (v4 : (c : Dev Cert.PostIdeal.nD) → Buf (Elt Ideal) ((c.tc : Thread Cert.PostIdeal.nD Cert.PostIdeal.τ).loc Cert.PostIdeal.main_v16_4)) (v5 : (c : Dev Cert.PostIdeal.nD) → Buf (Elt Ideal) ((c.tc : Thread Cert.PostIdeal.nD Cert.PostIdeal.τ).loc Cert.PostIdeal.main_v16_5)) (v6 : (c : Dev Cert.PostIdeal.nD) → Buf (Elt Ideal) ((c.tc : Thread Cert.PostIdeal.nD Cert.PostIdeal.τ).loc Cert.PostIdeal.main_v16_6)) (v7 : (c : Dev Cert.PostIdeal.nD) → Buf (Elt Ideal) ((c.tc : Thread Cert.PostIdeal.nD Cert.PostIdeal.τ).loc Cert.PostIdeal.main_v16_7)) (v8 : (c : Dev Cert.PostIdeal.nD) → Buf (Elt Ideal) ((c.tc : Thread Cert.PostIdeal.nD Cert.PostIdeal.τ).loc Cert.PostIdeal.main_v16_8)) (v9 : (c : Dev Cert.PostIdeal.nD) → Buf (Elt Ideal) ((c.tc : Thread Cert.PostIdeal.nD Cert.PostIdeal.τ).loc Cert.PostIdeal.main_v16_9)) (v10 : (c : Dev Cert.PostIdeal.nD) → Buf (Elt Ideal) ((c.tc : Thread Cert.PostIdeal.nD Cert.PostIdeal.τ).loc Cert.PostIdeal.main_v16_10)) (v11 : (c : Dev Cert.PostIdeal.nD) → Buf (Elt Ideal) ((c.tc : Thread Cert.PostIdeal.nD Cert.PostIdeal.τ).loc Cert.PostIdeal.main_v16_11)) (v12 : (c : Dev Cert.PostIdeal.nD) → Buf (Elt Ideal) ((c.tc : Thread Cert.PostIdeal.nD Cert.PostIdeal.τ).loc Cert.PostIdeal.main_v16_12)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v16_0) = v0 c
          ∧ r.2.mem ((c.tc : Thread Cert.PostIdeal.nD Cert.PostIdeal.τ).loc Cert.PostIdeal.main_v16_1) = v1 c
          ∧ r.2.mem ((c.tc : Thread Cert.PostIdeal.nD Cert.PostIdeal.τ).loc Cert.PostIdeal.main_v16_2) = v2 c
          ∧ r.2.mem ((c.tc : Thread Cert.PostIdeal.nD Cert.PostIdeal.τ).loc Cert.PostIdeal.main_v16_3) = v3 c
          ∧ r.2.mem ((c.tc : Thread Cert.PostIdeal.nD Cert.PostIdeal.τ).loc Cert.PostIdeal.main_v16_4) = v4 c
          ∧ r.2.mem ((c.tc : Thread Cert.PostIdeal.nD Cert.PostIdeal.τ).loc Cert.PostIdeal.main_v16_5) = v5 c
          ∧ r.2.mem ((c.tc : Thread Cert.PostIdeal.nD Cert.PostIdeal.τ).loc Cert.PostIdeal.main_v16_6) = v6 c
          ∧ r.2.mem ((c.tc : Thread Cert.PostIdeal.nD Cert.PostIdeal.τ).loc Cert.PostIdeal.main_v16_7) = v7 c
          ∧ r.2.mem ((c.tc : Thread Cert.PostIdeal.nD Cert.PostIdeal.τ).loc Cert.PostIdeal.main_v16_8) = v8 c
          ∧ r.2.mem ((c.tc : Thread Cert.PostIdeal.nD Cert.PostIdeal.τ).loc Cert.PostIdeal.main_v16_9) = v9 c
          ∧ r.2.mem ((c.tc : Thread Cert.PostIdeal.nD Cert.PostIdeal.τ).loc Cert.PostIdeal.main_v16_10) = v10 c
          ∧ r.2.mem ((c.tc : Thread Cert.PostIdeal.nD Cert.PostIdeal.τ).loc Cert.PostIdeal.main_v16_11) = v11 c
          ∧ r.2.mem ((c.tc : Thread Cert.PostIdeal.nD Cert.PostIdeal.τ).loc Cert.PostIdeal.main_v16_12) = v12 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v157) = v0 c
          ∧ r.2.mem ((c.tc : Thread Cert.PostRefIdeal.nD Cert.PostRefIdeal.τ).loc Cert.PostRefIdeal.main_v160) = v1 c
          ∧ r.2.mem ((c.tc : Thread Cert.PostRefIdeal.nD Cert.PostRefIdeal.τ).loc Cert.PostRefIdeal.main_v163) = v2 c
          ∧ r.2.mem ((c.tc : Thread Cert.PostRefIdeal.nD Cert.PostRefIdeal.τ).loc Cert.PostRefIdeal.main_v168) = v3 c
          ∧ r.2.mem ((c.tc : Thread Cert.PostRefIdeal.nD Cert.PostRefIdeal.τ).loc Cert.PostRefIdeal.main_v172) = v4 c
          ∧ r.2.mem ((c.tc : Thread Cert.PostRefIdeal.nD Cert.PostRefIdeal.τ).loc Cert.PostRefIdeal.main_v177) = v5 c
          ∧ r.2.mem ((c.tc : Thread Cert.PostRefIdeal.nD Cert.PostRefIdeal.τ).loc Cert.PostRefIdeal.main_v182) = v6 c
          ∧ r.2.mem ((c.tc : Thread Cert.PostRefIdeal.nD Cert.PostRefIdeal.τ).loc Cert.PostRefIdeal.main_v187) = v7 c
          ∧ r.2.mem ((c.tc : Thread Cert.PostRefIdeal.nD Cert.PostRefIdeal.τ).loc Cert.PostRefIdeal.main_v191) = v8 c
          ∧ r.2.mem ((c.tc : Thread Cert.PostRefIdeal.nD Cert.PostRefIdeal.τ).loc Cert.PostRefIdeal.main_v192) = v9 c
          ∧ r.2.mem ((c.tc : Thread Cert.PostRefIdeal.nD Cert.PostRefIdeal.τ).loc Cert.PostRefIdeal.main_v154) = v10 c
          ∧ r.2.mem ((c.tc : Thread Cert.PostRefIdeal.nD Cert.PostRefIdeal.τ).loc Cert.PostRefIdeal.main_v133) = v11 c
          ∧ r.2.mem ((c.tc : Thread Cert.PostRefIdeal.nD Cert.PostRefIdeal.τ).loc Cert.PostRefIdeal.main_v109) = v12 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10))

def preserves_QkvBwd_QkvBwdIdeal : Prop :=
  IdealRules.named_const.Statement Cert.QkvBwdIdeal.κ "inv_384" .f32 0x3B2AAAAB#32 ((1 / 384 : ℝ) : EReal)
  ∧ IdealRules.named_const.Statement Cert.QkvBwdIdeal.κ "inv_96" .f32 0x3C2AAAAB#32 ((1 / 96 : ℝ) : EReal)

def Claim : Prop :=
  ∃ (hInBwd : Cert.InBwd.Facts) (hInBwdIdeal : Cert.InBwdIdeal.Facts) (hInBwdRefIdeal : Cert.InBwdRefIdeal.Facts) (hAttnBwd : Cert.AttnBwd.Facts) (hAttnBwdIdeal : Cert.AttnBwdIdeal.Facts) (hAttnBwdRefIdeal : Cert.AttnBwdRefIdeal.Facts) (hPost : Cert.Post.Facts) (hPostIdeal : Cert.PostIdeal.Facts) (hPostRefIdeal : Cert.PostRefIdeal.Facts) (hQkvBwd : Cert.QkvBwd.Facts) (hQkvBwdIdeal : Cert.QkvBwdIdeal.Facts) (hQkvBwdRefIdeal : Cert.QkvBwdRefIdeal.Facts) (hPre_in_finite : Cert.Pre_in_finite.Facts) (hPre_attn_finite : Cert.Pre_attn_finite.Facts) (hPre_post_finite : Cert.Pre_post_finite.Facts),
    quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InBwdRefIdeal (hInBwdRefIdeal := hInBwdRefIdeal)
    ∧ quiescent_InBwdRefIdeal_pre_in_finite (hInBwdRefIdeal := hInBwdRefIdeal) (hPre_in_finite := hPre_in_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_Post (hPost := hPost)
    ∧ quiescent_PostIdeal (hPostIdeal := hPostIdeal)
    ∧ quiescent_PostIdeal_pre_post_finite (hPostIdeal := hPostIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_QkvBwd (hQkvBwd := hQkvBwd)
    ∧ quiescent_QkvBwdIdeal (hQkvBwdIdeal := hQkvBwdIdeal)
    ∧ quiescent_QkvBwdRefIdeal (hQkvBwdRefIdeal := hQkvBwdRefIdeal)
    ∧ preserves_InBwd_InBwdIdeal
    ∧ algebraic_InBwdIdeal_InBwdRefIdeal_pre_in_finite (hInBwdIdeal := hInBwdIdeal) (hInBwdRefIdeal := hInBwdRefIdeal) (hPre_in_finite := hPre_in_finite)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_Post_PostIdeal
    ∧ algebraic_PostIdeal_PostRefIdeal_pre_post_finite (hPostIdeal := hPostIdeal) (hPostRefIdeal := hPostRefIdeal) (hPre_post_finite := hPre_post_finite)
    ∧ preserves_QkvBwd_QkvBwdIdeal
-- ==== Pre_attn_finite.lean ====
abbrev S2x8x2064x96 : Shape := ⟨4, ![2, 8, 2064, 96]⟩
abbrev S2x8x2064x64 : Shape := ⟨4, ![2, 8, 2064, 64]⟩
abbrev S2x2064x512 : Shape := ⟨3, ![2, 2064, 512]⟩
abbrev S_ : Shape := ⟨0, ![]⟩

class Facts : Prop where
  bcast_S_S2x8x2064x96 : S_.BroadcastsInDim S2x8x2064x96 (![] : Fin 0 → Fin S2x8x2064x96.rank)
  reducesTo_S2x8x2064x96_S_d0_1_2_3 : S2x8x2064x96.ReducesTo [0, 1, 2, 3] S_
  h_S_ : 0 < S_.numel
  bcast_S_S2x8x2064x64 : S_.BroadcastsInDim S2x8x2064x64 (![] : Fin 0 → Fin S2x8x2064x64.rank)
  reducesTo_S2x8x2064x64_S_d0_1_2_3 : S2x8x2064x64.ReducesTo [0, 1, 2, 3] S_
  bcast_S_S2x2064x512 : S_.BroadcastsInDim S2x2064x512 (![] : Fin 0 → Fin S2x2064x512.rank)
  reducesTo_S2x2064x512_S_d0_1_2 : S2x2064x512.ReducesTo [0, 1, 2] S_

variable [Facts]

def fn_part1 {F : FTy → Type} [FloatOps F] (main_v13 : IVec S_ 1) (main_v16 : IVec S2x2064x512 1) : IVec S_ 1 :=
  let main_c_5 : IVec S_ 1 := constantI S_ 1 1#1
  let main_v17 : IVec S_ 1 := (fun x v => Host.reduce IntOp.andi x v reducesTo_S2x2064x512_S_d0_1_2 h_S_) main_v16 main_c_5
  let main_v18 : IVec S_ 1 := andi main_v13 main_v17
  main_v18

def fn {F : FTy → Type} [FloatOps F] (main_arg0 : FVec F S2x8x2064x96 .f32) (main_arg1 : FVec F S2x8x2064x96 .f32) (main_arg2 : FVec F S2x8x2064x64 .f32) (main_arg3 : FVec F S2x2064x512 .f32) : IVec S_ 1 :=
  let main_v0 : FVec F S2x8x2064x96 .f32 := Host.absf main_arg0
  let main_cst : FVec F S_ .f32 := constant S_ .f32 0x7F800000#32
  let main_v1 : FVec F S2x8x2064x96 .f32 := broadcastInDim S2x8x2064x96 ![] bcast_S_S2x8x2064x96 main_cst
  let main_v2 : IVec S2x8x2064x96 1 := cmpf .olt main_v0 main_v1
  let main_c : IVec S_ 1 := constantI S_ 1 1#1
  let main_v3 : IVec S_ 1 := (fun x v => Host.reduce IntOp.andi x v reducesTo_S2x8x2064x96_S_d0_1_2_3 h_S_) main_v2 main_c
  let main_v4 : FVec F S2x8x2064x96 .f32 := Host.absf main_arg1
  let main_cst_0 : FVec F S_ .f32 := constant S_ .f32 0x7F800000#32
  let main_v5 : FVec F S2x8x2064x96 .f32 := broadcastInDim S2x8x2064x96 ![] bcast_S_S2x8x2064x96 main_cst_0
  let main_v6 : IVec S2x8x2064x96 1 := cmpf .olt main_v4 main_v5
  let main_c_1 : IVec S_ 1 := constantI S_ 1 1#1
  let main_v7 : IVec S_ 1 := (fun x v => Host.reduce IntOp.andi x v reducesTo_S2x8x2064x96_S_d0_1_2_3 h_S_) main_v6 main_c_1
  let main_v8 : IVec S_ 1 := andi main_v3 main_v7
  let main_v9 : FVec F S2x8x2064x64 .f32 := Host.absf main_arg2
  let main_cst_2 : FVec F S_ .f32 := constant S_ .f32 0x7F800000#32
  let main_v10 : FVec F S2x8x2064x64 .f32 := broadcastInDim S2x8x2064x64 ![] bcast_S_S2x8x2064x64 main_cst_2
  let main_v11 : IVec S2x8x2064x64 1 := cmpf .olt main_v9 main_v10
  let main_c_3 : IVec S_ 1 := constantI S_ 1 1#1
  let main_v12 : IVec S_ 1 := (fun x v => Host.reduce IntOp.andi x v reducesTo_S2x8x2064x64_S_d0_1_2_3 h_S_) main_v11 main_c_3
  let main_v13 : IVec S_ 1 := andi main_v8 main_v12
  let main_v14 : FVec F S2x2064x512 .f32 := Host.absf main_arg3
  let main_cst_4 : FVec F S_ .f32 := constant S_ .f32 0x7F800000#32
  let main_v15 : FVec F S2x2064x512 .f32 := broadcastInDim S2x2064x512 ![] bcast_S_S2x2064x512 main_cst_4
  let main_v16 : IVec S2x2064x512 1 := cmpf .olt main_v14 main_v15
  fn_part1 (F := F) main_v13 main_v16
-- ==== Pre_in_finite.lean ====
abbrev S2x2064x1024 : Shape := ⟨3, ![2, 2064, 1024]⟩
abbrev S1x1024 : Shape := ⟨2, ![1, 1024]⟩
abbrev S1x1024x1696 : Shape := ⟨3, ![1, 1024, 1696]⟩
abbrev S2x2064x1696 : Shape := ⟨3, ![2, 2064, 1696]⟩
abbrev S_ : Shape := ⟨0, ![]⟩

class Facts : Prop where
  bcast_S_S2x2064x1024 : S_.BroadcastsInDim S2x2064x1024 (![] : Fin 0 → Fin S2x2064x1024.rank)
  reducesTo_S2x2064x1024_S_d0_1_2 : S2x2064x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1696 : S_.BroadcastsInDim S1x1024x1696 (![] : Fin 0 → Fin S1x1024x1696.rank)
  reducesTo_S1x1024x1696_S_d0_1_2 : S1x1024x1696.ReducesTo [0, 1, 2] S_
  bcast_S_S2x2064x1696 : S_.BroadcastsInDim S2x2064x1696 (![] : Fin 0 → Fin S2x2064x1696.rank)
  reducesTo_S2x2064x1696_S_d0_1_2 : S2x2064x1696.ReducesTo [0, 1, 2] S_

variable [Facts]

def fn_part1 {F : FTy → Type} [FloatOps F] (main_v13 : IVec S_ 1) (main_v16 : IVec S2x2064x1696 1) : IVec S_ 1 :=
  let main_c_5 : IVec S_ 1 := constantI S_ 1 1#1
  let main_v17 : IVec S_ 1 := (fun x v => Host.reduce IntOp.andi x v reducesTo_S2x2064x1696_S_d0_1_2 h_S_) main_v16 main_c_5
  let main_v18 : IVec S_ 1 := andi main_v13 main_v17
  main_v18

def fn {F : FTy → Type} [FloatOps F] (main_arg0 : FVec F S2x2064x1024 .f32) (main_arg1 : FVec F S1x1024 .f32) (main_arg2 : FVec F S1x1024x1696 .f32) (main_arg3 : FVec F S2x2064x1696 .f32) (main_arg4 : FVec F S2x2064x1024 .f32) : IVec S_ 1 :=
  let main_v0 : FVec F S2x2064x1024 .f32 := Host.absf main_arg0
  let main_cst : FVec F S_ .f32 := constant S_ .f32 0x7F800000#32
  let main_v1 : FVec F S2x2064x1024 .f32 := broadcastInDim S2x2064x1024 ![] bcast_S_S2x2064x1024 main_cst
  let main_v2 : IVec S2x2064x1024 1 := cmpf .olt main_v0 main_v1
  let main_c : IVec S_ 1 := constantI S_ 1 1#1
  let main_v3 : IVec S_ 1 := (fun x v => Host.reduce IntOp.andi x v reducesTo_S2x2064x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1696 .f32 := Host.absf main_arg2
  let main_cst_2 : FVec F S_ .f32 := constant S_ .f32 0x7F800000#32
  let main_v10 : FVec F S1x1024x1696 .f32 := broadcastInDim S1x1024x1696 ![] bcast_S_S1x1024x1696 main_cst_2
  let main_v11 : IVec S1x1024x1696 1 := cmpf .olt main_v9 main_v10
  let main_c_3 : IVec S_ 1 := constantI S_ 1 1#1
  let main_v12 : IVec S_ 1 := (fun x v => Host.reduce IntOp.andi x v reducesTo_S1x1024x1696_S_d0_1_2 h_S_) main_v11 main_c_3
  let main_v13 : IVec S_ 1 := andi main_v8 main_v12
  let main_v14 : FVec F S2x2064x1696 .f32 := Host.absf main_arg3
  let main_cst_4 : FVec F S_ .f32 := constant S_ .f32 0x7F800000#32
  let main_v15 : FVec F S2x2064x1696 .f32 := broadcastInDim S2x2064x1696 ![] bcast_S_S2x2064x1696 main_cst_4
  let main_v16 : IVec S2x2064x1696 1 := cmpf .olt main_v14 main_v15
  fn_part1 (F := F) main_v13 main_v16
-- ==== Pre_post_finite.lean ====
abbrev S2x2064x512 : Shape := ⟨3, ![2, 2064, 512]⟩
abbrev S2x2064x1024 : Shape := ⟨3, ![2, 2064, 1024]⟩
abbrev S2x2048x1024 : Shape := ⟨3, ![2, 2048, 1024]⟩
abbrev S1x512 : Shape := ⟨2, ![1, 512]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S2x2064x512 : S_.BroadcastsInDim S2x2064x512 (![] : Fin 0 → Fin S2x2064x512.rank)
  reducesTo_S2x2064x512_S_d0_1_2 : S2x2064x512.ReducesTo [0, 1, 2] S_
  h_S_ : 0 < S_.numel
  bcast_S_S2x2064x1024 : S_.BroadcastsInDim S2x2064x1024 (![] : Fin 0 → Fin S2x2064x1024.rank)
  reducesTo_S2x2064x1024_S_d0_1_2 : S2x2064x1024.ReducesTo [0, 1, 2] S_
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1x512 : S_.BroadcastsInDim S1x512 (![] : Fin 0 → Fin S1x512.rank)
  reducesTo_S1x512_S_d0_1 : S1x512.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part3 {F : FTy → Type} [FloatOps F] (main_v48 : IVec S_ 1) (main_v49 : FVec F S1x2816x1024 .f32) (main_v50 : FVec F S1x2816x1024 .f32) : IVec S_ 1 :=
  let main_v51 : IVec S1x2816x1024 1 := cmpf .olt main_v49 main_v50
  let main_c_19 : IVec S_ 1 := constantI S_ 1 1#1
  let main_v52 : IVec S_ 1 := (fun x v => Host.reduce IntOp.andi x v reducesTo_S1x2816x1024_S_d0_1_2 h_S_) main_v51 main_c_19
  let main_v53 : IVec S_ 1 := andi main_v48 main_v52
  main_v53

def fn_part2 {F : FTy → Type} [FloatOps F] (main_arg7 : FVec F S1x1024x1024 .f32) (main_arg8 : FVec F S1x1024x2816 .f32) (main_arg9 : FVec F S1x1024x2816 .f32) (main_arg10 : FVec F S1x2816x1024 .f32) (main_v33 : IVec S_ 1) : IVec S_ 1 :=
  let main_v34 : FVec F S1x1024x1024 .f32 := Host.absf main_arg7
  let main_cst_12 : FVec F S_ .f32 := constant S_ .f32 0x7F800000#32
  let main_v35 : FVec F S1x1024x1024 .f32 := broadcastInDim S1x1024x1024 ![] bcast_S_S1x1024x1024 main_cst_12
  let main_v36 : IVec S1x1024x1024 1 := cmpf .olt main_v34 main_v35
  let main_c_13 : IVec S_ 1 := constantI S_ 1 1#1
  let main_v37 : IVec S_ 1 := (fun x v => Host.reduce IntOp.andi x v reducesTo_S1x1024x1024_S_d0_1_2 h_S_) main_v36 main_c_13
  let main_v38 : IVec S_ 1 := andi main_v33 main_v37
  let main_v39 : FVec F S1x1024x2816 .f32 := Host.absf main_arg8
  let main_cst_14 : FVec F S_ .f32 := constant S_ .f32 0x7F800000#32
  let main_v40 : FVec F S1x1024x2816 .f32 := broadcastInDim S1x1024x2816 ![] bcast_S_S1x1024x2816 main_cst_14
  let main_v41 : IVec S1x1024x2816 1 := cmpf .olt main_v39 main_v40
  let main_c_15 : IVec S_ 1 := constantI S_ 1 1#1
  let main_v42 : IVec S_ 1 := (fun x v => Host.reduce IntOp.andi x v reducesTo_S1x1024x2816_S_d0_1_2 h_S_) main_v41 main_c_15
  let main_v43 : IVec S_ 1 := andi main_v38 main_v42
  let main_v44 : FVec F S1x1024x2816 .f32 := Host.absf main_arg9
  let main_cst_16 : FVec F S_ .f32 := constant S_ .f32 0x7F800000#32
  let main_v45 : FVec F S1x1024x2816 .f32 := broadcastInDim S1x1024x2816 ![] bcast_S_S1x1024x2816 main_cst_16
  let main_v46 : IVec S1x1024x2816 1 := cmpf .olt main_v44 main_v45
  let main_c_17 : IVec S_ 1 := constantI S_ 1 1#1
  let main_v47 : IVec S_ 1 := (fun x v => Host.reduce IntOp.andi x v reducesTo_S1x1024x2816_S_d0_1_2 h_S_) main_v46 main_c_17
  let main_v48 : IVec S_ 1 := andi main_v43 main_v47
  let main_v49 : FVec F S1x2816x1024 .f32 := Host.absf main_arg10
  let main_cst_18 : FVec F S_ .f32 := constant S_ .f32 0x7F800000#32
  let main_v50 : FVec F S1x2816x1024 .f32 := broadcastInDim S1x2816x1024 ![] bcast_S_S1x2816x1024 main_cst_18
  fn_part3 (F := F) main_v48 main_v49 main_v50

def fn_part1 {F : FTy → Type} [FloatOps F] (main_arg4 : FVec F S1x512 .f32) (main_arg5 : FVec F S1x512 .f32) (main_arg6 : FVec F S1x1024 .f32) (main_arg7 : FVec F S1x1024x1024 .f32) (main_arg8 : FVec F S1x1024x2816 .f32) (main_arg9 : FVec F S1x1024x2816 .f32) (main_arg10 : FVec F S1x2816x1024 .f32) (main_v13 : IVec S_ 1) (main_v16 : IVec S2x2048x1024 1) : IVec S_ 1 :=
  let main_c_5 : IVec S_ 1 := constantI S_ 1 1#1
  let main_v17 : IVec S_ 1 := (fun x v => Host.reduce IntOp.andi x v reducesTo_S2x2048x1024_S_d0_1_2 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : FVec F S1x512 .f32 := Host.absf main_arg5
  let main_cst_8 : FVec F S_ .f32 := constant S_ .f32 0x7F800000#32
  let main_v24 : FVec F S1x512 .f32 := broadcastInDim S1x512 ![] bcast_S_S1x512 main_cst_8
  let main_v25 : IVec S1x512 1 := cmpf .olt main_v23 main_v24
  let main_c_9 : IVec S_ 1 := constantI S_ 1 1#1
  let main_v26 : IVec S_ 1 := (fun x v => Host.reduce IntOp.andi x v reducesTo_S1x512_S_d0_1 h_S_) main_v25 main_c_9
  let main_v27 : IVec S_ 1 := andi main_v22 main_v26
  let main_v28 : FVec F S1x1024 .f32 := Host.absf main_arg6
  let main_cst_10 : FVec F S_ .f32 := constant S_ .f32 0x7F800000#32
  let main_v29 : FVec F S1x1024 .f32 := broadcastInDim S1x1024 ![] bcast_S_S1x1024 main_cst_10
  let main_v30 : IVec S1x1024 1 := cmpf .olt main_v28 main_v29
  let main_c_11 : IVec S_ 1 := constantI S_ 1 1#1
  let main_v31 : IVec S_ 1 := (fun x v => Host.reduce IntOp.andi x v reducesTo_S1x1024_S_d0_1 h_S_) main_v30 main_c_11
  let main_v32 : IVec S_ 1 := andi main_v27 main_v31
  let main_v33 : IVec S_ 1 := andi main_v18 main_v32
  fn_part2 (F := F) main_arg7 main_arg8 main_arg9 main_arg10 main_v33

def fn {F : FTy → Type} [FloatOps F] (main_arg0 : FVec F S2x2064x512 .f32) (main_arg1 : FVec F S2x2064x512 .f32) (main_arg2 : FVec F S2x2064x1024 .f32) (main_arg3 : FVec F S2x2048x1024 .f32) (main_arg4 : FVec F S1x512 .f32) (main_arg5 : FVec F S1x512 .f32) (main_arg6 : FVec F S1x1024 .f32) (main_arg7 : FVec F S1x1024x1024 .f32) (main_arg8 : FVec F S1x1024x2816 .f32) (main_arg9 : FVec F S1x1024x2816 .f32) (main_arg10 : FVec F S1x2816x1024 .f32) : IVec S_ 1 :=
  let main_v0 : FVec F S2x2064x512 .f32 := Host.absf main_arg0
  let main_cst : FVec F S_ .f32 := constant S_ .f32 0x7F800000#32
  let main_v1 : FVec F S2x2064x512 .f32 := broadcastInDim S2x2064x512 ![] bcast_S_S2x2064x512 main_cst
  let main_v2 : IVec S2x2064x512 1 := cmpf .olt main_v0 main_v1
  let main_c : IVec S_ 1 := constantI S_ 1 1#1
  let main_v3 : IVec S_ 1 := (fun x v => Host.reduce IntOp.andi x v reducesTo_S2x2064x512_S_d0_1_2 h_S_) main_v2 main_c
  let main_v4 : FVec F S2x2064x512 .f32 := Host.absf main_arg1
  let main_cst_0 : FVec F S_ .f32 := constant S_ .f32 0x7F800000#32
  let main_v5 : FVec F S2x2064x512 .f32 := broadcastInDim S2x2064x512 ![] bcast_S_S2x2064x512 main_cst_0
  let main_v6 : IVec S2x2064x512 1 := cmpf .olt main_v4 main_v5
  let main_c_1 : IVec S_ 1 := constantI S_ 1 1#1
  let main_v7 : IVec S_ 1 := (fun x v => Host.reduce IntOp.andi x v reducesTo_S2x2064x512_S_d0_1_2 h_S_) main_v6 main_c_1
  let main_v8 : IVec S_ 1 := andi main_v3 main_v7
  let main_v9 : FVec F S2x2064x1024 .f32 := Host.absf main_arg2
  let main_cst_2 : FVec F S_ .f32 := constant S_ .f32 0x7F800000#32
  let main_v10 : FVec F S2x2064x1024 .f32 := broadcastInDim S2x2064x1024 ![] bcast_S_S2x2064x1024 main_cst_2
  let main_v11 : IVec S2x2064x1024 1 := cmpf .olt main_v9 main_v10
  let main_c_3 : IVec S_ 1 := constantI S_ 1 1#1
  let main_v12 : IVec S_ 1 := (fun x v => Host.reduce IntOp.andi x v reducesTo_S2x2064x1024_S_d0_1_2 h_S_) main_v11 main_c_3
  let main_v13 : IVec S_ 1 := andi main_v8 main_v12
  let main_v14 : FVec F S2x2048x1024 .f32 := Host.absf main_arg3
  let main_cst_4 : FVec F S_ .f32 := constant S_ .f32 0x7F800000#32
  let main_v15 : FVec F S2x2048x1024 .f32 := broadcastInDim S2x2048x1024 ![] bcast_S_S2x2048x1024 main_cst_4
  let main_v16 : IVec S2x2048x1024 1 := cmpf .olt main_v14 main_v15
  fn_part1 (F := F) main_arg4 main_arg5 main_arg6 main_arg7 main_arg8 main_arg9 main_arg10 main_v13 main_v16
-- ==== InBwd.lean ====
abbrev S2x2064x1024 : Shape := ⟨3, ![2, 2064, 1024]⟩
abbrev S1x1024 : Shape := ⟨2, ![1, 1024]⟩
abbrev S1x1024x1696 : Shape := ⟨3, ![1, 1024, 1696]⟩
abbrev S2x2064x1696 : Shape := ⟨3, ![2, 2064, 1696]⟩
abbrev S1024x1696 : Shape := ⟨2, ![1024, 1696]⟩
abbrev S1696x1024 : Shape := ⟨2, ![1696, 1024]⟩
abbrev S640x1024 : Shape := ⟨2, ![640, 1024]⟩
abbrev S1024x1024 : Shape := ⟨2, ![1024, 1024]⟩
abbrev S_ : Shape := ⟨0, ![]⟩
abbrev S64x1024 : Shape := ⟨2, ![64, 1024]⟩
abbrev S32x1024 : Shape := ⟨2, ![32, 1024]⟩
abbrev S1792x1024 : Shape := ⟨2, ![1792, 1024]⟩
abbrev S2x2064x640 : Shape := ⟨3, ![2, 2064, 640]⟩
abbrev S2x2064x64 : Shape := ⟨3, ![2, 2064, 64]⟩
abbrev S2x2064x32 : Shape := ⟨3, ![2, 2064, 32]⟩
abbrev S2x2064x1792 : Shape := ⟨3, ![2, 2064, 1792]⟩
abbrev S2x2176x1792 : Shape := ⟨3, ![2, 2176, 1792]⟩
abbrev S4352x1792 : Shape := ⟨2, ![4352, 1792]⟩
abbrev S2x2176x1024 : Shape := ⟨3, ![2, 2176, 1024]⟩
abbrev S4352x1024 : Shape := ⟨2, ![4352, 1024]⟩
abbrev S256x1792 : Shape := ⟨2, ![256, 1792]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 39
  | .vmem => 11
  | .smem => 0
  | _ => 0

abbrev bufTy : (tb : Table) → Fin (tcTables nBuf tb) → BufTy
  | .hbm, ⟨0, _⟩ => ⟨S2x2064x1024, .f32⟩
  | .hbm, ⟨1, _⟩ => ⟨S1x1024, .f32⟩
  | .hbm, ⟨2, _⟩ => ⟨S1x1024x1696, .f32⟩
  | .hbm, ⟨3, _⟩ => ⟨S2x2064x1696, .f32⟩
  | .hbm, ⟨4, _⟩ => ⟨S2x2064x1024, .f32⟩
  | .hbm, ⟨5, _⟩ => ⟨S1024x1696, .f32⟩
  | .hbm, ⟨6, _⟩ => ⟨S1696x1024, .f32⟩
  | .hbm, ⟨7, _⟩ => ⟨S1696x1024, .bf16⟩
  | .hbm, ⟨8, _⟩ => ⟨S640x1024, .bf16⟩
  | .hbm, ⟨9, _⟩ => ⟨S1024x1024, .bf16⟩
  | .hbm, ⟨10, _⟩ => ⟨S_, .bf16⟩
  | .hbm, ⟨11, _⟩ => ⟨S64x1024, .bf16⟩
  | .hbm, ⟨12, _⟩ => ⟨S32x1024, .bf16⟩
  | .hbm, ⟨13, _⟩ => ⟨S_, .bf16⟩
  | .hbm, ⟨14, _⟩ => ⟨S32x1024, .bf16⟩
  | .hbm, ⟨15, _⟩ => ⟨S1792x1024, .bf16⟩
  | .hbm, ⟨16, _⟩ => ⟨S2x2064x640, .f32⟩
  | .hbm, ⟨17, _⟩ => ⟨S2x2064x1024, .f32⟩
  | .hbm, ⟨18, _⟩ => ⟨S_, .f32⟩
  | .hbm, ⟨19, _⟩ => ⟨S2x2064x64, .f32⟩
  | .hbm, ⟨20, _⟩ => ⟨S2x2064x32, .f32⟩
  | .hbm, ⟨21, _⟩ => ⟨S_, .f32⟩
  | .hbm, ⟨22, _⟩ => ⟨S2x2064x32, .f32⟩
  | .hbm, ⟨23, _⟩ => ⟨S2x2064x1792, .f32⟩
  | .hbm, ⟨24, _⟩ => ⟨S_, .i32⟩
  | .hbm, ⟨25, _⟩ => ⟨S_, .f32⟩
  | .hbm, ⟨26, _⟩ => ⟨S2x2176x1792, .f32⟩
  | .hbm, ⟨27, _⟩ => ⟨S4352x1792, .f32⟩
  | .hbm, ⟨28, _⟩ => ⟨S4352x1792, .bf16⟩
  | .hbm, ⟨29, _⟩ => ⟨S_, .i32⟩
  | .hbm, ⟨30, _⟩ => ⟨S_, .f32⟩
  | .hbm, ⟨31, _⟩ => ⟨S2x2176x1024, .f32⟩
  | .hbm, ⟨32, _⟩ => ⟨S4352x1024, .f32⟩
  | .hbm, ⟨33, _⟩ => ⟨S_, .i32⟩
  | .hbm, ⟨34, _⟩ => ⟨S_, .f32⟩
  | .hbm, ⟨35, _⟩ => ⟨S2x2176x1024, .f32⟩
  | .hbm, ⟨36, _⟩ => ⟨S4352x1024, .f32⟩
  | .hbm, ⟨37, _⟩ => ⟨S4352x1024, .f32⟩
  | .hbm, ⟨38, _⟩ => ⟨S1x1024, .f32⟩
  | .local _ .vmem, ⟨0, _⟩ => ⟨S256x1792, .bf16⟩
  | .local _ .vmem, ⟨1, _⟩ => ⟨S256x1792, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1792x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_call1_v0 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_call2_v0 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v21 : BitVec 32 := Scalar.extui v17
  let c0_i32_9 : BitVec 32 := 0#32
  let v22 : BitVec 1 := Scalar.cmpi .ne v21 c0_i32_9
  v22

def k0_cond2 (i : grid0.Coords) : BitVec 1 :=
  let arg0 : BitVec 32 := BitVec.ofNat 32 (i 0).val
  let c0_i32 : BitVec 32 := 0#32
  let v17 : BitVec 1 := Scalar.cmpi .eq arg0 c0_i32
  let v_true : BitVec 1 := 1#1
  let v23 : BitVec 1 := Scalar.xori v17 v_true
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1792x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InBwdRefIdeal.lean ====
abbrev S2x2064x1024 : Shape := ⟨3, ![2, 2064, 1024]⟩
abbrev S1x1024 : Shape := ⟨2, ![1, 1024]⟩
abbrev S1x1024x1696 : Shape := ⟨3, ![1, 1024, 1696]⟩
abbrev S2x2064x1696 : Shape := ⟨3, ![2, 2064, 1696]⟩
abbrev S1024 : Shape := ⟨1, ![1024]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S1024x1696 : Shape := ⟨2, ![1024, 1696]⟩
abbrev S2x112x1024 : Shape := ⟨3, ![2, 112, 1024]⟩
abbrev S2x2176x1024 : Shape := ⟨3, ![2, 2176, 1024]⟩
abbrev S4352x1024 : Shape := ⟨2, ![4352, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S1x1024, .f32⟩
  | .hbm, ⟨2, _⟩ => ⟨S1x1024x1696, .f32⟩
  | .hbm, ⟨3, _⟩ => ⟨S2x2064x1696, .f32⟩
  | .hbm, ⟨4, _⟩ => ⟨S2x2064x1024, .f32⟩
  | .hbm, ⟨5, _⟩ => ⟨S1024, .f32⟩
  | .hbm, ⟨6, _⟩ => ⟨S2x2064x1024, .f32⟩
  | .hbm, ⟨7, _⟩ => ⟨S_, .f32⟩
  | .hbm, ⟨8, _⟩ => ⟨S2x2064, .f32⟩
  | .hbm, ⟨9, _⟩ => ⟨S2x2064x1, .f32⟩
  | .hbm, ⟨10, _⟩ => ⟨S_, .f32⟩
  | .hbm, ⟨11, _⟩ => ⟨S2x2064x1, .f32⟩
  | .hbm, ⟨12, _⟩ => ⟨S2x2064x1, .f32⟩
  | .hbm, ⟨13, _⟩ => ⟨S_, .f32⟩
  | .hbm, ⟨14, _⟩ => ⟨S2x2064x1, .f32⟩
  | .hbm, ⟨15, _⟩ => ⟨S2x2064x1, .f32⟩
  | .hbm, ⟨16, _⟩ => ⟨S2x2064x1, .f32⟩
  | .hbm, ⟨17, _⟩ => ⟨S2x2064x1, .f32⟩
  | .hbm, ⟨18, _⟩ => ⟨S_, .f32⟩
  | .hbm, ⟨19, _⟩ => ⟨S2x2064x1, .f32⟩
  | .hbm, ⟨20, _⟩ => ⟨S2x2064x1, .f32⟩
  | .hbm, ⟨21, _⟩ => ⟨S2x2064x1024, .f32⟩
  | .hbm, ⟨22, _⟩ => ⟨S2x2064x1024, .f32⟩
  | .hbm, ⟨23, _⟩ => ⟨S1x1x1024, .f32⟩
  | .hbm, ⟨24, _⟩ => ⟨S2x2064x1024, .f32⟩
  | .hbm, ⟨25, _⟩ => ⟨S2x2064x1024, .f32⟩
  | .hbm, ⟨26, _⟩ => ⟨S1024x1696, .f32⟩
  | .hbm, ⟨27, _⟩ => ⟨S2x2064x1696, .f32⟩
  | .hbm, ⟨28, _⟩ => ⟨S2x2064x1024, .f32⟩
  | .hbm, ⟨29, _⟩ => ⟨S2x2064x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2064x1024, .f32⟩
  | .hbm, ⟨34, _⟩ => ⟨S2x2064x1024, .f32⟩
  | .hbm, ⟨35, _⟩ => ⟨S_, .f32⟩
  | .hbm, ⟨36, _⟩ => ⟨S1024, .f32⟩
  | .hbm, ⟨37, _⟩ => ⟨S2x2064x1024, .f32⟩
  | .hbm, ⟨38, _⟩ => ⟨S_, .f32⟩
  | .hbm, ⟨39, _⟩ => ⟨S2x2064, .f32⟩
  | .hbm, ⟨40, _⟩ => ⟨S2x2064x1, .f32⟩
  | .hbm, ⟨41, _⟩ => ⟨S2x2064x1024, .f32⟩
  | .hbm, ⟨42, _⟩ => ⟨S2x2064x1024, .f32⟩
  | .hbm, ⟨43, _⟩ => ⟨S2x2064x1024, .f32⟩
  | .hbm, ⟨44, _⟩ => ⟨S2x2064x1, .f32⟩
  | .hbm, ⟨45, _⟩ => ⟨S_, .f32⟩
  | .hbm, ⟨46, _⟩ => ⟨S2x2064x1, .f32⟩
  | .hbm, ⟨47, _⟩ => ⟨S2x2064x1, .f32⟩
  | .hbm, ⟨48, _⟩ => ⟨S_, .f32⟩
  | .hbm, ⟨49, _⟩ => ⟨S2x2064, .f32⟩
  | .hbm, ⟨50, _⟩ => ⟨S2x2064x1024, .f32⟩
  | .hbm, ⟨51, _⟩ => ⟨S2x2064x1024, .f32⟩
  | .hbm, ⟨52, _⟩ => ⟨S2x2064x1024, .f32⟩
  | .hbm, ⟨53, _⟩ => ⟨S2x2064x1024, .f32⟩
  | .hbm, ⟨54, _⟩ => ⟨S2x2064x1024, .f32⟩
  | .hbm, ⟨55, _⟩ => ⟨S1x1024, .f32⟩
  | .hbm, ⟨56, _⟩ => ⟨S_, .f32⟩
  | .hbm, ⟨57, _⟩ => ⟨S2x112x1024, .f32⟩
  | .hbm, ⟨58, _⟩ => ⟨S2x2176x1024, .f32⟩
  | .hbm, ⟨59, _⟩ => ⟨S4352x1024, .f32⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== AttnBwd.lean ====
abbrev S2x8x2064x96 : Shape := ⟨4, ![2, 8, 2064, 96]⟩
abbrev S2x8x2064x64 : Shape := ⟨4, ![2, 8, 2064, 64]⟩
abbrev S2x2064x512 : Shape := ⟨3, ![2, 2064, 512]⟩
abbrev S2x2064x8x96 : Shape := ⟨4, ![2, 2064, 8, 96]⟩
abbrev S_ : Shape := ⟨0, ![]⟩
abbrev S2x2176x8x128 : Shape := ⟨4, ![2, 2176, 8, 128]⟩
abbrev S2x2064x8x64 : Shape := ⟨4, ![2, 2064, 8, 64]⟩
abbrev S2x2176x8x64 : Shape := ⟨4, ![2, 2176, 8, 64]⟩
abbrev S2x8x2176x2176 : Shape := ⟨4, ![2, 8, 2176, 2176]⟩
abbrev S2x8x2176 : Shape := ⟨3, ![2, 8, 2176]⟩
abbrev S2x8x2176x1 : Shape := ⟨4, ![2, 8, 2176, 1]⟩
abbrev S2x8x2176x64 : Shape := ⟨4, ![2, 8, 2176, 64]⟩
abbrev S4352x1024 : Shape := ⟨2, ![4352, 1024]⟩
abbrev S4352x512 : Shape := ⟨2, ![4352, 512]⟩
abbrev S2x2176x512 : Shape := ⟨3, ![2, 2176, 512]⟩
abbrev S1088x256 : Shape := ⟨2, ![1088, 256]⟩
abbrev S2176x256 : Shape := ⟨2, ![2176, 256]⟩
abbrev S2176x128 : Shape := ⟨2, ![2176, 128]⟩
abbrev S1088x128 : Shape := ⟨2, ![1088, 128]⟩
abbrev S1x2x1088x2176 : Shape := ⟨4, ![1, 2, 1088, 2176]⟩
abbrev S1088x1 : Shape := ⟨2, ![1088, 1]⟩
abbrev S1088 : Shape := ⟨1, ![1088]⟩
abbrev S1x1x1088x640 : Shape := ⟨4, ![1, 1, 1088, 640]⟩
abbrev S1088x640 : Shape := ⟨2, ![1088, 640]⟩
abbrev S640x128 : Shape := ⟨2, ![640, 128]⟩
abbrev S1x1x1088x512 : Shape := ⟨4, ![1, 1, 1088, 512]⟩
abbrev S1088x512 : Shape := ⟨2, ![1088, 512]⟩
abbrev S512x128 : Shape := ⟨2, ![512, 128]⟩

abbrev nBuf : Space → Nat
  | .hbm => 59
  | .vmem => 20
  | .smem => 0
  | _ => 0

abbrev bufTy : (tb : Table) → Fin (tcTables nBuf tb) → BufTy
  | .hbm, ⟨0, _⟩ => ⟨S2x8x2064x96, .f32⟩
  | .hbm, ⟨1, _⟩ => ⟨S2x8x2064x96, .f32⟩
  | .hbm, ⟨2, _⟩ => ⟨S2x8x2064x64, .f32⟩
  | .hbm, ⟨3, _⟩ => ⟨S2x2064x512, .f32⟩
  | .hbm, ⟨4, _⟩ => ⟨S2x2064x8x96, .f32⟩
  | .hbm, ⟨5, _⟩ => ⟨S_, .i32⟩
  | .hbm, ⟨6, _⟩ => ⟨S_, .f32⟩
  | .hbm, ⟨7, _⟩ => ⟨S2x2176x8x128, .f32⟩
  | .hbm, ⟨8, _⟩ => ⟨S2x2176x8x128, .bf16⟩
  | .hbm, ⟨9, _⟩ => ⟨S2x2064x8x96, .f32⟩
  | .hbm, ⟨10, _⟩ => ⟨S_, .i32⟩
  | .hbm, ⟨11, _⟩ => ⟨S_, .f32⟩
  | .hbm, ⟨12, _⟩ => ⟨S2x2176x8x128, .f32⟩
  | .hbm, ⟨13, _⟩ => ⟨S2x2176x8x128, .bf16⟩
  | .hbm, ⟨14, _⟩ => ⟨S2x2064x8x64, .f32⟩
  | .hbm, ⟨15, _⟩ => ⟨S_, .i32⟩
  | .hbm, ⟨16, _⟩ => ⟨S_, .f32⟩
  | .hbm, ⟨17, _⟩ => ⟨S2x2176x8x64, .f32⟩
  | .hbm, ⟨18, _⟩ => ⟨S2x2176x8x64, .bf16⟩
  | .hbm, ⟨19, _⟩ => ⟨S2x8x2176x2176, .f32⟩
  | .hbm, ⟨20, _⟩ => ⟨S2x8x2176x2176, .i32⟩
  | .hbm, ⟨21, _⟩ => ⟨S_, .i32⟩
  | .hbm, ⟨22, _⟩ => ⟨S2x8x2176x2176, .i32⟩
  | .hbm, ⟨23, _⟩ => ⟨S2x8x2176x2176, .i1⟩
  | .hbm, ⟨24, _⟩ => ⟨S_, .f32⟩
  | .hbm, ⟨25, _⟩ => ⟨S_, .f32⟩
  | .hbm, ⟨26, _⟩ => ⟨S2x8x2176x2176, .f32⟩
  | .hbm, ⟨27, _⟩ => ⟨S2x8x2176x2176, .f32⟩
  | .hbm, ⟨28, _⟩ => ⟨S_, .f32⟩
  | .hbm, ⟨29, _⟩ => ⟨S2x8x2176, .f32⟩
  | .hbm, ⟨30, _⟩ => ⟨S2x8x2176x1, .f32⟩
  | .hbm, ⟨31, _⟩ => ⟨S2x8x2176x2176, .f32⟩
  | .hbm, ⟨32, _⟩ => ⟨S2x8x2176x2176, .f32⟩
  | .hbm, ⟨33, _⟩ => ⟨S_, .f32⟩
  | .hbm, ⟨34, _⟩ => ⟨S2x8x2176x2176, .f32⟩
  | .hbm, ⟨35, _⟩ => ⟨S2x8x2176x2176, .f32⟩
  | .hbm, ⟨36, _⟩ => ⟨S2x8x2176x2176, .f32⟩
  | .hbm, ⟨37, _⟩ => ⟨S_, .f32⟩
  | .hbm, ⟨38, _⟩ => ⟨S2x8x2176, .f32⟩
  | .hbm, ⟨39, _⟩ => ⟨S2x8x2176x1, .f32⟩
  | .hbm, ⟨40, _⟩ => ⟨S2x8x2176x2176, .bf16⟩
  | .hbm, ⟨41, _⟩ => ⟨S2x8x2176x64, .f32⟩
  | .hbm, ⟨42, _⟩ => ⟨S2x8x2176x64, .f32⟩
  | .hbm, ⟨43, _⟩ => ⟨S2x8x2176x64, .f32⟩
  | .hbm, ⟨44, _⟩ => ⟨S4352x1024, .bf16⟩
  | .hbm, ⟨45, _⟩ => ⟨S4352x1024, .bf16⟩
  | .hbm, ⟨46, _⟩ => ⟨S4352x512, .bf16⟩
  | .hbm, ⟨47, _⟩ => ⟨S_, .i32⟩
  | .hbm, ⟨48, _⟩ => ⟨S_, .f32⟩
  | .hbm, ⟨49, _⟩ => ⟨S2x2176x512, .f32⟩
  | .hbm, ⟨50, _⟩ => ⟨S4352x512, .f32⟩
  | .hbm, ⟨51, _⟩ => ⟨S2x2176x8x64, .f32⟩
  | .hbm, ⟨52, _⟩ => ⟨S4352x512, .f32⟩
  | .hbm, ⟨53, _⟩ => ⟨S2x8x2176x64, .f32⟩
  | .hbm, ⟨54, _⟩ => ⟨S2x2176x8x64, .f32⟩
  | .hbm, ⟨55, _⟩ => ⟨S4352x512, .f32⟩
  | .hbm, ⟨56, _⟩ => ⟨S4352x1024, .f32⟩
  | .hbm, ⟨57, _⟩ => ⟨S4352x1024, .f32⟩
  | .hbm, ⟨58, _⟩ => ⟨S4352x512, .f32⟩
  | .local _ .vmem, ⟨0, _⟩ => ⟨S1088x256, .bf16⟩
  | .local _ .vmem, ⟨1, _⟩ => ⟨S1088x256, .bf16⟩
  | .local _ .vmem, ⟨2, _⟩ => ⟨S2176x256, .bf16⟩
  | .local _ .vmem, ⟨3, _⟩ => ⟨S2176x256, .bf16⟩
  | .local _ .vmem, ⟨4, _⟩ => ⟨S2176x128, .bf16⟩
  | .local _ .vmem, ⟨5, _⟩ => ⟨S2176x128, .bf16⟩
  | .local _ .vmem, ⟨6, _⟩ => ⟨S1088x128, .f32⟩
  | .local _ .vmem, ⟨7, _⟩ => ⟨S1088x128, .f32⟩
  | .local _ .vmem, ⟨8, _⟩ => ⟨S1088x128, .f32⟩
  | .local _ .vmem, ⟨9, _⟩ => ⟨S1088x128, .f32⟩
  | .local _ .vmem, ⟨10, _⟩ => ⟨S1088x128, .f32⟩
  | .local _ .vmem, ⟨11, _⟩ => ⟨S1088x128, .f32⟩
  | .local _ .vmem, ⟨12, _⟩ => ⟨S1x2x1088x2176, .bf16⟩
  | .local _ .vmem, ⟨13, _⟩ => ⟨S1x2x1088x2176, .bf16⟩
  | .local _ .vmem, ⟨14, _⟩ => ⟨S1088x256, .f32⟩
  | .local _ .vmem, ⟨15, _⟩ => ⟨S1088x256, .f32⟩
  | .local _ .vmem, ⟨16, _⟩ => ⟨S2176x256, .f32⟩
  | .local _ .vmem, ⟨17, _⟩ => ⟨S2176x256, .f32⟩
  | .local _ .vmem, ⟨18, _⟩ => ⟨S2176x128, .f32⟩
  | .local _ .vmem, ⟨19, _⟩ => ⟨S2176x128, .f32⟩
  | _, _ => ⟨S2x8x2064x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_call3_v0 : Ref sig .tc := ⟨.hbm, 25, rfl⟩
abbrev main_call3_v1 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_call4_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37_0 : Ref sig .tc := ⟨.hbm, 56, rfl⟩
abbrev main_v37_1 : Ref sig .tc := ⟨.hbm, 57, rfl⟩
abbrev main_v37_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1088x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1088x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2x1088x2176 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1088x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2176x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2176x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== AttnBwdRefIdeal.lean ====
abbrev S2x8x2064x96 : Shape := ⟨4, ![2, 8, 2064, 96]⟩
abbrev S2x8x2064x64 : Shape := ⟨4, ![2, 8, 2064, 64]⟩
abbrev S2x2064x512 : Shape := ⟨3, ![2, 2064, 512]⟩
abbrev S2x8x2064x2064 : Shape := ⟨4, ![2, 8, 2064, 2064]⟩
abbrev S_ : Shape := ⟨0, ![]⟩
abbrev S2x8x2064 : Shape := ⟨3, ![2, 8, 2064]⟩
abbrev S2x8x2064x1 : Shape := ⟨4, ![2, 8, 2064, 1]⟩
abbrev S2x2064x8x64 : Shape := ⟨4, ![2, 2064, 8, 64]⟩
abbrev S2x8x64x2064 : Shape := ⟨4, ![2, 8, 64, 2064]⟩
abbrev S2x2064x8x96 : Shape := ⟨4, ![2, 2064, 8, 96]⟩
abbrev S2x2064x8x32 : Shape := ⟨4, ![2, 2064, 8, 32]⟩
abbrev S2x2064x8x128 : Shape := ⟨4, ![2, 2064, 8, 128]⟩
abbrev S2x2064x1024 : Shape := ⟨3, ![2, 2064, 1024]⟩
abbrev S2x112x1024 : Shape := ⟨3, ![2, 112, 1024]⟩
abbrev S2x2176x1024 : Shape := ⟨3, ![2, 2176, 1024]⟩
abbrev S4352x1024 : Shape := ⟨2, ![4352, 1024]⟩
abbrev S2x112x512 : Shape := ⟨3, ![2, 112, 512]⟩
abbrev S2x2176x512 : Shape := ⟨3, ![2, 2176, 512]⟩
abbrev S4352x512 : Shape := ⟨2, ![4352, 512]⟩

abbrev nBuf : Space → Nat
  | .hbm => 97
  | .vmem => 0
  | .smem => 0
  | _ => 0

abbrev bufTy : (tb : Table) → Fin (tcTables nBuf tb) → BufTy
  | .hbm, ⟨0, _⟩ => ⟨S2x8x2064x96, .f32⟩
  | .hbm, ⟨1, _⟩ => ⟨S2x8x2064x96, .f32⟩
  | .hbm, ⟨2, _⟩ => ⟨S2x8x2064x64, .f32⟩
  | .hbm, ⟨3, _⟩ => ⟨S2x2064x512, .f32⟩
  | .hbm, ⟨4, _⟩ => ⟨S2x8x2064x2064, .f32⟩
  | .hbm, ⟨5, _⟩ => ⟨S_, .f32⟩
  | .hbm, ⟨6, _⟩ => ⟨S2x8x2064x2064, .f32⟩
  | .hbm, ⟨7, _⟩ => ⟨S2x8x2064x2064, .f32⟩
  | .hbm, ⟨8, _⟩ => ⟨S_, .f32⟩
  | .hbm, ⟨9, _⟩ => ⟨S2x8x2064, .f32⟩
  | .hbm, ⟨10, _⟩ => ⟨S2x8x2064x1, .f32⟩
  | .hbm, ⟨11, _⟩ => ⟨S2x8x2064x2064, .f32⟩
  | .hbm, ⟨12, _⟩ => ⟨S2x8x2064x2064, .i1⟩
  | .hbm, ⟨13, _⟩ => ⟨S2x8x2064x2064, .f32⟩
  | .hbm, ⟨14, _⟩ => ⟨S_, .f32⟩
  | .hbm, ⟨15, _⟩ => ⟨S2x8x2064, .f32⟩
  | .hbm, ⟨16, _⟩ => ⟨S_, .f32⟩
  | .hbm, ⟨17, _⟩ => ⟨S2x8x2064, .f32⟩
  | .hbm, ⟨18, _⟩ => ⟨S2x8x2064, .f32⟩
  | .hbm, ⟨19, _⟩ => ⟨S_, .f32⟩
  | .hbm, ⟨20, _⟩ => ⟨S2x8x2064, .f32⟩
  | .hbm, ⟨21, _⟩ => ⟨S2x8x2064, .i1⟩
  | .hbm, ⟨22, _⟩ => ⟨S_, .f32⟩
  | .hbm, ⟨23, _⟩ => ⟨S2x8x2064, .f32⟩
  | .hbm, ⟨24, _⟩ => ⟨S2x8x2064, .i1⟩
  | .hbm, ⟨25, _⟩ => ⟨S_, .f32⟩
  | .hbm, ⟨26, _⟩ => ⟨S2x8x2064, .f32⟩
  | .hbm, ⟨27, _⟩ => ⟨S_, .f32⟩
  | .hbm, ⟨28, _⟩ => ⟨S2x8x2064, .f32⟩
  | .hbm, ⟨29, _⟩ => ⟨S_, .f32⟩
  | .hbm, ⟨30, _⟩ => ⟨S2x8x2064, .f32⟩
  | .hbm, ⟨31, _⟩ => ⟨S2x8x2064, .f32⟩
  | .hbm, ⟨32, _⟩ => ⟨S2x8x2064, .f32⟩
  | .hbm, ⟨33, _⟩ => ⟨S2x8x2064x1, .f32⟩
  | .hbm, ⟨34, _⟩ => ⟨S2x8x2064x2064, .f32⟩
  | .hbm, ⟨35, _⟩ => ⟨S2x8x2064x2064, .f32⟩
  | .hbm, ⟨36, _⟩ => ⟨S2x8x2064x2064, .f32⟩
  | .hbm, ⟨37, _⟩ => ⟨S_, .f32⟩
  | .hbm, ⟨38, _⟩ => ⟨S2x8x2064, .f32⟩
  | .hbm, ⟨39, _⟩ => ⟨S2x8x2064x1, .f32⟩
  | .hbm, ⟨40, _⟩ => ⟨S2x8x2064x2064, .f32⟩
  | .hbm, ⟨41, _⟩ => ⟨S2x8x2064x2064, .f32⟩
  | .hbm, ⟨42, _⟩ => ⟨S2x8x2064x1, .f32⟩
  | .hbm, ⟨43, _⟩ => ⟨S_, .f32⟩
  | .hbm, ⟨44, _⟩ => ⟨S2x8x2064x1, .f32⟩
  | .hbm, ⟨45, _⟩ => ⟨S2x8x2064x1, .f32⟩
  | .hbm, ⟨46, _⟩ => ⟨S2x8x2064x64, .f32⟩
  | .hbm, ⟨47, _⟩ => ⟨S2x2064x8x64, .f32⟩
  | .hbm, ⟨48, _⟩ => ⟨S2x2064x512, .f32⟩
  | .hbm, ⟨49, _⟩ => ⟨S2x2064x8x64, .f32⟩
  | .hbm, ⟨50, _⟩ => ⟨S2x8x2064x64, .f32⟩
  | .hbm, ⟨51, _⟩ => ⟨S2x8x64x2064, .f32⟩
  | .hbm, ⟨52, _⟩ => ⟨S2x8x2064x64, .f32⟩
  | .hbm, ⟨53, _⟩ => ⟨S2x8x2064x2064, .f32⟩
  | .hbm, ⟨54, _⟩ => ⟨S2x8x2064x2064, .f32⟩
  | .hbm, ⟨55, _⟩ => ⟨S2x8x2064x2064, .f32⟩
  | .hbm, ⟨56, _⟩ => ⟨S2x8x2064x2064, .f32⟩
  | .hbm, ⟨57, _⟩ => ⟨S_, .f32⟩
  | .hbm, ⟨58, _⟩ => ⟨S2x8x2064, .f32⟩
  | .hbm, ⟨59, _⟩ => ⟨S2x8x2064x1, .f32⟩
  | .hbm, ⟨60, _⟩ => ⟨S2x8x2064x1, .f32⟩
  | .hbm, ⟨61, _⟩ => ⟨S2x8x2064x2064, .f32⟩
  | .hbm, ⟨62, _⟩ => ⟨S2x8x2064x2064, .f32⟩
  | .hbm, ⟨63, _⟩ => ⟨S_, .f32⟩
  | .hbm, ⟨64, _⟩ => ⟨S2x8x2064, .f32⟩
  | .hbm, ⟨65, _⟩ => ⟨S2x8x2064x2064, .f32⟩
  | .hbm, ⟨66, _⟩ => ⟨S2x8x2064x2064, .f32⟩
  | .hbm, ⟨67, _⟩ => ⟨S2x8x2064x2064, .f32⟩
  | .hbm, ⟨68, _⟩ => ⟨S_, .f32⟩
  | .hbm, ⟨69, _⟩ => ⟨S2x8x2064x2064, .f32⟩
  | .hbm, ⟨70, _⟩ => ⟨S2x8x2064x2064, .f32⟩
  | .hbm, ⟨71, _⟩ => ⟨S2x8x2064x96, .f32⟩
  | .hbm, ⟨72, _⟩ => ⟨S2x8x2064x96, .f32⟩
  | .hbm, ⟨73, _⟩ => ⟨S2x2064x8x96, .f32⟩
  | .hbm, ⟨74, _⟩ => ⟨S_, .f32⟩
  | .hbm, ⟨75, _⟩ => ⟨S2x2064x8x32, .f32⟩
  | .hbm, ⟨76, _⟩ => ⟨S2x2064x8x128, .f32⟩
  | .hbm, ⟨77, _⟩ => ⟨S2x2064x1024, .f32⟩
  | .hbm, ⟨78, _⟩ => ⟨S_, .f32⟩
  | .hbm, ⟨79, _⟩ => ⟨S2x112x1024, .f32⟩
  | .hbm, ⟨80, _⟩ => ⟨S2x2176x1024, .f32⟩
  | .hbm, ⟨81, _⟩ => ⟨S4352x1024, .f32⟩
  | .hbm, ⟨82, _⟩ => ⟨S2x2064x8x96, .f32⟩
  | .hbm, ⟨83, _⟩ => ⟨S_, .f32⟩
  | .hbm, ⟨84, _⟩ => ⟨S2x2064x8x32, .f32⟩
  | .hbm, ⟨85, _⟩ => ⟨S2x2064x8x128, .f32⟩
  | .hbm, ⟨86, _⟩ => ⟨S2x2064x1024, .f32⟩
  | .hbm, ⟨87, _⟩ => ⟨S_, .f32⟩
  | .hbm, ⟨88, _⟩ => ⟨S2x112x1024, .f32⟩
  | .hbm, ⟨89, _⟩ => ⟨S2x2176x1024, .f32⟩
  | .hbm, ⟨90, _⟩ => ⟨S4352x1024, .f32⟩
  | .hbm, ⟨91, _⟩ => ⟨S2x2064x8x64, .f32⟩
  | .hbm, ⟨92, _⟩ => ⟨S2x2064x512, .f32⟩
  | .hbm, ⟨93, _⟩ => ⟨S_, .f32⟩
  | .hbm, ⟨94, _⟩ => ⟨S2x112x512, .f32⟩
  | .hbm, ⟨95, _⟩ => ⟨S2x2176x512, .f32⟩
  | .hbm, ⟨96, _⟩ => ⟨S4352x512, .f32⟩
  | _, _ => ⟨S2x8x2064x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_13 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_15 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_16 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_17 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Post.lean ====
abbrev S2x2064x512 : Shape := ⟨3, ![2, 2064, 512]⟩
abbrev S2x2064x1024 : Shape := ⟨3, ![2, 2064, 1024]⟩
abbrev S2x2048x1024 : Shape := ⟨3, ![2, 2048, 1024]⟩
abbrev S1x512 : Shape := ⟨2, ![1, 512]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S_ : Shape := ⟨0, ![]⟩
abbrev S2x2176x512 : Shape := ⟨3, ![2, 2176, 512]⟩
abbrev S4352x512 : Shape := ⟨2, ![4352, 512]⟩
abbrev S2x2176x1024 : Shape := ⟨3, ![2, 2176, 1024]⟩
abbrev S4352x1024 : Shape := ⟨2, ![4352, 1024]⟩
abbrev S1024x1024 : Shape := ⟨2, ![1024, 1024]⟩
abbrev S1024x2816 : Shape := ⟨2, ![1024, 2816]⟩
abbrev S2816x1024 : Shape := ⟨2, ![2816, 1024]⟩
abbrev S1024x4352 : Shape := ⟨2, ![1024, 4352]⟩
abbrev S2816x4352 : Shape := ⟨2, ![2816, 4352]⟩
abbrev S1x128 : Shape := ⟨2, ![1, 128]⟩
abbrev S256x512 : Shape := ⟨2, ![256, 512]⟩
abbrev S256x1024 : Shape := ⟨2, ![256, 1024]⟩
abbrev S1x128x1024 : Shape := ⟨3, ![1, 128, 1024]⟩
abbrev S1024x256 : Shape := ⟨2, ![1024, 256]⟩
abbrev S2816x256 : Shape := ⟨2, ![2816, 256]⟩
abbrev S256 : Shape := ⟨1, ![256]⟩
abbrev S256x1 : Shape := ⟨2, ![256, 1]⟩
abbrev S256x2816 : Shape := ⟨2, ![256, 2816]⟩
abbrev S128x1024 : Shape := ⟨2, ![128, 1024]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩
abbrev S512 : Shape := ⟨1, ![512]⟩

abbrev nBuf : Space → Nat
  | .hbm => 46
  | .vmem => 43
  | .smem => 0
  | _ => 0

abbrev bufTy : (tb : Table) → Fin (tcTables nBuf tb) → BufTy
  | .hbm, ⟨0, _⟩ => ⟨S2x2064x512, .f32⟩
  | .hbm, ⟨1, _⟩ => ⟨S2x2064x512, .f32⟩
  | .hbm, ⟨2, _⟩ => ⟨S2x2064x1024, .f32⟩
  | .hbm, ⟨3, _⟩ => ⟨S2x2048x1024, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S_, .i32⟩
  | .hbm, ⟨12, _⟩ => ⟨S_, .f32⟩
  | .hbm, ⟨13, _⟩ => ⟨S2x2176x512, .f32⟩
  | .hbm, ⟨14, _⟩ => ⟨S4352x512, .f32⟩
  | .hbm, ⟨15, _⟩ => ⟨S_, .i32⟩
  | .hbm, ⟨16, _⟩ => ⟨S_, .f32⟩
  | .hbm, ⟨17, _⟩ => ⟨S2x2176x512, .f32⟩
  | .hbm, ⟨18, _⟩ => ⟨S4352x512, .f32⟩
  | .hbm, ⟨19, _⟩ => ⟨S_, .i32⟩
  | .hbm, ⟨20, _⟩ => ⟨S_, .f32⟩
  | .hbm, ⟨21, _⟩ => ⟨S2x2176x1024, .f32⟩
  | .hbm, ⟨22, _⟩ => ⟨S4352x1024, .f32⟩
  | .hbm, ⟨23, _⟩ => ⟨S1024x1024, .f32⟩
  | .hbm, ⟨24, _⟩ => ⟨S1024x1024, .bf16⟩
  | .hbm, ⟨25, _⟩ => ⟨S1024x2816, .f32⟩
  | .hbm, ⟨26, _⟩ => ⟨S2816x1024, .f32⟩
  | .hbm, ⟨27, _⟩ => ⟨S2816x1024, .bf16⟩
  | .hbm, ⟨28, _⟩ => ⟨S1024x2816, .f32⟩
  | .hbm, ⟨29, _⟩ => ⟨S2816x1024, .f32⟩
  | .hbm, ⟨30, _⟩ => ⟨S2816x1024, .bf16⟩
  | .hbm, ⟨31, _⟩ => ⟨S2816x1024, .f32⟩
  | .hbm, ⟨32, _⟩ => ⟨S2816x1024, .bf16⟩
  | .hbm, ⟨33, _⟩ => ⟨S4352x512, .f32⟩
  | .hbm, ⟨34, _⟩ => ⟨S4352x512, .f32⟩
  | .hbm, ⟨35, _⟩ => ⟨S4352x1024, .f32⟩
  | .hbm, ⟨36, _⟩ => ⟨S1024x4352, .bf16⟩
  | .hbm, ⟨37, _⟩ => ⟨S4352x1024, .bf16⟩
  | .hbm, ⟨38, _⟩ => ⟨S2816x4352, .bf16⟩
  | .hbm, ⟨39, _⟩ => ⟨S2816x4352, .bf16⟩
  | .hbm, ⟨40, _⟩ => ⟨S2816x4352, .bf16⟩
  | .hbm, ⟨41, _⟩ => ⟨S4352x1024, .bf16⟩
  | .hbm, ⟨42, _⟩ => ⟨S1x128, .f32⟩
  | .hbm, ⟨43, _⟩ => ⟨S1x512, .f32⟩
  | .hbm, ⟨44, _⟩ => ⟨S1x512, .f32⟩
  | .hbm, ⟨45, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x512, .f32⟩
  | .local _ .vmem, ⟨11, _⟩ => ⟨S1x512, .f32⟩
  | .local _ .vmem, ⟨12, _⟩ => ⟨S1x1024, .f32⟩
  | .local _ .vmem, ⟨13, _⟩ => ⟨S1024x1024, .bf16⟩
  | .local _ .vmem, ⟨14, _⟩ => ⟨S2816x1024, .bf16⟩
  | .local _ .vmem, ⟨15, _⟩ => ⟨S2816x1024, .bf16⟩
  | .local _ .vmem, ⟨16, _⟩ => ⟨S2816x1024, .bf16⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x1024, .f32⟩
  | .local _ .vmem, ⟨22, _⟩ => ⟨S256x1024, .f32⟩
  | .local _ .vmem, ⟨23, _⟩ => ⟨S1024x256, .bf16⟩
  | .local _ .vmem, ⟨24, _⟩ => ⟨S1024x256, .bf16⟩
  | .local _ .vmem, ⟨25, _⟩ => ⟨S256x1024, .bf16⟩
  | .local _ .vmem, ⟨26, _⟩ => ⟨S256x1024, .bf16⟩
  | .local _ .vmem, ⟨27, _⟩ => ⟨S2816x256, .bf16⟩
  | .local _ .vmem, ⟨28, _⟩ => ⟨S2816x256, .bf16⟩
  | .local _ .vmem, ⟨29, _⟩ => ⟨S2816x256, .bf16⟩
  | .local _ .vmem, ⟨30, _⟩ => ⟨S2816x256, .bf16⟩
  | .local _ .vmem, ⟨31, _⟩ => ⟨S2816x256, .bf16⟩
  | .local _ .vmem, ⟨32, _⟩ => ⟨S2816x256, .bf16⟩
  | .local _ .vmem, ⟨33, _⟩ => ⟨S256x1024, .bf16⟩
  | .local _ .vmem, ⟨34, _⟩ => ⟨S256x1024, .bf16⟩
  | .local _ .vmem, ⟨35, _⟩ => ⟨S1x128, .f32⟩
  | .local _ .vmem, ⟨36, _⟩ => ⟨S1x512, .f32⟩
  | .local _ .vmem, ⟨37, _⟩ => ⟨S1x512, .f32⟩
  | .local _ .vmem, ⟨38, _⟩ => ⟨S1x1024, .f32⟩
  | .local _ .vmem, ⟨39, _⟩ => ⟨S1x128, .f32⟩
  | .local _ .vmem, ⟨40, _⟩ => ⟨S1x512, .f32⟩
  | .local _ .vmem, ⟨41, _⟩ => ⟨S1x512, .f32⟩
  | .local _ .vmem, ⟨42, _⟩ => ⟨S1x1024, .f32⟩
  | _, _ => ⟨S2x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_call2_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v16_3 : Ref sig .tc := ⟨.hbm, 36, rfl⟩
abbrev main_v16_4 : Ref sig .tc := ⟨.hbm, 37, rfl⟩
abbrev main_v16_5 : Ref sig .tc := ⟨.hbm, 38, rfl⟩
abbrev main_v16_6 : Ref sig .tc := ⟨.hbm, 39, rfl⟩
abbrev main_v16_7 : Ref sig .tc := ⟨.hbm, 40, rfl⟩
abbrev main_v16_8 : Ref sig .tc := ⟨.hbm, 41, rfl⟩
abbrev main_v16_9 : Ref sig .tc := ⟨.hbm, 42, rfl⟩
abbrev main_v16_10 : Ref sig .tc := ⟨.hbm, 43, rfl⟩
abbrev main_v16_11 : Ref sig .tc := ⟨.hbm, 44, rfl⟩
abbrev main_v16_12 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem22_0 : DmaSem sig := 36
abbrev cc0_sem23_0 : DmaSem sig := 37
abbrev cc0_sem24_0 : DmaSem sig := 38

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.subi v28 c1_i32_11
  let c0_i32_12 : BitVec 32 := 0#32
  let v30 : BitVec 32 := Scalar.maxsi v29 c0_i32_12
  let c0_i32_13 : BitVec 32 := 0#32
  let c0_i32_14 : BitVec 32 := 0#32
  ![v18.toNat, v30.toNat, c0_i32_13.toNat]

def cc0_transform_4 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.subi v28 c1_i32_11
  let c0_i32_12 : BitVec 32 := 0#32
  let v30 : BitVec 32 := Scalar.maxsi v29 c0_i32_12
  let c0_i32_13 : BitVec 32 := 0#32
  let c0_i32_14 : BitVec 32 := 0#32
  ![v18.toNat, v30.toNat, c0_i32_13.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2816x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2816x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2816x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== PostRefIdeal.lean ====
abbrev S2x2064x512 : Shape := ⟨3, ![2, 2064, 512]⟩
abbrev S2x2064x1024 : Shape := ⟨3, ![2, 2064, 1024]⟩
abbrev S2x2048x1024 : Shape := ⟨3, ![2, 2048, 1024]⟩
abbrev S1x512 : Shape := ⟨2, ![1, 512]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S512 : Shape := ⟨1, ![512]⟩
abbrev S_ : Shape := ⟨0, ![]⟩
abbrev S2x2064 : Shape := ⟨2, ![2, 2064]⟩
abbrev S2x2064x1 : Shape := ⟨3, ![2, 2064, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩
abbrev S1024x2816 : Shape := ⟨2, ![1024, 2816]⟩
abbrev S2x2064x2816 : Shape := ⟨3, ![2, 2064, 2816]⟩
abbrev S2816x1024 : Shape := ⟨2, ![2816, 1024]⟩
abbrev S2x2048 : Shape := ⟨2, ![2, 2048]⟩
abbrev S2x112x512 : Shape := ⟨3, ![2, 112, 512]⟩
abbrev S2x2176x512 : Shape := ⟨3, ![2, 2176, 512]⟩
abbrev S4352x512 : Shape := ⟨2, ![4352, 512]⟩
abbrev S2x112x1024 : Shape := ⟨3, ![2, 112, 1024]⟩
abbrev S2x2176x1024 : Shape := ⟨3, ![2, 2176, 1024]⟩
abbrev S4352x1024 : Shape := ⟨2, ![4352, 1024]⟩
abbrev S1024x4352 : Shape := ⟨2, ![1024, 4352]⟩
abbrev S2x112x2816 : Shape := ⟨3, ![2, 112, 2816]⟩
abbrev S2x2176x2816 : Shape := ⟨3, ![2, 2176, 2816]⟩
abbrev S4352x2816 : Shape := ⟨2, ![4352, 2816]⟩
abbrev S2816x4352 : Shape := ⟨2, ![2816, 4352]⟩
abbrev S1x128 : Shape := ⟨2, ![1, 128]⟩

abbrev nBuf : Space → Nat
  | .hbm => 264
  | .vmem => 0
  | .smem => 0
  | _ => 0

abbrev hbmTy0_0 (i : Nat) : BufTy := match i % 128 with
  | 0 => ⟨S2x2064x512, .f32⟩
  | 1 => ⟨S2x2064x512, .f32⟩
  | 2 => ⟨S2x2064x1024, .f32⟩
  | 3 => ⟨S2x2048x1024, .f32⟩
  | 4 => ⟨S1x512, .f32⟩
  | 5 => ⟨S1x512, .f32⟩
  | 6 => ⟨S1x1024, .f32⟩
  | 7 => ⟨S1x1024x1024, .f32⟩
  | 8 => ⟨S1x1024x2816, .f32⟩
  | 9 => ⟨S1x1024x2816, .f32⟩
  | 10 => ⟨S1x2816x1024, .f32⟩
  | 11 => ⟨S512, .f32⟩
  | 12 => ⟨S2x2064x512, .f32⟩
  | 13 => ⟨S_, .f32⟩
  | 14 => ⟨S2x2064, .f32⟩
  | 15 => ⟨S2x2064x1, .f32⟩
  | 16 => ⟨S_, .f32⟩
  | 17 => ⟨S2x2064x1, .f32⟩
  | 18 => ⟨S2x2064x1, .f32⟩
  | 19 => ⟨S_, .f32⟩
  | 20 => ⟨S2x2064x1, .f32⟩
  | 21 => ⟨S2x2064x1, .f32⟩
  | 22 => ⟨S2x2064x1, .f32⟩
  | 23 => ⟨S2x2064x1, .f32⟩
  | 24 => ⟨S_, .f32⟩
  | 25 => ⟨S2x2064x1, .f32⟩
  | 26 => ⟨S2x2064x1, .f32⟩
  | 27 => ⟨S2x2064x512, .f32⟩
  | 28 => ⟨S2x2064x512, .f32⟩
  | 29 => ⟨S1x1x512, .f32⟩
  | 30 => ⟨S2x2064x512, .f32⟩
  | 31 => ⟨S2x2064x512, .f32⟩
  | 32 => ⟨S512, .f32⟩
  | 33 => ⟨S2x2064x512, .f32⟩
  | 34 => ⟨S_, .f32⟩
  | 35 => ⟨S2x2064, .f32⟩
  | 36 => ⟨S2x2064x1, .f32⟩
  | 37 => ⟨S_, .f32⟩
  | 38 => ⟨S2x2064x1, .f32⟩
  | 39 => ⟨S2x2064x1, .f32⟩
  | 40 => ⟨S_, .f32⟩
  | 41 => ⟨S2x2064x1, .f32⟩
  | 42 => ⟨S2x2064x1, .f32⟩
  | 43 => ⟨S2x2064x1, .f32⟩
  | 44 => ⟨S2x2064x1, .f32⟩
  | 45 => ⟨S_, .f32⟩
  | 46 => ⟨S2x2064x1, .f32⟩
  | 47 => ⟨S2x2064x1, .f32⟩
  | 48 => ⟨S2x2064x512, .f32⟩
  | 49 => ⟨S2x2064x512, .f32⟩
  | 50 => ⟨S1x1x512, .f32⟩
  | 51 => ⟨S2x2064x512, .f32⟩
  | 52 => ⟨S2x2064x512, .f32⟩
  | 53 => ⟨S2x2064x1024, .f32⟩
  | 54 => ⟨S1024x1024, .f32⟩
  | 55 => ⟨S2x2064x1024, .f32⟩
  | 56 => ⟨S2x2064x1024, .f32⟩
  | 57 => ⟨S1024, .f32⟩
  | 58 => ⟨S2x2064x1024, .f32⟩
  | 59 => ⟨S_, .f32⟩
  | 60 => ⟨S2x2064, .f32⟩
  | 61 => ⟨S2x2064x1, .f32⟩
  | 62 => ⟨S_, .f32⟩
  | 63 => ⟨S2x2064x1, .f32⟩
  | 64 => ⟨S2x2064x1, .f32⟩
  | 65 => ⟨S_, .f32⟩
  | 66 => ⟨S2x2064x1, .f32⟩
  | 67 => ⟨S2x2064x1, .f32⟩
  | 68 => ⟨S2x2064x1, .f32⟩
  | 69 => ⟨S2x2064x1, .f32⟩
  | 70 => ⟨S_, .f32⟩
  | 71 => ⟨S2x2064x1, .f32⟩
  | 72 => ⟨S2x2064x1, .f32⟩
  | 73 => ⟨S2x2064x1024, .f32⟩
  | 74 => ⟨S2x2064x1024, .f32⟩
  | 75 => ⟨S1x1x1024, .f32⟩
  | 76 => ⟨S2x2064x1024, .f32⟩
  | 77 => ⟨S2x2064x1024, .f32⟩
  | 78 => ⟨S1024x2816, .f32⟩
  | 79 => ⟨S2x2064x2816, .f32⟩
  | 80 => ⟨S1024x2816, .f32⟩
  | 81 => ⟨S2x2064x2816, .f32⟩
  | 82 => ⟨S2x2064x2816, .f32⟩
  | 83 => ⟨S2x2064x2816, .f32⟩
  | 84 => ⟨S_, .f32⟩
  | 85 => ⟨S2x2064x2816, .f32⟩
  | 86 => ⟨S2x2064x2816, .f32⟩
  | 87 => ⟨S_, .f32⟩
  | 88 => ⟨S2x2064x2816, .f32⟩
  | 89 => ⟨S2x2064x2816, .f32⟩
  | 90 => ⟨S_, .f32⟩
  | 91 => ⟨S2x2064x2816, .f32⟩
  | 92 => ⟨S2x2064x2816, .f32⟩
  | 93 => ⟨S2x2064x2816, .f32⟩
  | 94 => ⟨S2x2064x2816, .f32⟩
  | 95 => ⟨S2x2064x2816, .f32⟩
  | 96 => ⟨S2816x1024, .f32⟩
  | 97 => ⟨S2x2064x1024, .f32⟩
  | 98 => ⟨S2x2064x1024, .f32⟩
  | 99 => ⟨S2x2048x1024, .f32⟩
  | 100 => ⟨S2x2048x1024, .f32⟩
  | 101 => ⟨S2x2048x1024, .f32⟩
  | 102 => ⟨S_, .f32⟩
  | 103 => ⟨S2x2048x1024, .f32⟩
  | 104 => ⟨S2x2048x1024, .f32⟩
  | 105 => ⟨S_, .f32⟩
  | 106 => ⟨S2x2048, .f32⟩
  | 107 => ⟨S_, .f32⟩
  | 108 => ⟨S2x2048, .f32⟩
  | 109 => ⟨S2x2048, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S2x2048, .f32⟩
  | 118 => ⟨S_, .f32⟩
  | 119 => ⟨S2x2048, .f32⟩
  | 120 => ⟨S2x2048, .f32⟩
  | 121 => ⟨S2x2048x1024, .f32⟩
  | 122 => ⟨S2x2048x1024, .f32⟩
  | 123 => ⟨S_, .f32⟩
  | 124 => ⟨S2x2064x1024, .f32⟩
  | 125 => ⟨S2x2064x2816, .f32⟩
  | 126 => ⟨S2x2064x2816, .f32⟩
  | 127 => ⟨S2x2064x2816, .f32⟩
  | _ => ⟨S2x2064x512, .f32⟩

abbrev hbmTy0_1 (i : Nat) : BufTy := match i % 128 with
  | 0 => ⟨S2x2064x2816, .f32⟩
  | 1 => ⟨S2x2064x2816, .f32⟩
  | 2 => ⟨S2x2064x2816, .f32⟩
  | 3 => ⟨S2x2064x2816, .f32⟩
  | 4 => ⟨S2x2064x1024, .f32⟩
  | 5 => ⟨S2x2064x1024, .f32⟩
  | 6 => ⟨S2x2064x1024, .f32⟩
  | 7 => ⟨S2x2064x1024, .f32⟩
  | 8 => ⟨S_, .f32⟩
  | 9 => ⟨S1024, .f32⟩
  | 10 => ⟨S1x1x1024, .f32⟩
  | 11 => ⟨S2x2064x1024, .f32⟩
  | 12 => ⟨S2x2064x1024, .f32⟩
  | 13 => ⟨S_, .f32⟩
  | 14 => ⟨S1024, .f32⟩
  | 15 => ⟨S2x2064x1024, .f32⟩
  | 16 => ⟨S_, .f32⟩
  | 17 => ⟨S2x2064, .f32⟩
  | 18 => ⟨S2x2064x1, .f32⟩
  | 19 => ⟨S2x2064x1024, .f32⟩
  | 20 => ⟨S2x2064x1024, .f32⟩
  | 21 => ⟨S2x2064x1024, .f32⟩
  | 22 => ⟨S2x2064x1, .f32⟩
  | 23 => ⟨S_, .f32⟩
  | 24 => ⟨S2x2064x1, .f32⟩
  | 25 => ⟨S2x2064x1, .f32⟩
  | 26 => ⟨S_, .f32⟩
  | 27 => ⟨S2x2064, .f32⟩
  | 28 => ⟨S2x2064x1024, .f32⟩
  | 29 => ⟨S2x2064x1024, .f32⟩
  | 30 => ⟨S2x2064x1024, .f32⟩
  | 31 => ⟨S2x2064x1024, .f32⟩
  | 32 => ⟨S2x2064x1024, .f32⟩
  | 33 => ⟨S1x1024, .f32⟩
  | 34 => ⟨S2x2064x1024, .f32⟩
  | 35 => ⟨S2x2064x512, .f32⟩
  | 36 => ⟨S2x2064x512, .f32⟩
  | 37 => ⟨S2x2064x512, .f32⟩
  | 38 => ⟨S_, .f32⟩
  | 39 => ⟨S512, .f32⟩
  | 40 => ⟨S1x1x512, .f32⟩
  | 41 => ⟨S2x2064x512, .f32⟩
  | 42 => ⟨S2x2064x512, .f32⟩
  | 43 => ⟨S_, .f32⟩
  | 44 => ⟨S512, .f32⟩
  | 45 => ⟨S2x2064x512, .f32⟩
  | 46 => ⟨S_, .f32⟩
  | 47 => ⟨S2x2064, .f32⟩
  | 48 => ⟨S2x2064x1, .f32⟩
  | 49 => ⟨S2x2064x512, .f32⟩
  | 50 => ⟨S2x2064x512, .f32⟩
  | 51 => ⟨S2x2064x1, .f32⟩
  | 52 => ⟨S_, .f32⟩
  | 53 => ⟨S2x2064x1, .f32⟩
  | 54 => ⟨S2x2064x1, .f32⟩
  | 55 => ⟨S_, .f32⟩
  | 56 => ⟨S2x2064, .f32⟩
  | 57 => ⟨S2x2064x512, .f32⟩
  | 58 => ⟨S2x2064x512, .f32⟩
  | 59 => ⟨S2x2064x512, .f32⟩
  | 60 => ⟨S2x2064x512, .f32⟩
  | 61 => ⟨S2x2064x512, .f32⟩
  | 62 => ⟨S1x512, .f32⟩
  | 63 => ⟨S2x2064x512, .f32⟩
  | 64 => ⟨S_, .f32⟩
  | 65 => ⟨S512, .f32⟩
  | 66 => ⟨S1x1x512, .f32⟩
  | 67 => ⟨S2x2064x512, .f32⟩
  | 68 => ⟨S2x2064x512, .f32⟩
  | 69 => ⟨S_, .f32⟩
  | 70 => ⟨S512, .f32⟩
  | 71 => ⟨S2x2064x512, .f32⟩
  | 72 => ⟨S_, .f32⟩
  | 73 => ⟨S2x2064, .f32⟩
  | 74 => ⟨S2x2064x1, .f32⟩
  | 75 => ⟨S2x2064x512, .f32⟩
  | 76 => ⟨S2x2064x512, .f32⟩
  | 77 => ⟨S2x2064x1, .f32⟩
  | 78 => ⟨S_, .f32⟩
  | 79 => ⟨S2x2064x1, .f32⟩
  | 80 => ⟨S2x2064x1, .f32⟩
  | 81 => ⟨S_, .f32⟩
  | 82 => ⟨S2x2064, .f32⟩
  | 83 => ⟨S2x2064x512, .f32⟩
  | 84 => ⟨S2x2064x512, .f32⟩
  | 85 => ⟨S2x2064x512, .f32⟩
  | 86 => ⟨S2x2064x512, .f32⟩
  | 87 => ⟨S2x2064x512, .f32⟩
  | 88 => ⟨S1x512, .f32⟩
  | 89 => ⟨S_, .f32⟩
  | 90 => ⟨S2x112x512, .f32⟩
  | 91 => ⟨S2x2176x512, .f32⟩
  | 92 => ⟨S4352x512, .f32⟩
  | 93 => ⟨S_, .f32⟩
  | 94 => ⟨S2x112x512, .f32⟩
  | 95 => ⟨S2x2176x512, .f32⟩
  | 96 => ⟨S4352x512, .f32⟩
  | 97 => ⟨S_, .f32⟩
  | 98 => ⟨S2x112x1024, .f32⟩
  | 99 => ⟨S2x2176x1024, .f32⟩
  | 100 => ⟨S4352x1024, .f32⟩
  | 101 => ⟨S_, .f32⟩
  | 102 => ⟨S2x112x1024, .f32⟩
  | 103 => ⟨S2x2176x1024, .f32⟩
  | 104 => ⟨S4352x1024, .f32⟩
  | 105 => ⟨S1024x4352, .f32⟩
  | 106 => ⟨S1024x4352, .bf16⟩
  | 107 => ⟨S_, .f32⟩
  | 108 => ⟨S2x112x1024, .f32⟩
  | 109 => ⟨S2x2176x1024, .f32⟩
  | 110 => ⟨S4352x1024, .f32⟩
  | 111 => ⟨S4352x1024, .bf16⟩
  | 112 => ⟨S_, .f32⟩
  | 113 => ⟨S2x112x2816, .f32⟩
  | 114 => ⟨S2x2176x2816, .f32⟩
  | 115 => ⟨S4352x2816, .f32⟩
  | 116 => ⟨S2816x4352, .f32⟩
  | 117 => ⟨S2816x4352, .bf16⟩
  | 118 => ⟨S_, .f32⟩
  | 119 => ⟨S2x112x2816, .f32⟩
  | 120 => ⟨S2x2176x2816, .f32⟩
  | 121 => ⟨S4352x2816, .f32⟩
  | 122 => ⟨S2816x4352, .f32⟩
  | 123 => ⟨S2816x4352, .bf16⟩
  | 124 => ⟨S_, .f32⟩
  | 125 => ⟨S2x112x2816, .f32⟩
  | 126 => ⟨S2x2176x2816, .f32⟩
  | 127 => ⟨S4352x2816, .f32⟩
  | _ => ⟨S2x2064x512, .f32⟩

abbrev hbmTy0_2 (i : Nat) : BufTy := match i % 128 with
  | 0 => ⟨S2816x4352, .f32⟩
  | 1 => ⟨S2816x4352, .bf16⟩
  | 2 => ⟨S_, .f32⟩
  | 3 => ⟨S2x112x1024, .f32⟩
  | 4 => ⟨S2x2176x1024, .f32⟩
  | 5 => ⟨S4352x1024, .f32⟩
  | 6 => ⟨S4352x1024, .bf16⟩
  | 7 => ⟨S1x128, .f32⟩
  | _ => ⟨S2x2064x512, .f32⟩

abbrev hbmTy (i : Nat) : BufTy := match i / 128 with
  | 0 => hbmTy0_0 i
  | 1 => hbmTy0_1 i
  | 2 => hbmTy0_2 i
  | _ => ⟨S2x2064x512, .f32⟩

abbrev bufTy : (tb : Table) → Fin (tcTables nBuf tb) → BufTy
  | .hbm, ⟨i, _⟩ => hbmTy i
  | _, _ => ⟨S2x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_v59_2 : Ref sig .tc := ⟨.hbm, 89, rfl⟩
abbrev main_call0_cst_1 : Ref sig .tc := ⟨.hbm, 90, rfl⟩
abbrev main_call0_v6 : Ref sig .tc := ⟨.hbm, 91, rfl⟩
abbrev main_call0_v7 : Ref sig .tc := ⟨.hbm, 92, rfl⟩
abbrev main_v59_1 : Ref sig .tc := ⟨.hbm, 93, rfl⟩
abbrev main_v59_0 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_11 : Ref sig .tc := ⟨.hbm, 102, rfl⟩
abbrev main_v67 : Ref sig .tc := ⟨.hbm, 103, rfl⟩
abbrev main_v68 : Ref sig .tc := ⟨.hbm, 104, rfl⟩
abbrev main_cst_12 : Ref sig .tc := ⟨.hbm, 105, rfl⟩
abbrev main_v69 : Ref sig .tc := ⟨.hbm, 106, rfl⟩
abbrev main_cst_13 : Ref sig .tc := ⟨.hbm, 107, rfl⟩
abbrev main_v70 : Ref sig .tc := ⟨.hbm, 108, rfl⟩
abbrev main_v71 : Ref sig .tc := ⟨.hbm, 109, rfl⟩
abbrev main_cst_14 : Ref sig .tc := ⟨.hbm, 110, rfl⟩
abbrev main_v72 : Ref sig .tc := ⟨.hbm, 111, rfl⟩
abbrev main_cst_15 : Ref sig .tc := ⟨.hbm, 112, rfl⟩
abbrev main_v73 : Ref sig .tc := ⟨.hbm, 113, rfl⟩
abbrev main_cst_16 : Ref sig .tc := ⟨.hbm, 114, rfl⟩
abbrev main_cst_17 : Ref sig .tc := ⟨.hbm, 115, rfl⟩
abbrev main_v74 : Ref sig .tc := ⟨.hbm, 116, rfl⟩
abbrev main_v75 : Ref sig .tc := ⟨.hbm, 117, rfl⟩
abbrev main_cst_18 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_19 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_20 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_21 : Ref sig .tc := ⟨.hbm, 141, rfl⟩
abbrev main_v93 : Ref sig .tc := ⟨.hbm, 142, rfl⟩
abbrev main_v94 : Ref sig .tc := ⟨.hbm, 143, rfl⟩
abbrev main_cst_22 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_cst_23 : Ref sig .tc := ⟨.hbm, 151, rfl⟩
abbrev main_v101 : Ref sig .tc := ⟨.hbm, 152, rfl⟩
abbrev main_v102 : Ref sig .tc := ⟨.hbm, 153, rfl⟩
abbrev main_cst_24 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_25 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_26 : Ref sig .tc := ⟨.hbm, 171, rfl⟩
abbrev main_v118 : Ref sig .tc := ⟨.hbm, 172, rfl⟩
abbrev main_v119 : Ref sig .tc := ⟨.hbm, 173, rfl⟩
abbrev main_cst_27 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_28 : Ref sig .tc := ⟨.hbm, 180, rfl⟩
abbrev main_v125 : Ref sig .tc := ⟨.hbm, 181, rfl⟩
abbrev main_v126 : Ref sig .tc := ⟨.hbm, 182, rfl⟩
abbrev main_cst_29 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_30 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_31 : Ref sig .tc := ⟨.hbm, 197, rfl⟩
abbrev main_v139 : Ref sig .tc := ⟨.hbm, 198, rfl⟩
abbrev main_v140 : Ref sig .tc := ⟨.hbm, 199, rfl⟩
abbrev main_cst_32 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_33 : Ref sig .tc := ⟨.hbm, 206, rfl⟩
abbrev main_v146 : Ref sig .tc := ⟨.hbm, 207, rfl⟩
abbrev main_v147 : Ref sig .tc := ⟨.hbm, 208, rfl⟩
abbrev main_cst_34 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_cst_35 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_cst_36 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_cst_37 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_cst_38 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_cst_39 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_cst_40 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_cst_41 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_cst_42 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_cst_43 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩

abbrev nD : Nat := 1
abbrev τ : Topo := Topo.v7x

variable {F : FTy → Type} [FloatOps F]
-- ==== QkvBwd.lean ====
abbrev S2x2064x384 : Shape := ⟨3, ![2, 2064, 384]⟩
abbrev S2x2064x256 : Shape := ⟨3, ![2, 2064, 256]⟩
abbrev S2x2064x32 : Shape := ⟨3, ![2, 2064, 32]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1x96 : Shape := ⟨2, ![1, 96]⟩
abbrev S2x8x2064x96 : Shape := ⟨4, ![2, 8, 2064, 96]⟩
abbrev S2x8x2064x64 : Shape := ⟨4, ![2, 8, 2064, 64]⟩
abbrev S2x2064x512 : Shape := ⟨3, ![2, 2064, 512]⟩
abbrev S_ : Shape := ⟨0, ![]⟩
abbrev S2x2064x128 : Shape := ⟨3, ![2, 2064, 128]⟩
abbrev S2x2176x128 : Shape := ⟨3, ![2, 2176, 128]⟩
abbrev S4352x128 : Shape := ⟨2, ![4352, 128]⟩
abbrev S2x2064x8x96 : Shape := ⟨4, ![2, 2064, 8, 96]⟩
abbrev S2x2176x8x128 : Shape := ⟨4, ![2, 2176, 8, 128]⟩
abbrev S4352x1024 : Shape := ⟨2, ![4352, 1024]⟩
abbrev S2x2064x8x64 : Shape := ⟨4, ![2, 2064, 8, 64]⟩
abbrev S2x2176x512 : Shape := ⟨3, ![2, 2176, 512]⟩
abbrev S4352x512 : Shape := ⟨2, ![4352, 512]⟩
abbrev S384x768 : Shape := ⟨2, ![384, 768]⟩
abbrev S768x384 : Shape := ⟨2, ![768, 384]⟩
abbrev S8x96x384 : Shape := ⟨3, ![8, 96, 384]⟩
abbrev S8x128x384 : Shape := ⟨3, ![8, 128, 384]⟩
abbrev S1024x384 : Shape := ⟨2, ![1024, 384]⟩
abbrev S256x1024 : Shape := ⟨2, ![256, 1024]⟩
abbrev S256x8x128 : Shape := ⟨3, ![256, 8, 128]⟩
abbrev S256x8x64 : Shape := ⟨3, ![256, 8, 64]⟩
abbrev S256x512 : Shape := ⟨2, ![256, 512]⟩
abbrev S2x2176x384 : Shape := ⟨3, ![2, 2176, 384]⟩
abbrev S4352x384 : Shape := ⟨2, ![4352, 384]⟩
abbrev S2x2176x256 : Shape := ⟨3, ![2, 2176, 256]⟩
abbrev S4352x256 : Shape := ⟨2, ![4352, 256]⟩
abbrev S1x128 : Shape := ⟨2, ![1, 128]⟩
abbrev S2176 : Shape := ⟨1, ![2176]⟩
abbrev S16 : Shape := ⟨1, ![16]⟩
abbrev S2176x1 : Shape := ⟨2, ![2176, 1]⟩
abbrev S1x16 : Shape := ⟨2, ![1, 16]⟩
abbrev S2176x16 : Shape := ⟨2, ![2176, 16]⟩
abbrev S2176x64 : Shape := ⟨2, ![2176, 64]⟩
abbrev S2176x32 : Shape := ⟨2, ![2176, 32]⟩
abbrev S2176x128 : Shape := ⟨2, ![2176, 128]⟩
abbrev S2176x80 : Shape := ⟨2, ![2176, 80]⟩
abbrev S2176x48 : Shape := ⟨2, ![2176, 48]⟩
abbrev S1x2176x128 : Shape := ⟨3, ![1, 2176, 128]⟩
abbrev S4352x1792 : Shape := ⟨2, ![4352, 1792]⟩
abbrev S4352x1536 : Shape := ⟨2, ![4352, 1536]⟩
abbrev S1x896 : Shape := ⟨2, ![1, 896]⟩
abbrev S544x384 : Shape := ⟨2, ![544, 384]⟩
abbrev S544x256 : Shape := ⟨2, ![544, 256]⟩
abbrev S544x128 : Shape := ⟨2, ![544, 128]⟩
abbrev S544x1024 : Shape := ⟨2, ![544, 1024]⟩
abbrev S544x512 : Shape := ⟨2, ![544, 512]⟩
abbrev S544x1792 : Shape := ⟨2, ![544, 1792]⟩
abbrev S544x1536 : Shape := ⟨2, ![544, 1536]⟩
abbrev S544 : Shape := ⟨1, ![544]⟩
abbrev S544x1 : Shape := ⟨2, ![544, 1]⟩
abbrev S128 : Shape := ⟨1, ![128]⟩
abbrev S384 : Shape := ⟨1, ![384]⟩
abbrev S256 : Shape := ⟨1, ![256]⟩

abbrev nBuf : Space → Nat
  | .hbm => 129
  | .vmem => 40
  | .smem => 0
  | _ => 0

abbrev hbmTy0_0 (i : Nat) : BufTy := match i % 128 with
  | 0 => ⟨S2x2064x384, .f32⟩
  | 1 => ⟨S2x2064x256, .f32⟩
  | 2 => ⟨S2x2064x32, .f32⟩
  | 3 => ⟨S1x384, .f32⟩
  | 4 => ⟨S1x384x768, .f32⟩
  | 5 => ⟨S1x256, .f32⟩
  | 6 => ⟨S1x256x1024, .f32⟩
  | 7 => ⟨S1x96, .f32⟩
  | 8 => ⟨S1x96, .f32⟩
  | 9 => ⟨S2x8x2064x96, .f32⟩
  | 10 => ⟨S2x8x2064x96, .f32⟩
  | 11 => ⟨S2x8x2064x64, .f32⟩
  | 12 => ⟨S2x2064x512, .f32⟩
  | 13 => ⟨S2x2064x512, .f32⟩
  | 14 => ⟨S_, .i32⟩
  | 15 => ⟨S_, .f32⟩
  | 16 => ⟨S2x2064x128, .f32⟩
  | 17 => ⟨S_, .i32⟩
  | 18 => ⟨S_, .f32⟩
  | 19 => ⟨S2x2176x128, .f32⟩
  | 20 => ⟨S4352x128, .f32⟩
  | 21 => ⟨S2x2064x8x96, .f32⟩
  | 22 => ⟨S_, .i32⟩
  | 23 => ⟨S_, .f32⟩
  | 24 => ⟨S2x2176x8x128, .f32⟩
  | 25 => ⟨S4352x1024, .f32⟩
  | 26 => ⟨S2x2064x8x96, .f32⟩
  | 27 => ⟨S_, .i32⟩
  | 28 => ⟨S_, .f32⟩
  | 29 => ⟨S2x2176x8x128, .f32⟩
  | 30 => ⟨S4352x1024, .f32⟩
  | 31 => ⟨S2x2064x8x64, .f32⟩
  | 32 => ⟨S2x2064x512, .f32⟩
  | 33 => ⟨S_, .i32⟩
  | 34 => ⟨S_, .f32⟩
  | 35 => ⟨S2x2176x512, .f32⟩
  | 36 => ⟨S4352x512, .f32⟩
  | 37 => ⟨S384x768, .f32⟩
  | 38 => ⟨S768x384, .f32⟩
  | 39 => ⟨S768x384, .bf16⟩
  | 40 => ⟨S8x96x384, .bf16⟩
  | 41 => ⟨S_, .i32⟩
  | 42 => ⟨S_, .bf16⟩
  | 43 => ⟨S8x128x384, .bf16⟩
  | 44 => ⟨S1024x384, .bf16⟩
  | 45 => ⟨S256x1024, .f32⟩
  | 46 => ⟨S256x1024, .bf16⟩
  | 47 => ⟨S256x8x128, .bf16⟩
  | 48 => ⟨S256x8x64, .bf16⟩
  | 49 => ⟨S_, .i32⟩
  | 50 => ⟨S_, .bf16⟩
  | 51 => ⟨S256x8x128, .bf16⟩
  | 52 => ⟨S256x1024, .bf16⟩
  | 53 => ⟨S256x8x64, .bf16⟩
  | 54 => ⟨S256x512, .bf16⟩
  | 55 => ⟨S_, .i32⟩
  | 56 => ⟨S_, .f32⟩
  | 57 => ⟨S2x2176x384, .f32⟩
  | 58 => ⟨S4352x384, .f32⟩
  | 59 => ⟨S_, .i32⟩
  | 60 => ⟨S_, .f32⟩
  | 61 => ⟨S2x2176x256, .f32⟩
  | 62 => ⟨S4352x256, .f32⟩
  | 63 => ⟨S_, .i32⟩
  | 64 => ⟨S_, .f32⟩
  | 65 => ⟨S2x2176x512, .f32⟩
  | 66 => ⟨S4352x512, .f32⟩
  | 67 => ⟨S_, .i32⟩
  | 68 => ⟨S_, .f32⟩
  | 69 => ⟨S2x2176x512, .f32⟩
  | 70 => ⟨S4352x512, .f32⟩
  | 71 => ⟨S_, .i32⟩
  | 72 => ⟨S_, .f32⟩
  | 73 => ⟨S1x128, .f32⟩
  | 74 => ⟨S_, .i32⟩
  | 75 => ⟨S_, .f32⟩
  | 76 => ⟨S1x128, .f32⟩
  | 77 => ⟨S2176, .f32⟩
  | 78 => ⟨S_, .f32⟩
  | 79 => ⟨S2176, .f32⟩
  | 80 => ⟨S2176, .f32⟩
  | 81 => ⟨S16, .f32⟩
  | 82 => ⟨S_, .f32⟩
  | 83 => ⟨S16, .f32⟩
  | 84 => ⟨S16, .f32⟩
  | 85 => ⟨S_, .f32⟩
  | 86 => ⟨S16, .f32⟩
  | 87 => ⟨S16, .f32⟩
  | 88 => ⟨S_, .f32⟩
  | 89 => ⟨S16, .f32⟩
  | 90 => ⟨S16, .f32⟩
  | 91 => ⟨S2176x1, .f32⟩
  | 92 => ⟨S1x16, .f32⟩
  | 93 => ⟨S2176x16, .f32⟩
  | 94 => ⟨S2176x16, .f32⟩
  | 95 => ⟨S2176x16, .f32⟩
  | 96 => ⟨S2176x16, .f32⟩
  | 97 => ⟨S2176x16, .f32⟩
  | 98 => ⟨S_, .f32⟩
  | 99 => ⟨S2176x64, .f32⟩
  | 100 => ⟨S_, .f32⟩
  | 101 => ⟨S2176x32, .f32⟩
  | 102 => ⟨S2176x128, .f32⟩
  | 103 => ⟨S_, .f32⟩
  | 104 => ⟨S2176x80, .f32⟩
  | 105 => ⟨S_, .f32⟩
  | 106 => ⟨S2176x32, .f32⟩
  | 107 => ⟨S2176x128, .f32⟩
  | 108 => ⟨S_, .f32⟩
  | 109 => ⟨S2176x64, .f32⟩
  | 110 => ⟨S2176x16, .f32⟩
  | 111 => ⟨S_, .f32⟩
  | 112 => ⟨S2176x48, .f32⟩
  | 113 => ⟨S2176x128, .f32⟩
  | 114 => ⟨S1x2176x128, .f32⟩
  | 115 => ⟨S2x2176x128, .f32⟩
  | 116 => ⟨S4352x128, .f32⟩
  | 117 => ⟨S1x2176x128, .f32⟩
  | 118 => ⟨S2x2176x128, .f32⟩
  | 119 => ⟨S4352x128, .f32⟩
  | 120 => ⟨S1x2176x128, .f32⟩
  | 121 => ⟨S2x2176x128, .f32⟩
  | 122 => ⟨S4352x128, .f32⟩
  | 123 => ⟨S4352x1792, .bf16⟩
  | 124 => ⟨S4352x384, .bf16⟩
  | 125 => ⟨S4352x256, .bf16⟩
  | 126 => ⟨S4352x1024, .bf16⟩
  | 127 => ⟨S4352x1536, .bf16⟩
  | _ => ⟨S2x2064x384, .f32⟩

abbrev hbmTy0_1 (i : Nat) : BufTy := match i % 128 with
  | 0 => ⟨S1x896, .f32⟩
  | _ => ⟨S2x2064x384, .f32⟩

abbrev hbmTy (i : Nat) : BufTy := match i / 128 with
  | 0 => hbmTy0_0 i
  | 1 => hbmTy0_1 i
  | _ => ⟨S2x2064x384, .f32⟩

abbrev bufTy : (tb : Table) → Fin (tcTables nBuf tb) → BufTy
  | .hbm, ⟨i, _⟩ => hbmTy i
  | .local _ .vmem, ⟨0, _⟩ => ⟨S544x384, .f32⟩
  | .local _ .vmem, ⟨1, _⟩ => ⟨S544x384, .f32⟩
  | .local _ .vmem, ⟨2, _⟩ => ⟨S544x256, .f32⟩
  | .local _ .vmem, ⟨3, _⟩ => ⟨S544x256, .f32⟩
  | .local _ .vmem, ⟨4, _⟩ => ⟨S544x128, .f32⟩
  | .local _ .vmem, ⟨5, _⟩ => ⟨S544x128, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x512, .f32⟩
  | .local _ .vmem, ⟨11, _⟩ => ⟨S544x512, .f32⟩
  | .local _ .vmem, ⟨12, _⟩ => ⟨S544x512, .f32⟩
  | .local _ .vmem, ⟨13, _⟩ => ⟨S544x512, .f32⟩
  | .local _ .vmem, ⟨14, _⟩ => ⟨S544x512, .f32⟩
  | .local _ .vmem, ⟨15, _⟩ => ⟨S544x512, .f32⟩
  | .local _ .vmem, ⟨16, _⟩ => ⟨S1x384, .f32⟩
  | .local _ .vmem, ⟨17, _⟩ => ⟨S1x256, .f32⟩
  | .local _ .vmem, ⟨18, _⟩ => ⟨S1024x384, .bf16⟩
  | .local _ .vmem, ⟨19, _⟩ => ⟨S256x1024, .bf16⟩
  | .local _ .vmem, ⟨20, _⟩ => ⟨S256x512, .bf16⟩
  | .local _ .vmem, ⟨21, _⟩ => ⟨S1x128, .f32⟩
  | .local _ .vmem, ⟨22, _⟩ => ⟨S1x128, .f32⟩
  | .local _ .vmem, ⟨23, _⟩ => ⟨S544x128, .f32⟩
  | .local _ .vmem, ⟨24, _⟩ => ⟨S544x128, .f32⟩
  | .local _ .vmem, ⟨25, _⟩ => ⟨S544x128, .f32⟩
  | .local _ .vmem, ⟨26, _⟩ => ⟨S544x128, .f32⟩
  | .local _ .vmem, ⟨27, _⟩ => ⟨S544x128, .f32⟩
  | .local _ .vmem, ⟨28, _⟩ => ⟨S544x128, .f32⟩
  | .local _ .vmem, ⟨29, _⟩ => ⟨S544x1792, .bf16⟩
  | .local _ .vmem, ⟨30, _⟩ => ⟨S544x1792, .bf16⟩
  | .local _ .vmem, ⟨31, _⟩ => ⟨S544x384, .bf16⟩
  | .local _ .vmem, ⟨32, _⟩ => ⟨S544x384, .bf16⟩
  | .local _ .vmem, ⟨33, _⟩ => ⟨S544x256, .bf16⟩
  | .local _ .vmem, ⟨34, _⟩ => ⟨S544x256, .bf16⟩
  | .local _ .vmem, ⟨35, _⟩ => ⟨S544x1024, .bf16⟩
  | .local _ .vmem, ⟨36, _⟩ => ⟨S544x1024, .bf16⟩
  | .local _ .vmem, ⟨37, _⟩ => ⟨S544x1536, .bf16⟩
  | .local _ .vmem, ⟨38, _⟩ => ⟨S544x1536, .bf16⟩
  | .local _ .vmem, ⟨39, _⟩ => ⟨S1x896, .f32⟩
  | _, _ => ⟨S2x2064x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_c_0 : Ref sig .tc := ⟨.hbm, 17, rfl⟩
abbrev main_call1_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c_1 : Ref sig .tc := ⟨.hbm, 22, rfl⟩
abbrev main_call2_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_2 : Ref sig .tc := ⟨.hbm, 27, rfl⟩
abbrev main_call3_v0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_3 : Ref sig .tc := ⟨.hbm, 33, rfl⟩
abbrev main_call4_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_4 : Ref sig .tc := ⟨.hbm, 41, rfl⟩
abbrev main_call5_v0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_5 : Ref sig .tc := ⟨.hbm, 49, rfl⟩
abbrev main_call6_v0 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_call7_v0 : Ref sig .tc := ⟨.hbm, 56, rfl⟩
abbrev main_v27 : Ref sig .tc := ⟨.hbm, 57, rfl⟩
abbrev main_v28 : Ref sig .tc := ⟨.hbm, 58, rfl⟩
abbrev main_c_7 : Ref sig .tc := ⟨.hbm, 59, rfl⟩
abbrev main_call8_v0 : Ref sig .tc := ⟨.hbm, 60, rfl⟩
abbrev main_v29 : Ref sig .tc := ⟨.hbm, 61, rfl⟩
abbrev main_v30 : Ref sig .tc := ⟨.hbm, 62, rfl⟩
abbrev main_c_8 : Ref sig .tc := ⟨.hbm, 63, rfl⟩
abbrev main_call9_v0 : Ref sig .tc := ⟨.hbm, 64, rfl⟩
abbrev main_v31 : Ref sig .tc := ⟨.hbm, 65, rfl⟩
abbrev main_v32 : Ref sig .tc := ⟨.hbm, 66, rfl⟩
abbrev main_c_9 : Ref sig .tc := ⟨.hbm, 67, rfl⟩
abbrev main_call10_v0 : Ref sig .tc := ⟨.hbm, 68, rfl⟩
abbrev main_v33 : Ref sig .tc := ⟨.hbm, 69, rfl⟩
abbrev main_v34 : Ref sig .tc := ⟨.hbm, 70, rfl⟩
abbrev main_c_10 : Ref sig .tc := ⟨.hbm, 71, rfl⟩
abbrev main_call11_v0 : Ref sig .tc := ⟨.hbm, 72, rfl⟩
abbrev main_v35 : Ref sig .tc := ⟨.hbm, 73, rfl⟩
abbrev main_c_11 : Ref sig .tc := ⟨.hbm, 74, rfl⟩
abbrev main_call12_v0 : Ref sig .tc := ⟨.hbm, 75, rfl⟩
abbrev main_v36 : Ref sig .tc := ⟨.hbm, 76, rfl⟩
abbrev main_v37 : Ref sig .tc := ⟨.hbm, 77, rfl⟩
abbrev main_cst : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_12 : Ref sig .tc := ⟨.hbm, 82, rfl⟩
abbrev main_v41 : Ref sig .tc := ⟨.hbm, 83, rfl⟩
abbrev main_v42 : Ref sig .tc := ⟨.hbm, 84, rfl⟩
abbrev main_cst_13 : Ref sig .tc := ⟨.hbm, 85, rfl⟩
abbrev main_v43 : Ref sig .tc := ⟨.hbm, 86, rfl⟩
abbrev main_v44 : Ref sig .tc := ⟨.hbm, 87, rfl⟩
abbrev main_cst_14 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_15 : Ref sig .tc := ⟨.hbm, 98, rfl⟩
abbrev main_v54 : Ref sig .tc := ⟨.hbm, 99, rfl⟩
abbrev main_cst_16 : Ref sig .tc := ⟨.hbm, 100, rfl⟩
abbrev main_v55 : Ref sig .tc := ⟨.hbm, 101, rfl⟩
abbrev main_v56 : Ref sig .tc := ⟨.hbm, 102, rfl⟩
abbrev main_cst_17 : Ref sig .tc := ⟨.hbm, 103, rfl⟩
abbrev main_v57 : Ref sig .tc := ⟨.hbm, 104, rfl⟩
abbrev main_cst_18 : Ref sig .tc := ⟨.hbm, 105, rfl⟩
abbrev main_v58 : Ref sig .tc := ⟨.hbm, 106, rfl⟩
abbrev main_v59 : Ref sig .tc := ⟨.hbm, 107, rfl⟩
abbrev main_cst_19 : Ref sig .tc := ⟨.hbm, 108, rfl⟩
abbrev main_v60 : Ref sig .tc := ⟨.hbm, 109, rfl⟩
abbrev main_v61 : Ref sig .tc := ⟨.hbm, 110, rfl⟩
abbrev main_cst_20 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73_0 : Ref sig .tc := ⟨.hbm, 123, rfl⟩
abbrev main_v73_1 : Ref sig .tc := ⟨.hbm, 124, rfl⟩
abbrev main_v73_2 : Ref sig .tc := ⟨.hbm, 125, rfl⟩
abbrev main_v73_3 : Ref sig .tc := ⟨.hbm, 126, rfl⟩
abbrev main_v73_4 : Ref sig .tc := ⟨.hbm, 127, rfl⟩
abbrev main_v73_5 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v730 : BitVec 32 := Scalar.extui v0
  let c0_i32_198 : BitVec 32 := 0#32
  let v731 : BitVec 1 := Scalar.cmpi .ne v730 c0_i32_198
  v731

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v732 : BitVec 1 := Scalar.xori v0 v_true
  let v733 : BitVec 32 := Scalar.extui v732
  let c0_i32_199 : BitVec 32 := 0#32
  let v734 : BitVec 1 := Scalar.cmpi .ne v733 c0_i32_199
  v734

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S544x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S544x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S544x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S544x1792 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S544x384 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S544x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S544x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S544x1536 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S1x896 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== QkvBwdIdeal.lean ====
variable {F : FTy → Type} [FloatOps F] [Named F]
def κ : String → Option EReal := fun
  | "inv_384" => some ((1 / 384 : ℝ) : EReal)
  | "inv_96" => some ((1 / 96 : ℝ) : EReal)
  | _ => none
-- ==== QkvBwdRefIdeal.lean ====
abbrev S2x2064x384 : Shape := ⟨3, ![2, 2064, 384]⟩
abbrev S2x2064x256 : Shape := ⟨3, ![2, 2064, 256]⟩
abbrev S2x2064x32 : Shape := ⟨3, ![2, 2064, 32]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1x96 : Shape := ⟨2, ![1, 96]⟩
abbrev S2x8x2064x96 : Shape := ⟨4, ![2, 8, 2064, 96]⟩
abbrev S2x8x2064x64 : Shape := ⟨4, ![2, 8, 2064, 64]⟩
abbrev S2x2064x512 : Shape := ⟨3, ![2, 2064, 512]⟩
abbrev S2064 : Shape := ⟨1, ![2064]⟩
abbrev S384 : Shape := ⟨1, ![384]⟩
abbrev S_ : Shape := ⟨0, ![]⟩
abbrev S2x2064 : Shape := ⟨2, ![2, 2064]⟩
abbrev S2x2064x1 : Shape := ⟨3, ![2, 2064, 1]⟩
abbrev S1x1x384 : Shape := ⟨3, ![1, 1, 384]⟩
abbrev S256 : Shape := ⟨1, ![256]⟩
abbrev S1x1x256 : Shape := ⟨3, ![1, 1, 256]⟩
abbrev S384x768 : Shape := ⟨2, ![384, 768]⟩
abbrev S2x2064x768 : Shape := ⟨3, ![2, 2064, 768]⟩
abbrev S2x2064x8x96 : Shape := ⟨4, ![2, 2064, 8, 96]⟩
abbrev S256x1024 : Shape := ⟨2, ![256, 1024]⟩
abbrev S2x2064x1024 : Shape := ⟨3, ![2, 2064, 1024]⟩
abbrev S2x2064x8x128 : Shape := ⟨4, ![2, 2064, 8, 128]⟩
abbrev S2x2064x8x64 : Shape := ⟨4, ![2, 2064, 8, 64]⟩
abbrev S2x2064x1x32 : Shape := ⟨4, ![2, 2064, 1, 32]⟩
abbrev S2x2064x8x32 : Shape := ⟨4, ![2, 2064, 8, 32]⟩
abbrev S96 : Shape := ⟨1, ![96]⟩
abbrev S2x2064x8 : Shape := ⟨3, ![2, 2064, 8]⟩
abbrev S2x2064x8x1 : Shape := ⟨4, ![2, 2064, 8, 1]⟩
abbrev S1x1x1x96 : Shape := ⟨4, ![1, 1, 1, 96]⟩
abbrev S16 : Shape := ⟨1, ![16]⟩
abbrev S2064x1 : Shape := ⟨2, ![2064, 1]⟩
abbrev S1x16 : Shape := ⟨2, ![1, 16]⟩
abbrev S2064x16 : Shape := ⟨2, ![2064, 16]⟩
abbrev S1x2064x1x16 : Shape := ⟨4, ![1, 2064, 1, 16]⟩
abbrev S2x2064x8x16 : Shape := ⟨4, ![2, 2064, 8, 16]⟩
abbrev S2x2064x64 : Shape := ⟨3, ![2, 2064, 64]⟩
abbrev S2x2064x1792 : Shape := ⟨3, ![2, 2064, 1792]⟩
abbrev S2x2064x1536 : Shape := ⟨3, ![2, 2064, 1536]⟩
abbrev S2x112x1792 : Shape := ⟨3, ![2, 112, 1792]⟩
abbrev S2x2176x1792 : Shape := ⟨3, ![2, 2176, 1792]⟩
abbrev S4352x1792 : Shape := ⟨2, ![4352, 1792]⟩
abbrev S2x112x384 : Shape := ⟨3, ![2, 112, 384]⟩
abbrev S2x2176x384 : Shape := ⟨3, ![2, 2176, 384]⟩
abbrev S4352x384 : Shape := ⟨2, ![4352, 384]⟩
abbrev S2x112x256 : Shape := ⟨3, ![2, 112, 256]⟩
abbrev S2x2176x256 : Shape := ⟨3, ![2, 2176, 256]⟩
abbrev S4352x256 : Shape := ⟨2, ![4352, 256]⟩
abbrev S2x112x1024 : Shape := ⟨3, ![2, 112, 1024]⟩
abbrev S2x2176x1024 : Shape := ⟨3, ![2, 2176, 1024]⟩
abbrev S4352x1024 : Shape := ⟨2, ![4352, 1024]⟩
abbrev S2x112x1536 : Shape := ⟨3, ![2, 112, 1536]⟩
abbrev S2x2176x1536 : Shape := ⟨3, ![2, 2176, 1536]⟩
abbrev S4352x1536 : Shape := ⟨2, ![4352, 1536]⟩
abbrev S1x32 : Shape := ⟨2, ![1, 32]⟩
abbrev S1x128 : Shape := ⟨2, ![1, 128]⟩
abbrev S1x896 : Shape := ⟨2, ![1, 896]⟩

abbrev nBuf : Space → Nat
  | .hbm => 404
  | .vmem => 0
  | .smem => 0
  | _ => 0

abbrev hbmTy0_0 (i : Nat) : BufTy := match i % 128 with
  | 0 => ⟨S2x2064x384, .f32⟩
  | 1 => ⟨S2x2064x256, .f32⟩
  | 2 => ⟨S2x2064x32, .f32⟩
  | 3 => ⟨S1x384, .f32⟩
  | 4 => ⟨S1x384x768, .f32⟩
  | 5 => ⟨S1x256, .f32⟩
  | 6 => ⟨S1x256x1024, .f32⟩
  | 7 => ⟨S1x96, .f32⟩
  | 8 => ⟨S1x96, .f32⟩
  | 9 => ⟨S2x8x2064x96, .f32⟩
  | 10 => ⟨S2x8x2064x96, .f32⟩
  | 11 => ⟨S2x8x2064x64, .f32⟩
  | 12 => ⟨S2x2064x512, .f32⟩
  | 13 => ⟨S2x2064x512, .f32⟩
  | 14 => ⟨S2064, .f32⟩
  | 15 => ⟨S384, .f32⟩
  | 16 => ⟨S2x2064x384, .f32⟩
  | 17 => ⟨S_, .f32⟩
  | 18 => ⟨S2x2064, .f32⟩
  | 19 => ⟨S2x2064x1, .f32⟩
  | 20 => ⟨S_, .f32⟩
  | 21 => ⟨S2x2064x1, .f32⟩
  | 22 => ⟨S2x2064x1, .f32⟩
  | 23 => ⟨S_, .f32⟩
  | 24 => ⟨S2x2064x1, .f32⟩
  | 25 => ⟨S2x2064x1, .f32⟩
  | 26 => ⟨S2x2064x1, .f32⟩
  | 27 => ⟨S2x2064x1, .f32⟩
  | 28 => ⟨S_, .f32⟩
  | 29 => ⟨S2x2064x1, .f32⟩
  | 30 => ⟨S2x2064x1, .f32⟩
  | 31 => ⟨S2x2064x384, .f32⟩
  | 32 => ⟨S2x2064x384, .f32⟩
  | 33 => ⟨S1x1x384, .f32⟩
  | 34 => ⟨S2x2064x384, .f32⟩
  | 35 => ⟨S2x2064x384, .f32⟩
  | 36 => ⟨S256, .f32⟩
  | 37 => ⟨S2x2064x256, .f32⟩
  | 38 => ⟨S_, .f32⟩
  | 39 => ⟨S2x2064, .f32⟩
  | 40 => ⟨S2x2064x1, .f32⟩
  | 41 => ⟨S_, .f32⟩
  | 42 => ⟨S2x2064x1, .f32⟩
  | 43 => ⟨S2x2064x1, .f32⟩
  | 44 => ⟨S_, .f32⟩
  | 45 => ⟨S2x2064x1, .f32⟩
  | 46 => ⟨S2x2064x1, .f32⟩
  | 47 => ⟨S2x2064x1, .f32⟩
  | 48 => ⟨S2x2064x1, .f32⟩
  | 49 => ⟨S_, .f32⟩
  | 50 => ⟨S2x2064x1, .f32⟩
  | 51 => ⟨S2x2064x1, .f32⟩
  | 52 => ⟨S2x2064x256, .f32⟩
  | 53 => ⟨S2x2064x256, .f32⟩
  | 54 => ⟨S1x1x256, .f32⟩
  | 55 => ⟨S2x2064x256, .f32⟩
  | 56 => ⟨S2x2064x256, .f32⟩
  | 57 => ⟨S384x768, .f32⟩
  | 58 => ⟨S2x2064x768, .f32⟩
  | 59 => ⟨S2x2064x8x96, .f32⟩
  | 60 => ⟨S256x1024, .f32⟩
  | 61 => ⟨S2x2064x1024, .f32⟩
  | 62 => ⟨S2x2064x8x128, .f32⟩
  | 63 => ⟨S2x2064x8x64, .f32⟩
  | 64 => ⟨S2x2064x8x64, .f32⟩
  | 65 => ⟨S2x2064x1x32, .f32⟩
  | 66 => ⟨S2x2064x8x32, .f32⟩
  | 67 => ⟨S2x2064x8x96, .f32⟩
  | 68 => ⟨S96, .f32⟩
  | 69 => ⟨S2x2064x8x96, .f32⟩
  | 70 => ⟨S_, .f32⟩
  | 71 => ⟨S2x2064x8, .f32⟩
  | 72 => ⟨S2x2064x8x1, .f32⟩
  | 73 => ⟨S_, .f32⟩
  | 74 => ⟨S2x2064x8x1, .f32⟩
  | 75 => ⟨S2x2064x8x1, .f32⟩
  | 76 => ⟨S_, .f32⟩
  | 77 => ⟨S2x2064x8x1, .f32⟩
  | 78 => ⟨S2x2064x8x1, .f32⟩
  | 79 => ⟨S2x2064x8x1, .f32⟩
  | 80 => ⟨S2x2064x8x1, .f32⟩
  | 81 => ⟨S_, .f32⟩
  | 82 => ⟨S2x2064x8x1, .f32⟩
  | 83 => ⟨S2x2064x8x1, .f32⟩
  | 84 => ⟨S2x2064x8x96, .f32⟩
  | 85 => ⟨S2x2064x8x96, .f32⟩
  | 86 => ⟨S1x1x1x96, .f32⟩
  | 87 => ⟨S2x2064x8x96, .f32⟩
  | 88 => ⟨S2x2064x8x96, .f32⟩
  | 89 => ⟨S96, .f32⟩
  | 90 => ⟨S2x2064x8x96, .f32⟩
  | 91 => ⟨S_, .f32⟩
  | 92 => ⟨S2x2064x8, .f32⟩
  | 93 => ⟨S2x2064x8x1, .f32⟩
  | 94 => ⟨S_, .f32⟩
  | 95 => ⟨S2x2064x8x1, .f32⟩
  | 96 => ⟨S2x2064x8x1, .f32⟩
  | 97 => ⟨S_, .f32⟩
  | 98 => ⟨S2x2064x8x1, .f32⟩
  | 99 => ⟨S2x2064x8x1, .f32⟩
  | 100 => ⟨S2x2064x8x1, .f32⟩
  | 101 => ⟨S2x2064x8x1, .f32⟩
  | 102 => ⟨S_, .f32⟩
  | 103 => ⟨S2x2064x8x1, .f32⟩
  | 104 => ⟨S2x2064x8x1, .f32⟩
  | 105 => ⟨S2x2064x8x96, .f32⟩
  | 106 => ⟨S2x2064x8x96, .f32⟩
  | 107 => ⟨S1x1x1x96, .f32⟩
  | 108 => ⟨S2x2064x8x96, .f32⟩
  | 109 => ⟨S2x2064x8x96, .f32⟩
  | 110 => ⟨S2x2064x8x64, .f32⟩
  | 111 => ⟨S2x2064x8x32, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S2064x1, .f32⟩
  | 123 => ⟨S1x16, .f32⟩
  | 124 => ⟨S2064x16, .f32⟩
  | 125 => ⟨S2064x16, .f32⟩
  | 126 => ⟨S2064x16, .f32⟩
  | 127 => ⟨S2064x16, .f32⟩
  | _ => ⟨S2x2064x384, .f32⟩

abbrev hbmTy0_1 (i : Nat) : BufTy := match i % 128 with
  | 0 => ⟨S1x2064x1x16, .f32⟩
  | 1 => ⟨S2064x16, .f32⟩
  | 2 => ⟨S1x2064x1x16, .f32⟩
  | 3 => ⟨S2x2064x8x16, .f32⟩
  | 4 => ⟨S2x2064x8x16, .f32⟩
  | 5 => ⟨S2x2064x8x16, .f32⟩
  | 6 => ⟨S2x2064x8x16, .f32⟩
  | 7 => ⟨S2x2064x8x16, .f32⟩
  | 8 => ⟨S2x2064x8x16, .f32⟩
  | 9 => ⟨S2x2064x8x16, .f32⟩
  | 10 => ⟨S2x2064x8x16, .f32⟩
  | 11 => ⟨S2x2064x8x16, .f32⟩
  | 12 => ⟨S2x2064x8x16, .f32⟩
  | 13 => ⟨S2x2064x8x16, .f32⟩
  | 14 => ⟨S2x2064x8x16, .f32⟩
  | 15 => ⟨S2x2064x8x32, .f32⟩
  | 16 => ⟨S2x2064x8x96, .f32⟩
  | 17 => ⟨S2x2064x8x64, .f32⟩
  | 18 => ⟨S2x2064x8x32, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S2064x1, .f32⟩
  | 30 => ⟨S1x16, .f32⟩
  | 31 => ⟨S2064x16, .f32⟩
  | 32 => ⟨S2064x16, .f32⟩
  | 33 => ⟨S2064x16, .f32⟩
  | 34 => ⟨S2064x16, .f32⟩
  | 35 => ⟨S1x2064x1x16, .f32⟩
  | 36 => ⟨S2064x16, .f32⟩
  | 37 => ⟨S1x2064x1x16, .f32⟩
  | 38 => ⟨S2x2064x8x16, .f32⟩
  | 39 => ⟨S2x2064x8x16, .f32⟩
  | 40 => ⟨S2x2064x8x16, .f32⟩
  | 41 => ⟨S2x2064x8x16, .f32⟩
  | 42 => ⟨S2x2064x8x16, .f32⟩
  | 43 => ⟨S2x2064x8x16, .f32⟩
  | 44 => ⟨S2x2064x8x16, .f32⟩
  | 45 => ⟨S2x2064x8x16, .f32⟩
  | 46 => ⟨S2x2064x8x16, .f32⟩
  | 47 => ⟨S2x2064x8x16, .f32⟩
  | 48 => ⟨S2x2064x8x16, .f32⟩
  | 49 => ⟨S2x2064x8x16, .f32⟩
  | 50 => ⟨S2x2064x8x32, .f32⟩
  | 51 => ⟨S2x2064x8x96, .f32⟩
  | 52 => ⟨S2x8x2064x96, .f32⟩
  | 53 => ⟨S2x8x2064x96, .f32⟩
  | 54 => ⟨S2x8x2064x64, .f32⟩
  | 55 => ⟨S2x2064x8x64, .f32⟩
  | 56 => ⟨S2x2064x8x96, .f32⟩
  | 57 => ⟨S2x2064x8x96, .f32⟩
  | 58 => ⟨S2x2064x8x64, .f32⟩
  | 59 => ⟨S2x2064x8x32, .f32⟩
  | 60 => ⟨S2x2064x8x16, .f32⟩
  | 61 => ⟨S2x2064x8x16, .f32⟩
  | 62 => ⟨S2x2064x8x16, .f32⟩
  | 63 => ⟨S2x2064x8x16, .f32⟩
  | 64 => ⟨S2x2064x8x16, .f32⟩
  | 65 => ⟨S2x2064x8x16, .f32⟩
  | 66 => ⟨S2x2064x8x16, .f32⟩
  | 67 => ⟨S2x2064x8x16, .f32⟩
  | 68 => ⟨S2x2064x8x16, .f32⟩
  | 69 => ⟨S2x2064x8x16, .f32⟩
  | 70 => ⟨S2x2064x8x16, .f32⟩
  | 71 => ⟨S2x2064x8x16, .f32⟩
  | 72 => ⟨S2x2064x8x16, .f32⟩
  | 73 => ⟨S_, .f32⟩
  | 74 => ⟨S2x2064x8x32, .f32⟩
  | 75 => ⟨S_, .f32⟩
  | 76 => ⟨S2x2064x8x32, .f32⟩
  | 77 => ⟨S2x2064x8x32, .f32⟩
  | 78 => ⟨S_, .f32⟩
  | 79 => ⟨S2x2064x8x96, .f32⟩
  | 80 => ⟨S_, .f32⟩
  | 81 => ⟨S2x2064x8x96, .f32⟩
  | 82 => ⟨S2x2064x8x96, .f32⟩
  | 83 => ⟨S2x2064x8x64, .f32⟩
  | 84 => ⟨S2x2064x8x32, .f32⟩
  | 85 => ⟨S2x2064x8x16, .f32⟩
  | 86 => ⟨S2x2064x8x16, .f32⟩
  | 87 => ⟨S2x2064x8x16, .f32⟩
  | 88 => ⟨S2x2064x8x16, .f32⟩
  | 89 => ⟨S2x2064x8x16, .f32⟩
  | 90 => ⟨S2x2064x8x16, .f32⟩
  | 91 => ⟨S2x2064x8x16, .f32⟩
  | 92 => ⟨S2x2064x8x16, .f32⟩
  | 93 => ⟨S2x2064x8x16, .f32⟩
  | 94 => ⟨S2x2064x8x16, .f32⟩
  | 95 => ⟨S2x2064x8x16, .f32⟩
  | 96 => ⟨S2x2064x8x16, .f32⟩
  | 97 => ⟨S2x2064x8x16, .f32⟩
  | 98 => ⟨S_, .f32⟩
  | 99 => ⟨S2x2064x8x32, .f32⟩
  | 100 => ⟨S_, .f32⟩
  | 101 => ⟨S2x2064x8x32, .f32⟩
  | 102 => ⟨S2x2064x8x32, .f32⟩
  | 103 => ⟨S_, .f32⟩
  | 104 => ⟨S2x2064x8x96, .f32⟩
  | 105 => ⟨S_, .f32⟩
  | 106 => ⟨S2x2064x8x96, .f32⟩
  | 107 => ⟨S2x2064x8x96, .f32⟩
  | 108 => ⟨S2x2064x8x96, .f32⟩
  | 109 => ⟨S_, .f32⟩
  | 110 => ⟨S96, .f32⟩
  | 111 => ⟨S1x1x1x96, .f32⟩
  | 112 => ⟨S2x2064x8x96, .f32⟩
  | 113 => ⟨S2x2064x8x96, .f32⟩
  | 114 => ⟨S_, .f32⟩
  | 115 => ⟨S96, .f32⟩
  | 116 => ⟨S2x2064x8x96, .f32⟩
  | 117 => ⟨S_, .f32⟩
  | 118 => ⟨S2x2064x8, .f32⟩
  | 119 => ⟨S2x2064x8x1, .f32⟩
  | 120 => ⟨S2x2064x8x96, .f32⟩
  | 121 => ⟨S2x2064x8x96, .f32⟩
  | 122 => ⟨S2x2064x8x1, .f32⟩
  | 123 => ⟨S_, .f32⟩
  | 124 => ⟨S2x2064x8x1, .f32⟩
  | 125 => ⟨S2x2064x8x1, .f32⟩
  | 126 => ⟨S_, .f32⟩
  | 127 => ⟨S2x2064x8, .f32⟩
  | _ => ⟨S2x2064x384, .f32⟩

abbrev hbmTy0_2 (i : Nat) : BufTy := match i % 128 with
  | 0 => ⟨S2x2064x8x96, .f32⟩
  | 1 => ⟨S2x2064x8x96, .f32⟩
  | 2 => ⟨S2x2064x8x96, .f32⟩
  | 3 => ⟨S2x2064x8x96, .f32⟩
  | 4 => ⟨S2x2064x8x96, .f32⟩
  | 5 => ⟨S1x96, .f32⟩
  | 6 => ⟨S2x2064x8x96, .f32⟩
  | 7 => ⟨S_, .f32⟩
  | 8 => ⟨S96, .f32⟩
  | 9 => ⟨S1x1x1x96, .f32⟩
  | 10 => ⟨S2x2064x8x96, .f32⟩
  | 11 => ⟨S2x2064x8x96, .f32⟩
  | 12 => ⟨S_, .f32⟩
  | 13 => ⟨S96, .f32⟩
  | 14 => ⟨S2x2064x8x96, .f32⟩
  | 15 => ⟨S_, .f32⟩
  | 16 => ⟨S2x2064x8, .f32⟩
  | 17 => ⟨S2x2064x8x1, .f32⟩
  | 18 => ⟨S2x2064x8x96, .f32⟩
  | 19 => ⟨S2x2064x8x96, .f32⟩
  | 20 => ⟨S2x2064x8x1, .f32⟩
  | 21 => ⟨S_, .f32⟩
  | 22 => ⟨S2x2064x8x1, .f32⟩
  | 23 => ⟨S2x2064x8x1, .f32⟩
  | 24 => ⟨S_, .f32⟩
  | 25 => ⟨S2x2064x8, .f32⟩
  | 26 => ⟨S2x2064x8x96, .f32⟩
  | 27 => ⟨S2x2064x8x96, .f32⟩
  | 28 => ⟨S2x2064x8x96, .f32⟩
  | 29 => ⟨S2x2064x8x96, .f32⟩
  | 30 => ⟨S2x2064x8x96, .f32⟩
  | 31 => ⟨S1x96, .f32⟩
  | 32 => ⟨S2x2064x8x64, .f32⟩
  | 33 => ⟨S2x2064x8x32, .f32⟩
  | 34 => ⟨S_, .f32⟩
  | 35 => ⟨S2x2064x32, .f32⟩
  | 36 => ⟨S2x2064x1x32, .f32⟩
  | 37 => ⟨S_, .f32⟩
  | 38 => ⟨S2x2064x32, .f32⟩
  | 39 => ⟨S_, .f32⟩
  | 40 => ⟨S2x2064x8x128, .f32⟩
  | 41 => ⟨S_, .f32⟩
  | 42 => ⟨S2x2064x8x128, .f32⟩
  | 43 => ⟨S2x2064x8x128, .f32⟩
  | 44 => ⟨S2x2064x1024, .f32⟩
  | 45 => ⟨S2x2064x256, .f32⟩
  | 46 => ⟨S2x2064x768, .f32⟩
  | 47 => ⟨S2x2064x384, .f32⟩
  | 48 => ⟨S2x2064x256, .f32⟩
  | 49 => ⟨S_, .f32⟩
  | 50 => ⟨S256, .f32⟩
  | 51 => ⟨S1x1x256, .f32⟩
  | 52 => ⟨S2x2064x256, .f32⟩
  | 53 => ⟨S2x2064x256, .f32⟩
  | 54 => ⟨S_, .f32⟩
  | 55 => ⟨S256, .f32⟩
  | 56 => ⟨S2x2064x256, .f32⟩
  | 57 => ⟨S_, .f32⟩
  | 58 => ⟨S2x2064, .f32⟩
  | 59 => ⟨S2x2064x1, .f32⟩
  | 60 => ⟨S2x2064x256, .f32⟩
  | 61 => ⟨S2x2064x256, .f32⟩
  | 62 => ⟨S2x2064x1, .f32⟩
  | 63 => ⟨S_, .f32⟩
  | 64 => ⟨S2x2064x1, .f32⟩
  | 65 => ⟨S2x2064x1, .f32⟩
  | 66 => ⟨S_, .f32⟩
  | 67 => ⟨S2x2064, .f32⟩
  | 68 => ⟨S2x2064x256, .f32⟩
  | 69 => ⟨S2x2064x256, .f32⟩
  | 70 => ⟨S2x2064x256, .f32⟩
  | 71 => ⟨S2x2064x256, .f32⟩
  | 72 => ⟨S2x2064x256, .f32⟩
  | 73 => ⟨S1x256, .f32⟩
  | 74 => ⟨S2x2064x384, .f32⟩
  | 75 => ⟨S_, .f32⟩
  | 76 => ⟨S384, .f32⟩
  | 77 => ⟨S1x1x384, .f32⟩
  | 78 => ⟨S2x2064x384, .f32⟩
  | 79 => ⟨S2x2064x384, .f32⟩
  | 80 => ⟨S_, .f32⟩
  | 81 => ⟨S384, .f32⟩
  | 82 => ⟨S2x2064x384, .f32⟩
  | 83 => ⟨S_, .f32⟩
  | 84 => ⟨S2x2064, .f32⟩
  | 85 => ⟨S2x2064x1, .f32⟩
  | 86 => ⟨S2x2064x384, .f32⟩
  | 87 => ⟨S2x2064x384, .f32⟩
  | 88 => ⟨S2x2064x1, .f32⟩
  | 89 => ⟨S_, .f32⟩
  | 90 => ⟨S2x2064x1, .f32⟩
  | 91 => ⟨S2x2064x1, .f32⟩
  | 92 => ⟨S_, .f32⟩
  | 93 => ⟨S2x2064, .f32⟩
  | 94 => ⟨S2x2064x384, .f32⟩
  | 95 => ⟨S2x2064x384, .f32⟩
  | 96 => ⟨S2x2064x384, .f32⟩
  | 97 => ⟨S2x2064x384, .f32⟩
  | 98 => ⟨S2x2064x384, .f32⟩
  | 99 => ⟨S1x384, .f32⟩
  | 100 => ⟨S_, .f32⟩
  | 101 => ⟨S2x2064x64, .f32⟩
  | 102 => ⟨S_, .f32⟩
  | 103 => ⟨S2x2064x32, .f32⟩
  | 104 => ⟨S2x2064x64, .f32⟩
  | 105 => ⟨S2x2064x1792, .f32⟩
  | 106 => ⟨S_, .f32⟩
  | 107 => ⟨S2x2064x8x32, .f32⟩
  | 108 => ⟨S2x2064x8x128, .f32⟩
  | 109 => ⟨S2x2064x1024, .f32⟩
  | 110 => ⟨S2x2064x512, .f32⟩
  | 111 => ⟨S2x2064x1536, .f32⟩
  | 112 => ⟨S_, .f32⟩
  | 113 => ⟨S2x112x1792, .f32⟩
  | 114 => ⟨S2x2176x1792, .f32⟩
  | 115 => ⟨S4352x1792, .f32⟩
  | 116 => ⟨S4352x1792, .bf16⟩
  | 117 => ⟨S_, .f32⟩
  | 118 => ⟨S2x112x384, .f32⟩
  | 119 => ⟨S2x2176x384, .f32⟩
  | 120 => ⟨S4352x384, .f32⟩
  | 121 => ⟨S4352x384, .bf16⟩
  | 122 => ⟨S_, .f32⟩
  | 123 => ⟨S2x112x256, .f32⟩
  | 124 => ⟨S2x2176x256, .f32⟩
  | 125 => ⟨S4352x256, .f32⟩
  | 126 => ⟨S4352x256, .bf16⟩
  | 127 => ⟨S_, .f32⟩
  | _ => ⟨S2x2064x384, .f32⟩

abbrev hbmTy0_3 (i : Nat) : BufTy := match i % 128 with
  | 0 => ⟨S2x2064x8x32, .f32⟩
  | 1 => ⟨S2x2064x8x128, .f32⟩
  | 2 => ⟨S2x2064x1024, .f32⟩
  | 3 => ⟨S_, .f32⟩
  | 4 => ⟨S2x112x1024, .f32⟩
  | 5 => ⟨S2x2176x1024, .f32⟩
  | 6 => ⟨S4352x1024, .f32⟩
  | 7 => ⟨S4352x1024, .bf16⟩
  | 8 => ⟨S_, .f32⟩
  | 9 => ⟨S2x112x1536, .f32⟩
  | 10 => ⟨S2x2176x1536, .f32⟩
  | 11 => ⟨S4352x1536, .f32⟩
  | 12 => ⟨S4352x1536, .bf16⟩
  | 13 => ⟨S_, .f32⟩
  | 14 => ⟨S1x32, .f32⟩
  | 15 => ⟨S1x128, .f32⟩
  | 16 => ⟨S_, .f32⟩
  | 17 => ⟨S1x32, .f32⟩
  | 18 => ⟨S1x128, .f32⟩
  | 19 => ⟨S1x896, .f32⟩
  | _ => ⟨S2x2064x384, .f32⟩

abbrev hbmTy (i : Nat) : BufTy := match i / 128 with
  | 0 => hbmTy0_0 i
  | 1 => hbmTy0_1 i
  | 2 => hbmTy0_2 i
  | 3 => hbmTy0_3 i
  | _ => ⟨S2x2064x384, .f32⟩

abbrev bufTy : (tb : Table) → Fin (tcTables nBuf tb) → BufTy
  | .hbm, ⟨i, _⟩ => hbmTy i
  | _, _ => ⟨S2x2064x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_15 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_18 : Ref sig .tc := ⟨.hbm, 148, rfl⟩
abbrev main_v115 : Ref sig .tc := ⟨.hbm, 149, rfl⟩
abbrev main_v116 : Ref sig .tc := ⟨.hbm, 150, rfl⟩
abbrev main_cst_19 : Ref sig .tc := ⟨.hbm, 151, rfl⟩
abbrev main_v117 : Ref sig .tc := ⟨.hbm, 152, rfl⟩
abbrev main_v118 : Ref sig .tc := ⟨.hbm, 153, rfl⟩
abbrev main_cst_20 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_21 : Ref sig .tc := ⟨.hbm, 201, rfl⟩
abbrev main_v165 : Ref sig .tc := ⟨.hbm, 202, rfl⟩
abbrev main_cst_22 : Ref sig .tc := ⟨.hbm, 203, rfl⟩
abbrev main_v166 : Ref sig .tc := ⟨.hbm, 204, rfl⟩
abbrev main_v167 : Ref sig .tc := ⟨.hbm, 205, rfl⟩
abbrev main_cst_23 : Ref sig .tc := ⟨.hbm, 206, rfl⟩
abbrev main_v168 : Ref sig .tc := ⟨.hbm, 207, rfl⟩
abbrev main_cst_24 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_cst_25 : Ref sig .tc := ⟨.hbm, 226, rfl⟩
abbrev main_v186 : Ref sig .tc := ⟨.hbm, 227, rfl⟩
abbrev main_cst_26 : Ref sig .tc := ⟨.hbm, 228, rfl⟩
abbrev main_v187 : Ref sig .tc := ⟨.hbm, 229, rfl⟩
abbrev main_v188 : Ref sig .tc := ⟨.hbm, 230, rfl⟩
abbrev main_cst_27 : Ref sig .tc := ⟨.hbm, 231, rfl⟩
abbrev main_v189 : Ref sig .tc := ⟨.hbm, 232, rfl⟩
abbrev main_cst_28 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_cst_29 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_cst_30 : Ref sig .tc := ⟨.hbm, 242, rfl⟩
abbrev main_v197 : Ref sig .tc := ⟨.hbm, 243, rfl⟩
abbrev main_v198 : Ref sig .tc := ⟨.hbm, 244, rfl⟩
abbrev main_cst_31 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_cst_32 : Ref sig .tc := ⟨.hbm, 251, rfl⟩
abbrev main_v204 : Ref sig .tc := ⟨.hbm, 252, rfl⟩
abbrev main_v205 : Ref sig .tc := ⟨.hbm, 253, rfl⟩
abbrev main_cst_33 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_cst_34 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_cst_35 : Ref sig .tc := ⟨.hbm, 268, rfl⟩
abbrev main_v218 : Ref sig .tc := ⟨.hbm, 269, rfl⟩
abbrev main_v219 : Ref sig .tc := ⟨.hbm, 270, rfl⟩
abbrev main_cst_36 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_cst_37 : Ref sig .tc := ⟨.hbm, 277, rfl⟩
abbrev main_v225 : Ref sig .tc := ⟨.hbm, 278, rfl⟩
abbrev main_v226 : Ref sig .tc := ⟨.hbm, 279, rfl⟩
abbrev main_cst_38 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_cst_39 : Ref sig .tc := ⟨.hbm, 290, rfl⟩
abbrev main_v236 : Ref sig .tc := ⟨.hbm, 291, rfl⟩
abbrev main_v237 : Ref sig .tc := ⟨.hbm, 292, rfl⟩
abbrev main_cst_40 : Ref sig .tc := ⟨.hbm, 293, rfl⟩
abbrev main_v238 : Ref sig .tc := ⟨.hbm, 294, rfl⟩
abbrev main_cst_41 : Ref sig .tc := ⟨.hbm, 295, rfl⟩
abbrev main_v239 : Ref sig .tc := ⟨.hbm, 296, rfl⟩
abbrev main_cst_42 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_cst_43 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_cst_44 : Ref sig .tc := ⟨.hbm, 310, rfl⟩
abbrev main_v251 : Ref sig .tc := ⟨.hbm, 311, rfl⟩
abbrev main_v252 : Ref sig .tc := ⟨.hbm, 312, rfl⟩
abbrev main_cst_45 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_cst_46 : Ref sig .tc := ⟨.hbm, 319, rfl⟩
abbrev main_v258 : Ref sig .tc := ⟨.hbm, 320, rfl⟩
abbrev main_v259 : Ref sig .tc := ⟨.hbm, 321, rfl⟩
abbrev main_cst_47 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_cst_48 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_cst_49 : Ref sig .tc := ⟨.hbm, 336, rfl⟩
abbrev main_v272 : Ref sig .tc := ⟨.hbm, 337, rfl⟩
abbrev main_v273 : Ref sig .tc := ⟨.hbm, 338, rfl⟩
abbrev main_cst_50 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_cst_51 : Ref sig .tc := ⟨.hbm, 345, rfl⟩
abbrev main_v279 : Ref sig .tc := ⟨.hbm, 346, rfl⟩
abbrev main_v280 : Ref sig .tc := ⟨.hbm, 347, rfl⟩
abbrev main_cst_52 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_cst_53 : Ref sig .tc := ⟨.hbm, 356, rfl⟩
abbrev main_v288 : Ref sig .tc := ⟨.hbm, 357, rfl⟩
abbrev main_cst_54 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_cst_55 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_cst_56 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_cst_57 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_v304 : Ref sig .tc := ⟨.hbm, 377, rfl⟩
abbrev main_cst_58 : Ref sig .tc := ⟨.hbm, 378, rfl⟩
abbrev main_v305 : Ref sig .tc := ⟨.hbm, 379, rfl⟩
abbrev main_v306 : Ref sig .tc := ⟨.hbm, 380, rfl⟩
abbrev main_v307 : Ref sig .tc := ⟨.hbm, 381, rfl⟩
abbrev main_v308 : Ref sig .tc := ⟨.hbm, 382, rfl⟩
abbrev main_cst_59 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_cst_60 : Ref sig .tc := ⟨.hbm, 387, rfl⟩
abbrev main_v312 : Ref sig .tc := ⟨.hbm, 388, rfl⟩
abbrev main_v313 : Ref sig .tc := ⟨.hbm, 389, rfl⟩
abbrev main_v314 : Ref sig .tc := ⟨.hbm, 390, rfl⟩
abbrev main_v315 : Ref sig .tc := ⟨.hbm, 391, rfl⟩
abbrev main_cst_61 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_v319 : Ref sig .tc := ⟨.hbm, 396, rfl⟩
abbrev main_cst_62 : Ref sig .tc := ⟨.hbm, 397, rfl⟩
abbrev main_v320 : Ref sig .tc := ⟨.hbm, 398, rfl⟩
abbrev main_v321 : Ref sig .tc := ⟨.hbm, 399, rfl⟩
abbrev main_cst_63 : Ref sig .tc := ⟨.hbm, 400, rfl⟩
abbrev main_v322 : Ref sig .tc := ⟨.hbm, 401, rfl⟩
abbrev main_v323 : Ref sig .tc := ⟨.hbm, 402, rfl⟩
abbrev main_v324 : Ref sig .tc := ⟨.hbm, 403, rfl⟩

abbrev nD : Nat := 1
abbrev τ : Topo := Topo.v7x

variable {F : FTy → Type} [FloatOps F]
-- ==== Proof.Common.lean ====
/- What the calls' proofs share: finite arrays as real ones, the words of the constants, sums over split ranges, and a
   host sum over the leading axes. Nothing here speaks of a program. -/
module

public import Idealize.ShloMosaic.Lib.Pointwise
public import Idealize.ShloMosaic.Lib.ReduceAll
public import Idealize.ShloMosaic.Lib.Claim

@[expose] public section

set_option maxRecDepth 16384

noncomputable section

namespace Cert.Common

open Idealize.ShloMosaic

/-! ### Finite arrays -/

/-- An extended real whose absolute value is below +∞ is a real. -/
theorem exists_real_of_abs_lt {x : Ideal .f32} (h : FloatOps.absf x < (⊤ : EReal)) : ∃ r : ℝ, x = (r : EReal) := by
  have h : max x (-x) < (⊤ : EReal) := h
  revert h
  refine EReal.rec (motive := fun x : EReal => max x (-x) < ⊤ → ∃ r : ℝ, x = (r : EReal)) ?_ ?_ ?_ x
  · simp
  · exact fun r _ => ⟨r, rfl⟩
  · simp

instance : Subsingleton ((⟨0, ![]⟩ : Shape).Idx) := ⟨fun a b => funext fun i => i.elim0⟩

theorem inf_word : Ideal.ofBits FTy.f32 0x7F800000#32 = ⊤ := by
  simp [Ideal.ofBits, Ideal.ieee]

/-- `jnp.all(jnp.abs(x) < inf)`, read back: the array is one of reals. -/
theorem finite_of_all {s : Shape} {axes : List (Fin s.rank)} (x : FVec Ideal s .f32) (hb) (h : s.ReducesTo axes ⟨0, ![]⟩)
    (hu) (j) (e : Host.reduce IntOp.andi (cmpf .olt (Host.absf x)
      (broadcastInDim s ![] hb (constant (F := Ideal) ⟨0, ![]⟩ .f32 0x7F800000#32))) (constantI ⟨0, ![]⟩ 1 1#1) h hu j = 1#1) :
    ∃ r : s.Idx → ℝ, x = fun i => (r i : EReal) := by
  have H : ∀ i, ∃ r : ℝ, x i = (r : EReal) := fun i => by
    have := Host.reduce_andi_all _ _ h hu j e i
    pointwise at this
    refine exists_real_of_abs_lt ?_
    rw [← inf_word]
    by_contra hc
    rw [decide_eq_false hc] at this
    exact absurd this (by decide)
  choose r hr using H
  exact ⟨r, funext hr⟩

/-! ### The words of the constants -/

theorem word_zero : Ideal.ofBits FTy.f32 0#32 = ((0 : ℝ) : EReal) := by
  simp [Ideal.ofBits, Ideal.ieee]
theorem word_one : Ideal.ofBits FTy.f32 1065353216#32 = ((1 : ℝ) : EReal) := by
  simp [Ideal.ofBits, Ideal.ieee, -EReal.coe_mul]; norm_num
theorem word_inv_1024 : Ideal.ofBits FTy.f32 981467136#32 = ((1 / 1024 : ℝ) : EReal) := by
  simp [Ideal.ofBits, Ideal.ieee, -EReal.coe_mul]; norm_num
theorem word_1024 : Ideal.ofBits FTy.f32 1149239296#32 = ((1024 : ℝ) : EReal) := by
  simp [Ideal.ofBits, Ideal.ieee, -EReal.coe_mul]; norm_num
theorem word_neg_half : Ideal.ofBits FTy.f32 3204448256#32 = ((-1 / 2 : ℝ) : EReal) := by
  simp [Ideal.ofBits, Ideal.ieee, -EReal.coe_mul]; norm_num
/-- The small number the norms add, as its word has it. -/
def eps : ℝ := (8796093 : ℝ) / 2 ^ 43
theorem eps_pos : 0 < eps := by unfold eps; positivity
theorem word_eps : Ideal.ofBits FTy.f32 897988541#32 = (eps : EReal) := by
  simp [Ideal.ofBits, Ideal.ieee, -EReal.coe_mul, eps]; norm_num
theorem zero_int : (FloatOps.sitofp FTy.f32 0#32 : Ideal .f32) = (0 : EReal) := by
  show (((0#32 : BitVec 32).toInt : ℝ) : EReal) = 0
  simp

theorem rsqrt_pos {v : ℝ} (h : 0 < v) : Ideal.rsqrt (v : EReal) = (((Real.sqrt v)⁻¹ : ℝ) : EReal) := by
  rw [Ideal.rsqrt_coe, if_neg (not_lt.2 h.le), if_neg h.ne']

/-- A sum of reals, cast. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The norm's row factor of a real row: one over the root of its mean square and the small number. -/
theorem mean_pos {n : ℕ} (h : Fin n → ℝ) {a : ℝ} (ha : 0 ≤ a) : 0 < (∑ x, h x * h x) * a + eps :=
  add_pos_of_nonneg_of_pos (mul_nonneg (Finset.sum_nonneg fun x _ => mul_self_nonneg _) ha) eps_pos

/-! ### A host sum over the two leading axes of three -/

section r3_a0a1
variable {n0 n1 n2 : Nat} {t : Shape}

theorem rank_r3 (h : (⟨3, ![n0, n1, n2]⟩ : Shape).ReducesTo [0, 1] t) : t.rank = 1 := h.1
theorem lt_r3 (h : (⟨3, ![n0, n1, n2]⟩ : Shape).ReducesTo [0, 1] t) : 0 < t.rank := rank_r3 h ▸ (by decide)
theorem size_r3 (h : (⟨3, ![n0, n1, n2]⟩ : Shape).ReducesTo [0, 1] t) : t.size ⟨0, lt_r3 h⟩ = n2 := h.2 ⟨0, lt_r3 h⟩

theorem fiber_r3 (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 ⟨(j ⟨0, lt_r3 h⟩).val, Shape.coordLt (j ⟨0, lt_r3 h⟩) (size_r3 h)⟩ = i := by
  constructor
  · intro e
    refine ⟨⟨i 0, i 1⟩, ?_⟩
    funext a; apply Fin.ext
    match a with
    | ⟨0, _⟩ => rfl
    | ⟨1, _⟩ => rfl
    | ⟨2, _⟩ => exact (congrArg Fin.val (congrFun e ⟨0, lt_r3 h⟩)).symm
  · rintro ⟨k, rfl⟩
    funext b
    apply Fin.ext
    match b with
    | ⟨0, _⟩ => rfl
    | ⟨_ + 1, hb⟩ => exact absurd hb (by have := rank_r3 h; omega)

/-- The host's sum over the two leading axes of a rank-3 array, at `j`. -/
theorem hostReduceAdd_r3 (h : (⟨3, ![n0, n1, n2]⟩ : Shape).ReducesTo [0, 1] t) (v : (⟨3, ![n0, n1, n2]⟩ : Shape).Idx → EReal) (init : EReal)
    (j : t.Idx) :
    Ideal.hostReduceAdd h v init j = init + ∑ a : Fin n0, ∑ b : Fin n1, v (ix3 a b ⟨(j ⟨0, lt_r3 h⟩).val, Shape.coordLt (j ⟨0, lt_r3 h⟩) (size_r3 h)⟩) := by
  show init + ∑ i ∈ Finset.univ.filter (fun i => h.drop i = j), v i = _
  rw [Finset.sum_filter_eq_sum_of_fiber _ (fun k : Fin n0 × Fin n1 => ix3 k.1 k.2 ⟨(j ⟨0, lt_r3 h⟩).val, Shape.coordLt (j ⟨0, lt_r3 h⟩) (size_r3 h)⟩)
    (fun _ _ e => Prod.ext (congrFun e 0) (congrFun e 1)) (fiber_r3 h j) v, Fintype.sum_prod_type]

end r3_a0a1

/-! ### Sums over padded rows -/

/-- Two batches of 2176 rows, the first 112 of each zero: the sum over the 17 blocks of 256 rows is the one over the
    2064 true rows of each batch. -/
theorem sum_rows {M : Type*} [AddCommMonoid M] (f : ℕ → M) (hz : ∀ r, r % 2176 < 112 → f r = 0) :
    ∑ t : Fin 17, ∑ i : Fin 256, f (256 * t.val + i.val) = ∑ b : Fin 2, ∑ s : Fin 2064, f (2176 * b.val + (112 + s.val)) := by
  have e1 : ∑ r : Fin 4352, f r.val = ∑ t : Fin 17, ∑ i : Fin 256, f (256 * t.val + i.val) := by
    rw [Fin.sum_univ_tiles 17 256 rfl (fun r : Fin 4352 => f r.val)]
    simp only [Nat.mul_comm]
  have e2 : ∑ r : Fin 4352, f r.val = ∑ b : Fin 2, ∑ i : Fin 2176, f (2176 * b.val + i.val) := by
    rw [Fin.sum_univ_tiles 2 2176 rfl (fun r : Fin 4352 => f r.val)]
    simp only [Nat.mul_comm]
  rw [← e1, e2]
  refine Finset.sum_congr rfl fun b _ => ?_
  rw [Fin.sum_univ_two_halves 112 2064 rfl (fun i : Fin 2176 => f (2176 * b.val + i.val))]
  simp only
  rw [Finset.sum_eq_zero, zero_add]
  intro k _
  exact hz _ (by have := k.isLt; omega)

end Cert.Common

end
-- ==== Proof.InValue.lean ====
/- The input projection's backward call: what its two result arrays hold after the run, as functions of the
   arrays the call is entered with. -/
module

public import proofs.«01_k».proof.Proof.Gen.InBwdIdeal.Value
public import Idealize.ShloMosaic.Lib.Pipeline.ValueKit
public import Idealize.ShloMosaic.Lib.Pointwise
public import Idealize.ShloMosaic.Lib.Claim

@[expose] public section

set_option maxRecDepth 16384

noncomputable section

namespace Cert.InBwdIdeal.Value

open Cert.InBwdIdeal Cert.InBwdIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] :=
  (by decide +kernel : ∀ t : Fin grid0.N, _)

/-- Array row of row `y` of block `t`. -/
theorem row_lt (t : Fin cfg0.N) (y : Fin 256) : 256 * t.val + y.val < 4352 := by
  have hN : cfg0.N = 17 := N_0
  have := t.isLt
  have := y.isLt
  omega

theorem blk0 (c : Dev nD) (t : Fin cfg0.N) (y : Fin 256) (x : Fin 1792) :
    iblk m c 0 t (ix2 y x) = V m c main_v17 (ix2 ⟨256 * t.val + y.val, row_lt t y⟩ x) := by
  blk_ext [iblk, V, idx t]
theorem blk1 (c : Dev nD) (t : Fin cfg0.N) (y : Fin 256) (x : Fin 1024) :
    iblk m c 1 t (ix2 y x) = V m c main_v19 (ix2 ⟨256 * t.val + y.val, row_lt t y⟩ x) := by
  blk_ext [iblk, V, idx t]
theorem blk2 (c : Dev nD) (t : Fin cfg0.N) (y : Fin 256) (x : Fin 1024) :
    iblk m c 2 t (ix2 y x) = V m c main_v21 (ix2 ⟨256 * t.val + y.val, row_lt t y⟩ x) := by
  blk_ext [iblk, V, idx t]
theorem blk3 (c : Dev nD) (t : Fin cfg0.N) (x : Fin 1024) : iblk m c 3 t (ix2 0 x) = V m c main_arg1 (ix2 0 x) := by
  blk_ext [iblk, V, idx t]
theorem blk4 (c : Dev nD) (t : Fin cfg0.N) (j : Fin 1792) (x : Fin 1024) : iblk m c 4 t (ix2 j x) = V m c main_v8 (ix2 j x) := by
  blk_ext [iblk, V, idx t]

/-- Element `(r, j)` of the packed cotangent the call is entered with; the next four: of the residual stream, of the
    residual's own cotangent, of the gain and of the packed weight. -/
def dpE (c : Dev nD) (r : Fin 4352) (j : Fin 1792) : EReal := V m c main_v17 (ix2 r j)
def hE (c : Dev nD) (r : Fin 4352) (k : Fin 1024) : EReal := V m c main_v19 (ix2 r k)
def dhE (c : Dev nD) (r : Fin 4352) (k : Fin 1024) : EReal := V m c main_v21 (ix2 r k)
def gE (c : Dev nD) (k : Fin 1024) : EReal := V m c main_arg1 (ix2 0 k)
def wE (c : Dev nD) (j : Fin 1792) (k : Fin 1024) : EReal := V m c main_v8 (ix2 j k)

/-- The row factor of row `r`. -/
def rinv (c : Dev nD) (r : Fin 4352) : EReal :=
  Ideal.rsqrt ((∑ x : Fin 1024, hE m c r x * hE m c r x) * Ideal.ofBits FTy.f32 981467136#32
    + Ideal.ofBits FTy.f32 897988541#32)
/-- The projection's product: the gradient of the normalised row. -/
def dy (c : Dev nD) (r : Fin 4352) (k : Fin 1024) : EReal :=
  ∑ j : Fin 1792, dpE m c r j * wE m c j k

/-- The row gradient as the kernel forms it. -/
def dhK (c : Dev nD) (r : Fin 4352) (k : Fin 1024) : EReal :=
  dhE m c r k + rinv m c r * (dy m c r k * gE m c k
    - hE m c r k * rinv m c r *
      ((∑ x : Fin 1024, dy m c r x * gE m c x * (hE m c r x * rinv m c r)) * Ideal.ofBits FTy.f32 981467136#32))

theorem final5 (c : Dev nD) (G : S4352x1024.Idx → EReal) (hG : ∀ r k, G (ix2 r k) = dhK m c r k) : (dats m 0 c).arrAt 5 (cfgs 0).N = G := by
  refine (dats m 0 c).arrAt_eq_of_covers 5 _ (by decide +kernel) fun t _ y => ?_
  have hN : grid0.N = 17 := N_0
  have ht : t.val < 17 := lt_of_lt_of_eq t.isLt N_0
  blk_simp
  rw [after0_5]
  by_cases h : t.val % 17 = 0
  · rw [outsAt0_A m c t h (by omega)]
    frame_out
    idx_vars y
    pointwise [k0_pay1, k0_pay2, k0_pay3, k0_pay4, k0_pay5, k0_pay6, k0_pay7, k0_pay8, k0_pay9, k0_pay10]
    simp only [blk0, blk1, blk2, blk3, blk4]
    refine Eq.trans ?_ ((hG ⟨256 * t.val + y0.val, row_lt t y0⟩ y1).symm.trans (congrArg G ?_))
    · rfl
    · blk_point [iblk, V, idx t]
  · rw [outsAt0_B m c t h (by omega)]
    frame_out
    idx_vars y
    pointwise [k0_pay1, k0_pay2, k0_pay3, k0_pay4, k0_pay5, k0_pay6, k0_pay7, k0_pay8, k0_pay9, k0_pay10]
    simp only [blk0, blk1, blk2, blk3, blk4]
    refine Eq.trans ?_ ((hG ⟨256 * t.val + y0.val, row_lt t y0⟩ y1).symm.trans (congrArg G ?_))
    · rfl
    · blk_point [iblk, V, idx t]

/-- What a block adds to the gain's gradient. -/
def dgPart (c : Dev nD) (t : Fin cfg0.N) (k : Fin 1024) : EReal :=
  ∑ y : Fin 256, dy m c ⟨256 * t.val + y.val, row_lt t y⟩ k * (hE m c ⟨256 * t.val + y.val, row_lt t y⟩ k * rinv m c ⟨256 * t.val + y.val, row_lt t y⟩)

theorem final6 (c : Dev nD) (G : S1x1024.Idx → EReal) (hG : ∀ k, G (ix2 0 k) = ∑ t : Fin 17, dgPart m c ⟨t.val, by have hN : cfg0.N = 17 := N_0; omega⟩ k) :
    (dats m 0 c).arrAt 6 (cfgs 0).N = G := by
  refine (dats m 0 c).arrAt_eq_of_covers 6 _ (by decide +kernel) fun t hf y => ?_
  have hN : grid0.N = 17 := N_0
  have ht : t.val < 17 := lt_of_lt_of_eq t.isLt N_0
  blk_simp
  rw [after0_6]
  rw [Pipeline.eq_sum_fin_of_reset_step_apply_of_flush (fun n h => (outsAt0 m c n h).2) 17 (fun _ => 0) (fun t i => dgPart m c t (i 1))
    (fun t h j => by
      have ht : t.val < 17 := lt_of_lt_of_eq t.isLt N_0
      rw [outsAt0_A m c t h (by omega)]
      frame_out
      idx_vars j
      pointwise [k0_pay1, k0_pay2, k0_pay3, k0_pay4, k0_pay5, k0_pay6, k0_pay7, k0_pay8, k0_pay9, k0_pay10]
      simp only [blk0, blk1, blk2, blk3, blk4]
      rfl)
    (fun t h j => by
      have ht : t.val < 17 := lt_of_lt_of_eq t.isLt N_0
      rw [outsAt0_B m c t h (by omega)]
      frame_out
      idx_vars j
      pointwise [k0_pay1, k0_pay2, k0_pay3, k0_pay4, k0_pay5, k0_pay6, k0_pay7, k0_pay8, k0_pay9, k0_pay10]
      simp only [blk0, blk1, blk2, blk3, blk4]
      rfl)
    t ((flush0_6 t).mp hf) _]
  have h0 : t.val / 17 = 0 := by omega
  have e : (fun k : Fin 1024 => ix2 (0 : Fin 1) k) (y 1) = (win0_6.blk t).view.emb y := by
    idx_vars y
    blk_point [iblk, V, idx t]
  rw [zero_add, ← e]
  refine Eq.trans ?_ (hG (y 1)).symm
  refine Fin.sum_fin_congr fun s => ?_
  congr 1
  apply Fin.ext
  show 17 * (t.val / 17) + s.val = s.val
  omega

end Cert.InBwdIdeal.Value

end
-- ==== Proof.InEntry.lean ====
/- The input projection's backward call: the arrays the call is entered with, read at an index. -/
module

public import proofs.«01_k».proof.Proof.Gen.InBwdIdeal.Value
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Common
public import proofs.«01_k».proof.Proof.InValue

@[expose] public section

set_option maxRecDepth 16384

noncomputable section

namespace Cert.InBwdIdeal.Value

open Cert.InBwdIdeal Cert.InBwdIdeal.Gen Idealize.ShloMosaic Idealize.ShloMosaic.TcCoe Idealize.SL.Sem
open Idealize.ShloMosaic.Pipeline (Dat)
open Cert.Common

variable (m : (ℓ : Loc nD τ sig) → Buf (Elt Ideal) ℓ)

/-- The columns of the packed weight and cotangent, read from the plain ones' `f`: queries' latents, then keys' latents
    onwards, 64 zeros, the 32 rotary columns, 32 zeros. -/
def packed (f : Fin 1696 → EReal) (k : Fin 1792) : EReal :=
  if h : k.val < 640 then f ⟨k.val, by omega⟩
  else if h' : k.val - 640 < 1024 then f ⟨672 + (k.val - 640), by omega⟩
  else if k.val - 640 - 1024 < 64 then 0
  else if h'' : k.val - 640 - 1024 - 64 < 32 then f ⟨640 + (k.val - 640 - 1024 - 64), by omega⟩
  else 0

theorem dpE_eq (c : Dev nD) (r : Fin 4352) (k : Fin 1792) : dpE m c r k =
    if h : r.val / 2176 < 2 ∧ 112 ≤ r.val % 2176 ∧ r.val % 2176 - 112 < 2064 then
      packed (fun j => m (c, Proc.tc.devRef main_arg3) (ix3 ⟨r.val / 2176, h.1⟩ ⟨r.val % 2176 - 112, h.2.2⟩ j)) k
    else 0 := by
  unfold dpE V
  after_reads_at
  after_reads_at
  simp only [zero_int]
  rfl
theorem hE_eq (c : Dev nD) (r : Fin 4352) (k : Fin 1024) : hE m c r k =
    if h : r.val / 2176 < 2 ∧ 112 ≤ r.val % 2176 ∧ r.val % 2176 - 112 < 2064 then
      m (c, Proc.tc.devRef main_arg0) (ix3 ⟨r.val / 2176, h.1⟩ ⟨r.val % 2176 - 112, h.2.2⟩ k)
    else (0 : EReal) := by
  unfold hE V
  after_reads_at
  simp only [zero_int]
theorem dhE_eq (c : Dev nD) (r : Fin 4352) (k : Fin 1024) : dhE m c r k =
    if h : r.val / 2176 < 2 ∧ 112 ≤ r.val % 2176 ∧ r.val % 2176 - 112 < 2064 then
      m (c, Proc.tc.devRef main_arg4) (ix3 ⟨r.val / 2176, h.1⟩ ⟨r.val % 2176 - 112, h.2.2⟩ k)
    else (0 : EReal) := by
  unfold dhE V
  after_reads_at
  simp only [zero_int]
theorem wE_eq (c : Dev nD) (j : Fin 1792) (k : Fin 1024) :
    wE m c j k = packed (fun j => m (c, Proc.tc.devRef main_arg2) (ix3 0 k j)) j := by
  unfold wE V
  after_reads_at
  after_reads_at
  rfl
theorem gE_eq (c : Dev nD) (k : Fin 1024) : gE m c k = m (c, Proc.tc.devRef main_arg1) (ix2 0 k) := by
  unfold gE V
  after_reads_at

/-- Packing both factors leaves the product of the plain ones. -/
theorem sum_packed (f g : Fin 1696 → EReal) : ∑ k, packed f k * packed g k = ∑ j, f j * g j := by
  rw [Fin.sum_univ_two_halves 640 1152 rfl, Fin.sum_univ_two_halves 1024 128 rfl (fun k : Fin 1152 => _),
    Fin.sum_univ_two_halves 64 64 rfl (fun k : Fin 128 => _),
    Fin.sum_univ_two_halves 32 32 rfl (fun k : Fin 64 => packed f ⟨640 + (1024 + (64 + k.val)), by omega⟩ * packed g ⟨640 + (1024 + (64 + k.val)), by omega⟩),
    Fin.sum_univ_two_halves 640 1056 rfl (fun j => f j * g j), Fin.sum_univ_two_halves 32 1024 rfl (fun k : Fin 1056 => _)]
  have z1 : ∀ k : Fin 64, packed f ⟨640 + (1024 + k.val), by omega⟩ = 0 := fun k => by
    have := k.isLt
    unfold packed
    rw [dif_neg (by simp only; omega), dif_neg (by simp only; omega), if_pos (by simp only; omega)]
  have z2 : ∀ k : Fin 32, packed f ⟨640 + (1024 + (64 + (32 + k.val))), by omega⟩ = 0 := fun k => by
    have := k.isLt
    unfold packed
    rw [dif_neg (by simp only; omega), dif_neg (by simp only; omega), if_neg (by simp only; omega), dif_neg (by simp only; omega)]
  have p0 : ∀ (f : Fin 1696 → EReal) (k : Fin 640), packed f ⟨k.val, by omega⟩ = f ⟨k.val, by omega⟩ := fun f k => by
    unfold packed
    rw [dif_pos k.isLt]
  have p1 : ∀ (f : Fin 1696 → EReal) (k : Fin 1024), packed f ⟨640 + k.val, by omega⟩ = f ⟨640 + (32 + k.val), by omega⟩ := fun f k => by
    have := k.isLt
    unfold packed
    rw [dif_neg (by simp only; omega), dif_pos (by simp only; omega)]
    congr 2
    simp only
    omega
  have p2 : ∀ (f : Fin 1696 → EReal) (k : Fin 32), packed f ⟨640 + (1024 + (64 + k.val)), by omega⟩ = f ⟨640 + k.val, by omega⟩ := fun f k => by
    have := k.isLt
    unfold packed
    rw [dif_neg (by simp only; omega), dif_neg (by simp only; omega), if_neg (by simp only; omega), dif_pos (by simp only; omega)]
    congr 2
    simp only
    omega
  simp only [z1, z2, p0, p1, p2, zero_mul, Finset.sum_const_zero, add_zero, zero_add]
  rw [add_comm (∑ k : Fin 1024, _)]

end Cert.InBwdIdeal.Value

end
-- ==== Proof.InRef.lean ====
/- The input projection's gradient as the reference states it, read at an index. -/
module

public import proofs.«01_k».proof.Proof.Gen.InBwdRefIdeal.Read
public import Idealize.ShloMosaic.Lib.Pointwise
public import proofs.«01_k».proof.Proof.Common

@[expose] public section

set_option maxRecDepth 16384

noncomputable section

namespace Cert.InBwdRefIdeal.Read

open Cert.InBwdRefIdeal Cert.InBwdRefIdeal.Gen Idealize.ShloMosaic Idealize.ShloMosaic.TcCoe Idealize.SL.Sem
open Cert.Common

variable (x0 : FVec Ideal S2x2064x1024 .f32) (x1 : FVec Ideal S1x1024 .f32) (x2 : FVec Ideal S1x1024x1696 .f32)
  (x3 : FVec Ideal S2x2064x1696 .f32) (x4 : FVec Ideal S2x2064x1024 .f32)

/-- The mean square of a row of `x0` and the small number. -/
def vR (b : Fin 2) (s : Fin 2064) : EReal :=
  Ideal.div (∑ x : Fin 1024, x0 (ix3 b s x) * x0 (ix3 b s x)) (Ideal.ofBits FTy.f32 1149239296#32) + Ideal.ofBits FTy.f32 897988541#32
/-- The gradient of the normalised row. -/
def dyR (b : Fin 2) (s : Fin 2064) (k : Fin 1024) : EReal := ∑ j : Fin 1696, x3 (ix3 b s j) * x2 (ix3 0 k j)

/-- A row's share of the gradient through the mean square, before the factor `x0` of each column. -/
def shareR (b : Fin 2) (s : Fin 2064) : EReal :=
  Ideal.div ((∑ x : Fin 1024, x0 (ix3 b s x) * (dyR x2 x3 b s x * x1 (ix2 0 x))) *
    (Ideal.ofBits FTy.f32 3204448256#32 * Ideal.div (Ideal.rsqrt (vR x0 b s)) (vR x0 b s))) (Ideal.ofBits FTy.f32 1149239296#32)

theorem v7_at (b : Fin 2) (s : Fin 2064) (z : Fin 1) : val_main_v7 (F := Ideal) x0 (ix3 b s z) = vR x0 b s := by
  pointwise [val_main_v7, val_main_v6, val_main_v5, val_main_v4, val_main_v3, val_main_v2, val_main_v1, val_main_cst, val_main_cst_0, val_main_cst_1]
  rfl
theorem v19_at (b : Fin 2) (s : Fin 2064) (k : Fin 1024) : val_main_v19 (F := Ideal) x2 x3 (ix3 b s k) = dyR x2 x3 b s k := by
  pointwise [val_main_v19, val_main_v17]
  rfl
theorem v40_at (b : Fin 2) (s : Fin 2064) (k : Fin 1024) : val_main_v40 (F := Ideal) x0 x1 x2 x3 x4 (ix3 b s k) =
    x4 (ix3 b s k) + dyR x2 x3 b s k * x1 (ix2 0 k) * Ideal.rsqrt (vR x0 b s) + x0 (ix3 b s k) * shareR x0 x1 x2 x3 b s + shareR x0 x1 x2 x3 b s * x0 (ix3 b s k) := by
  pointwise [val_main_v40, val_main_v39, val_main_v38, val_main_v37, val_main_v36, val_main_v35, val_main_v34, val_main_v33, val_main_v32, val_main_v31, val_main_v30, val_main_v29, val_main_v28, val_main_v27, val_main_v26,val_main_v24, val_main_v23, val_main_v15, val_main_v14,  val_main_v11, val_main_v12, val_main_v10, val_main_v9, val_main_v8, val_main_v0, val_main_cst_2, val_main_cst_3, val_main_cst_4, val_main_cst_5, val_main_cst_6, val_main_cst_7]
  simp only [v7_at, v19_at, Fin.sum_univ_one]
  rfl
theorem v44_at (r : Fin 4352) (k : Fin 1024) : val_main_v44 (F := Ideal) x0 x1 x2 x3 x4 (ix2 r k) =
    if r.val % 2176 < 112 then 0 else val_main_v40 (F := Ideal) x0 x1 x2 x3 x4 (ix3 ⟨r.val / 2176, by omega⟩ ⟨r.val % 2176 - 112, by omega⟩ k) := by
  pointwise [val_main_v44, val_main_v43, val_main_v42, val_main_cst_8]
  rfl
theorem v41_at (k : Fin 1024) : val_main_v41 (F := Ideal) x0 x2 x3 (ix2 0 k) =
    ∑ b : Fin 2, ∑ s : Fin 2064, x0 (ix3 b s k) * Ideal.rsqrt (vR x0 b s) * dyR x2 x3 b s k := by
  pointwise [val_main_v41, val_main_v25, val_main_v22, val_main_v21, val_main_v20, val_main_v13, val_main_cst_3, val_main_cst_4, val_main_v8, val_main_v12]
  rw [hostReduceAdd_r3]
  pointwise
  rw [hostReduceAdd_r3]
  pointwise
  simp only [v7_at, v19_at, Fin.sum_univ_one]

end Cert.InBwdRefIdeal.Read

end
-- ==== Proof.InEq.lean ====
/- The input projection's backward call: the kernel's rows and the reference's are equal. -/
module

public import proofs.«01_k».proof.Proof.InEntry
public import proofs.«01_k».proof.Proof.InRef

@[expose] public section

set_option maxRecDepth 16384

noncomputable section

namespace Cert.InEq

open Idealize.ShloMosaic Cert.Common

/-- Real rows `h`, `g`, `y`: both ways to write the gradient through the norm. -/
theorem row_eq (h g y : Fin 1024 → ℝ) (k : Fin 1024) (D : EReal) :
    let R := Ideal.rsqrt ((∑ x, (h x : EReal) * h x) * Ideal.ofBits FTy.f32 981467136#32 + Ideal.ofBits FTy.f32 897988541#32)
    let v := Ideal.div (∑ x, (h x : EReal) * h x) (Ideal.ofBits FTy.f32 1149239296#32) + Ideal.ofBits FTy.f32 897988541#32
    let q := Ideal.div ((∑ x, (h x : EReal) * ((y x : EReal) * g x)) * (Ideal.ofBits FTy.f32 3204448256#32 * Ideal.div (Ideal.rsqrt v) v))
      (Ideal.ofBits FTy.f32 1149239296#32)
    D + R * ((y k : EReal) * g k - h k * R * ((∑ x, (y x : EReal) * g x * (h x * R)) * Ideal.ofBits FTy.f32 981467136#32))
      = D + (y k : EReal) * g k * Ideal.rsqrt v + h k * q + q * h k := by
  intro R v q
  have hp := mean_pos h (a := 1 / 1024) (by norm_num)
  set V : ℝ := (∑ x, h x * h x) * (1 / 1024) + eps with hV
  have eR : R = (((Real.sqrt V)⁻¹ : ℝ) : EReal) := by
    simp only [R, word_inv_1024, word_eps, ← EReal.coe_mul, ← coe_sum, ← EReal.coe_add]
    exact rsqrt_pos hp
  have ev : v = (V : EReal) := by
    simp only [v, word_1024, word_eps, Ideal.div_coe (show (1024 : ℝ) ≠ 0 by norm_num), ← EReal.coe_mul, ← coe_sum, ← EReal.coe_add, hV]
  have hs : (Real.sqrt V)⁻¹ * (Real.sqrt V)⁻¹ = 1 / V := by
    rw [← mul_inv, Real.mul_self_sqrt hp.le, one_div]
  have eq : q = (((∑ x, h x * (y x * g x)) * (-1 / 2 * ((Real.sqrt V)⁻¹ * (1 / V))) * (1 / 1024) : ℝ) : EReal) := by
    simp only [q, ev, rsqrt_pos hp, word_1024, word_neg_half, Ideal.div_coe (show (1024 : ℝ) ≠ 0 by norm_num), Ideal.div_coe hp.ne', ← EReal.coe_mul, ← coe_sum]
  rw [eR, ev, eq, rsqrt_pos hp]
  simp only [word_inv_1024, ← EReal.coe_mul, ← coe_sum, ← EReal.coe_sub, add_assoc, ← EReal.coe_add]
  congr 2
  have e : ∑ x, y x * (g x * (h x * (Real.sqrt V)⁻¹)) = (∑ x, h x * (y x * g x)) * (Real.sqrt V)⁻¹ := by
    rw [Finset.sum_mul]
    exact Finset.sum_congr rfl fun x _ => by ring
  simp only [mul_assoc] at *
  rw [e, ← hs]
  ring

open Cert.InBwdIdeal Cert.InBwdIdeal.Value Cert.InBwdRefIdeal.Read

variable (m : (ℓ : Loc nD τ sig) → Buf (Elt Ideal) ℓ) (c : Dev nD)

/-- The arrays the program is entered with. -/
abbrev A0 : FVec Ideal S2x2064x1024 .f32 := m (c, Proc.tc.devRef main_arg0)
abbrev A1 : FVec Ideal S1x1024 .f32 := m (c, Proc.tc.devRef main_arg1)
abbrev A2 : FVec Ideal S1x1024x1696 .f32 := m (c, Proc.tc.devRef main_arg2)
abbrev A3 : FVec Ideal S2x2064x1696 .f32 := m (c, Proc.tc.devRef main_arg3)
abbrev A4 : FVec Ideal S2x2064x1024 .f32 := m (c, Proc.tc.devRef main_arg4)

theorem b_lt (r : Fin 4352) : r.val / 2176 < 2 := by omega
theorem s_lt (r : Fin 4352) : r.val % 2176 - 112 < 2064 := by omega

/-- On a true row. -/
theorem cond_true {r : Fin 4352} (h : ¬ r.val % 2176 < 112) : r.val / 2176 < 2 ∧ 112 ≤ r.val % 2176 ∧ r.val % 2176 - 112 < 2064 :=
  ⟨b_lt r, not_lt.1 h, s_lt r⟩

section rows
variable {m c} {r : Fin 4352}

theorem hE_pad (h : r.val % 2176 < 112) (k) : hE m c r k = 0 := by rw [hE_eq, dif_neg (by omega)]
theorem dhE_pad (h : r.val % 2176 < 112) (k) : dhE m c r k = 0 := by rw [dhE_eq, dif_neg (by omega)]
theorem dy_pad (h : r.val % 2176 < 112) (k) : dy m c r k = 0 := by
  unfold dy
  refine Finset.sum_eq_zero fun j _ => ?_
  rw [dpE_eq, dif_neg (by omega), zero_mul]

theorem hE_row (h : ¬ r.val % 2176 < 112) (k) : hE m c r k = A0 m c (ix3 ⟨_, b_lt r⟩ ⟨_, s_lt r⟩ k) := by rw [hE_eq, dif_pos (cond_true h)]
theorem dhE_row (h : ¬ r.val % 2176 < 112) (k) : dhE m c r k = A4 m c (ix3 ⟨_, b_lt r⟩ ⟨_, s_lt r⟩ k) := by rw [dhE_eq, dif_pos (cond_true h)]
theorem dy_row (h : ¬ r.val % 2176 < 112) (k) : dy m c r k = dyR (A2 m c) (A3 m c) ⟨_, b_lt r⟩ ⟨_, s_lt r⟩ k := by
  unfold dy dyR
  rw [← sum_packed]
  refine Finset.sum_congr rfl fun j _ => ?_
  rw [dpE_eq, dif_pos (cond_true h), wE_eq]

end rows

variable {m c} {h0 : S2x2064x1024.Idx → ℝ} {h1 : S1x1024.Idx → ℝ} {h2 : S1x1024x1696.Idx → ℝ} {h3 : S2x2064x1696.Idx → ℝ}

theorem dyR_real (e2 : A2 m c = fun i => (h2 i : EReal)) (e3 : A3 m c = fun i => (h3 i : EReal)) (b s k) :
    dyR (A2 m c) (A3 m c) b s k = ((∑ j : Fin 1696, h3 (ix3 b s j) * h2 (ix3 0 k j) : ℝ) : EReal) := by
  unfold dyR
  rw [e2, e3, coe_sum]
  simp only [EReal.coe_mul]

/-- The row gradients agree. -/
theorem dh_eq (e0 : A0 m c = fun i => (h0 i : EReal)) (e1 : A1 m c = fun i => (h1 i : EReal)) (e2 : A2 m c = fun i => (h2 i : EReal))
    (e3 : A3 m c = fun i => (h3 i : EReal)) (r : Fin 4352) (k : Fin 1024) :
    Cert.InBwdRefIdeal.Read.val_main_v44 (F := Ideal) (A0 m c) (A1 m c) (A2 m c) (A3 m c) (A4 m c) (ix2 r k) = dhK m c r k := by
  rw [v44_at]
  unfold dhK
  by_cases h : r.val % 2176 < 112
  · rw [if_pos h]
    simp only [hE_pad h, dhE_pad h, dy_pad h, zero_mul, mul_zero, sub_zero, add_zero, Finset.sum_const_zero]
  · rw [if_neg h, v40_at]
    unfold rinv shareR vR
    simp only [hE_row h, dhE_row h, dy_row h, gE_eq, dyR_real e2 e3]
    exact (by simpa only [e0, e1] using row_eq (fun x => h0 (ix3 ⟨_, b_lt r⟩ ⟨_, s_lt r⟩ x)) (fun x => h1 (ix2 0 x)) _ k _ : _ = _).symm

/-- The gain's gradients agree. -/
theorem dg_eq (e0 : A0 m c = fun i => (h0 i : EReal)) (k : Fin 1024) :
    Cert.InBwdRefIdeal.Read.val_main_v41 (F := Ideal) (A0 m c) (A2 m c) (A3 m c) (ix2 0 k)
      = ∑ t : Fin 17, dgPart m c ⟨t.val, by have hN : cfg0.N = 17 := Gen.N_0; omega⟩ k := by
  rw [v41_at]
  let f : ℕ → EReal := fun r => if h : r < 4352 then dy m c ⟨r, h⟩ k * (hE m c ⟨r, h⟩ k * rinv m c ⟨r, h⟩) else 0
  have hf : ∀ (r : Fin 4352), f r.val = dy m c r k * (hE m c r k * rinv m c r) := fun r => dif_pos r.isLt
  have e : ∀ t : Fin 17, dgPart m c ⟨t.val, by have hN : cfg0.N = 17 := Gen.N_0; omega⟩ k = ∑ i : Fin 256, f (256 * t.val + i.val) := fun t =>
    Finset.sum_congr rfl fun i _ => (hf ⟨256 * t.val + i.val, by omega⟩).symm
  simp only [e]
  rw [sum_rows f fun r hr => by
    by_cases h : r < 4352
    · exact (hf ⟨r, h⟩).trans (by rw [dy_pad hr, zero_mul])
    · exact dif_neg h]
  refine Finset.sum_congr rfl fun b _ => Finset.sum_congr rfl fun s _ => ?_
  have hr : ¬ (2176 * b.val + (112 + s.val)) % 2176 < 112 := by omega
  rw [show f (2176 * b.val + (112 + s.val)) = _ from hf ⟨2176 * b.val + (112 + s.val), by omega⟩, dy_row hr, hE_row hr]
  have eb : (⟨(2176 * b.val + (112 + s.val)) / 2176, by omega⟩ : Fin 2) = b := Fin.ext (by simp only; omega)
  have es : (⟨(2176 * b.val + (112 + s.val)) % 2176 - 112, by omega⟩ : Fin 2064) = s := Fin.ext (by simp only; omega)
  have er : rinv m c ⟨2176 * b.val + (112 + s.val), by omega⟩ = Ideal.rsqrt (vR (A0 m c) b s) := by
    unfold rinv vR
    simp only [hE_row (r := ⟨2176 * b.val + (112 + s.val), by omega⟩) hr, eb, es, e0]
    rw [word_1024, Ideal.div_coe (by norm_num), word_inv_1024]
  rw [er, eb, es, mul_comm]

end Cert.InEq

end
-- ==== Proof.InProof.lean ====
/- The input projection's backward call: the value claim. -/
module

public import proofs.«01_k».proof.Defs
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.InEq

@[expose] public section

set_option maxRecDepth 16384

noncomputable section

namespace Cert.InEq

open Idealize.ShloMosaic Idealize.ShloMosaic.TcCoe Idealize.SL.Sem Cert.Common

variable [Cert.Pre_in_finite.Facts]

/-- The precondition, read back: the first four arrays are real ones. -/
theorem finite_of_pre (m : (ℓ : Loc Cert.InBwdIdeal.nD Cert.InBwdIdeal.τ Cert.InBwdIdeal.sig) → Buf (Elt Ideal) ℓ)
    (h : Cert.Pre_InBwdIdeal_in_finite m) (c : Dev Cert.InBwdIdeal.nD) :
    (∃ x : Cert.InBwdIdeal.S2x2064x1024.Idx → ℝ, A0 m c = fun i => (x i : EReal)) ∧ (∃ x : Cert.InBwdIdeal.S1x1024.Idx → ℝ, A1 m c = fun i => (x i : EReal))
      ∧ (∃ x : Cert.InBwdIdeal.S1x1024x1696.Idx → ℝ, A2 m c = fun i => (x i : EReal)) ∧ (∃ x : Cert.InBwdIdeal.S2x2064x1696.Idx → ℝ, A3 m c = fun i => (x i : EReal)) := by
  have h := congrFun (h c) (fun i => i.elim0)
  obtain ⟨h, h3⟩ := IntOp.andi_eq_one.1 h
  obtain ⟨h, h2⟩ := IntOp.andi_eq_one.1 h
  obtain ⟨h0, h1⟩ := IntOp.andi_eq_one.1 h
  exact ⟨finite_of_all _ _ _ _ _ h0, finite_of_all _ _ _ _ _ h1, finite_of_all _ _ _ _ _ h2, finite_of_all _ _ _ _ _ h3⟩

theorem algebraic : Cert.algebraic_InBwdIdeal_InBwdRefIdeal_pre_in_finite := by
  pair_intro
  · run_from Cert.InBwdIdeal.Value.run_blocks m g
  · have hf := finite_of_pre m hpre
    run_from Cert.InBwdRefIdeal.Value.run m' g'
    · obtain ⟨⟨x0, e0⟩, ⟨x1, e1⟩, ⟨x2, e2⟩, ⟨x3, e3⟩⟩ := hf c
      rw [Cert.InBwdRefIdeal.Read.val_main_v44_eq, (hagree c).1, (hagree c).2.1, (hagree c).2.2.1, (hagree c).2.2.2.1, (hagree c).2.2.2.2]
      exact (Cert.InBwdIdeal.Value.final5 m c _ fun r k => dh_eq e0 e1 e2 e3 r k).symm
    · obtain ⟨⟨x0, e0⟩, -⟩ := hf c
      rw [Cert.InBwdRefIdeal.Read.val_main_v41_eq]
      exact (Cert.InBwdIdeal.Value.final6 m c _ fun k => dg_eq e0 k).symm

end Cert.InEq

end
-- ==== Proof.AttnBlocks.lean ====
/- The attention's backward call: the arrays it is entered with, read by sequence, head, query, key and lane, and
   what a grid point finds of them in its blocks. -/
module

public import proofs.«01_k».proof.Proof.Gen.AttnBwdIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8 * 2 + t.val % 2, t.val / 2 % 4] ∧ win0_1.index t = ![t.val / 8, t.val / 2 % 4] ∧ win0_2.index t = ![t.val / 8, t.val / 2 % 4]
    ∧ win0_3.index t = ![t.val / 8 * 2 + t.val % 2, t.val / 2 % 4] ∧ win0_4.index t = ![t.val / 8 * 2 + t.val % 2, t.val / 2 % 4] ∧ win0_5.index t = ![t.val / 8 * 2 + t.val % 2, t.val / 2 % 4]
    ∧ win0_6.index t = ![t.val / 8, t.val / 2 % 4, t.val % 2, 0] ∧ win0_7.index t = ![t.val / 8 * 2 + t.val % 2, t.val / 2 % 4] ∧ win0_8.index t = ![t.val / 8, t.val / 2 % 4]
    ∧ win0_9.index t = ![t.val / 8, t.val / 2 % 4] :=
  (by decide +kernel : ∀ t : Fin grid0.N, _)

theorem t_lt (t : Fin cfg0.N) : t.val < 16 := lt_of_lt_of_eq t.isLt N_0

/-- The sequence of grid point `t`. -/
def tb (t : Fin cfg0.N) : Fin 2 := ⟨t.val / 8, by have := t_lt t; omega⟩
/-- The query of row `y` of its block of queries. -/
def tq (t : Fin cfg0.N) (y : Fin 1088) : Fin 2176 := ⟨1088 * (t.val % 2) + y.val, by have := y.isLt; omega⟩
/-- The head that is the `j`-th of its pair of heads. -/
def th (t : Fin cfg0.N) (j : Fin 2) : Fin 8 := ⟨2 * (t.val / 2 % 4) + j.val, by have := j.isLt; omega⟩

/-- Row of the flat arrays that holds token `q` of sequence `b`. -/
def row (b : Fin 2) (q : Fin 2176) : Fin 4352 := ⟨2176 * b.val + q.val, by have := b.isLt; have := q.isLt; omega⟩
/-- Column of lane `x` of head `h` where a head has 128 lanes, and where it has 64. -/
def wcol (h : Fin 8) (x : Fin 128) : Fin 1024 := ⟨128 * h.val + x.val, by have := h.isLt; have := x.isLt; omega⟩
def vcol (h : Fin 8) (d : Fin 64) : Fin 512 := ⟨64 * h.val + d.val, by have := h.isLt; have := d.isLt; omega⟩

/-- Queries, keys, values, the output's cotangent, the saved output, the saved sum of a row and the saved exponential, as the call is entered with them. -/
def qE (c : Dev nD) (b : Fin 2) (q : Fin 2176) (h : Fin 8) (x : Fin 128) : EReal := V m c main_v27 (ix2 (row b q) (wcol h x))
def kE (c : Dev nD) (b : Fin 2) (k : Fin 2176) (h : Fin 8) (x : Fin 128) : EReal := V m c main_v28 (ix2 (row b k) (wcol h x))
def vE (c : Dev nD) (b : Fin 2) (k : Fin 2176) (h : Fin 8) (d : Fin 64) : EReal := V m c main_v29 (ix2 (row b k) (vcol h d))
def doE (c : Dev nD) (b : Fin 2) (q : Fin 2176) (h : Fin 8) (d : Fin 64) : EReal := V m c main_v31 (ix2 (row b q) (vcol h d))
def oE (c : Dev nD) (b : Fin 2) (q : Fin 2176) (h : Fin 8) (d : Fin 64) : EReal := V m c main_v33 (ix2 (row b q) (vcol h d))
def lE (c : Dev nD) (b : Fin 2) (q : Fin 2176) (h : Fin 8) : EReal := V m c main_v36 (ix2 (row b q) (vcol h 0))
def pE (c : Dev nD) (b : Fin 2) (h : Fin 8) (q k : Fin 2176) : EReal := V m c main_v23 (ix4 b h q k)

theorem lane_lt (j : Fin 2) (d : Fin 64) : 64 * j.val + d.val < 128 := by have := j.isLt; have := d.isLt; omega

theorem blk0_lo (c : Dev nD) (t : Fin cfg0.N) (y : Fin 1088) (x : Fin 128) (hx : x.val < 256) :
    iblk m c 0 t (ix2 y ⟨x.val, hx⟩) = qE m c (tb t) (tq t y) (th t 0) x := by
  unfold qE; have := t_lt t
  blk_ext [iblk, V, idx t, row, wcol, tb, tq, th]
theorem blk0_hi (c : Dev nD) (t : Fin cfg0.N) (y : Fin 1088) (x : Fin 128) (hx : 128 + x.val < 256) :
    iblk m c 0 t (ix2 y ⟨128 + x.val, hx⟩) = qE m c (tb t) (tq t y) (th t 1) x := by
  unfold qE; have := t_lt t
  blk_ext [iblk, V, idx t, row, wcol, tb, tq, th]
theorem blk1_lo (c : Dev nD) (t : Fin cfg0.N) (k : Fin 2176) (x : Fin 128) (hx : x.val < 256) :
    iblk m c 1 t (ix2 k ⟨x.val, hx⟩) = kE m c (tb t) k (th t 0) x := by
  unfold kE; have := t_lt t
  blk_ext [iblk, V, idx t, row, wcol, tb, th]
theorem blk1_hi (c : Dev nD) (t : Fin cfg0.N) (k : Fin 2176) (x : Fin 128) (hx : 128 + x.val < 256) :
    iblk m c 1 t (ix2 k ⟨128 + x.val, hx⟩) = kE m c (tb t) k (th t 1) x := by
  unfold kE; have := t_lt t
  blk_ext [iblk, V, idx t, row, wcol, tb, th]
theorem blk2 (c : Dev nD) (t : Fin cfg0.N) (k : Fin 2176) (j : Fin 2) (d : Fin 64) :
    iblk m c 2 t (ix2 k ⟨64 * j.val + d.val, lane_lt j d⟩) = vE m c (tb t) k (th t j) d := by
  unfold vE; have := t_lt t
  blk_ext [iblk, V, idx t, row, vcol, tb, th]
theorem blk3 (c : Dev nD) (t : Fin cfg0.N) (y : Fin 1088) (j : Fin 2) (d : Fin 64) :
    iblk m c 3 t (ix2 y ⟨64 * j.val + d.val, lane_lt j d⟩) = doE m c (tb t) (tq t y) (th t j) d := by
  unfold doE; have := t_lt t
  blk_ext [iblk, V, idx t, row, vcol, tb, th, tq]
theorem blk4 (c : Dev nD) (t : Fin cfg0.N) (y : Fin 1088) (j : Fin 2) (d : Fin 64) :
    iblk m c 4 t (ix2 y ⟨64 * j.val + d.val, lane_lt j d⟩) = oE m c (tb t) (tq t y) (th t j) d := by
  unfold oE; have := t_lt t
  blk_ext [iblk, V, idx t, row, vcol, tb, th, tq]
theorem blk5_lo (c : Dev nD) (t : Fin cfg0.N) (y : Fin 1088) : iblk m c 5 t (ix2 y 0) = lE m c (tb t) (tq t y) (th t 0) := by
  unfold lE; have := t_lt t
  blk_ext [iblk, V, idx t, row, vcol, tb, th, tq]
theorem blk5_hi (c : Dev nD) (t : Fin cfg0.N) (y : Fin 1088) : iblk m c 5 t (ix2 y 64) = lE m c (tb t) (tq t y) (th t 1) := by
  unfold lE; have := t_lt t
  blk_ext [iblk, V, idx t, row, vcol, tb, th, tq]
theorem blk6 (c : Dev nD) (t : Fin cfg0.N) (j : Fin 2) (y : Fin 1088) (k : Fin 2176) :
    iblk m c 6 t (ix4 0 j y k) = pE m c (tb t) (th t j) (tq t y) k := by
  unfold pE; have := t_lt t
  blk_ext [iblk, V, idx t, tb, th, tq]

theorem lt_lo : ∀ d : Fin 64, IntOp.cmpi CmpIPredicate.slt (BitVec.ofNat 32 d.val) 64#32 = 1#1 := by decide +kernel
theorem lt_hi : ∀ d : Fin 64, IntOp.cmpi CmpIPredicate.slt (BitVec.ofNat 32 (64 + d.val)) 64#32 = 0#1 := by decide +kernel
theorem ge_lo : ∀ d : Fin 64, IntOp.cmpi CmpIPredicate.sge (BitVec.ofNat 32 d.val) 64#32 = 0#1 := by decide +kernel
theorem ge_hi : ∀ d : Fin 64, IntOp.cmpi CmpIPredicate.sge (BitVec.ofNat 32 (64 + d.val)) 64#32 = 1#1 := by decide +kernel

/-- The lanes of a pair of heads that belong to its second head, and to its first. -/
theorem sum_hi (f : Fin 128 → EReal) :
    (∑ x : Fin 128, Scalar.select (IntOp.cmpi CmpIPredicate.sge (BitVec.ofNat 32 x.val) 64#32) (f x) 0)
      = ∑ d : Fin 64, f ⟨64 * (1 : Fin 2).val + d.val, lane_lt 1 d⟩ := by
  rw [Fin.sum_univ_two_halves 64 64 rfl]
  simp only [ge_lo, ge_hi]
  exact (congrArg (· + _) (Finset.sum_eq_zero fun _ _ => rfl)).trans (zero_add _)
theorem sum_lo (f : Fin 128 → EReal) :
    (∑ x : Fin 128, Scalar.select (IntOp.cmpi CmpIPredicate.slt (BitVec.ofNat 32 x.val) 64#32) (f x) 0)
      = ∑ d : Fin 64, f ⟨64 * (0 : Fin 2).val + d.val, lane_lt 0 d⟩ := by
  rw [Fin.sum_univ_two_halves 64 64 rfl]
  simp only [lt_lo, lt_hi]
  refine ((congrArg (_ + ·) (Finset.sum_eq_zero fun _ _ => rfl)).trans (add_zero _)).trans ?_
  refine Finset.sum_congr rfl fun d _ => congrArg f (Fin.ext ?_)
  show d.val = 64 * 0 + d.val
  omega

/-- The chunks of keys that the body walks through, joined. -/
theorem sum_chunks (f : Fin 2176 → EReal) :
    (∑ x : Fin 640, f ⟨x.val, by omega⟩) + (∑ x : Fin 512, f ⟨640 + x.val, by omega⟩)
      + (∑ x : Fin 512, f ⟨1152 + x.val, by omega⟩) + (∑ x : Fin 512, f ⟨1664 + x.val, by omega⟩) = ∑ k : Fin 2176, f k := by
  rw [Fin.sum_univ_two_halves 1664 512 rfl f, Fin.sum_univ_two_halves 1152 512 rfl (fun x : Fin 1664 => f ⟨x.val, by omega⟩),
    Fin.sum_univ_two_halves 640 512 rfl (fun x : Fin 1152 => f ⟨x.val, by omega⟩)]

end Cert.AttnBwdIdeal.Value

end
-- ==== Proof.AttnEntry.lean ====
/- The attention's backward call: the arrays the call is entered with, as arrays of reals, from arguments that are. -/
module

public import proofs.«01_k».proof.Proof.AttnBlocks
public import Idealize.ShloMosaic.Lib.Claim
public import Idealize.ShloMosaic.Lib.StableHlo.ReadAt
public import proofs.«01_k».proof.Proof.Common

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Idealize.ShloMosaic.Pipeline (Dat)
open Cert.Common

variable (m : (ℓ : Loc nD τ sig) → Buf (Elt Ideal) ℓ)

theorem row_div (b : Fin 2) (q : Fin 2176) : (row b q).val / 2176 = b.val := by have := q.isLt; show (2176 * b.val + q.val) / 2176 = b.val; omega
theorem row_mod (b : Fin 2) (q : Fin 2176) : (row b q).val % 2176 = q.val := by have := q.isLt; show (2176 * b.val + q.val) % 2176 = q.val; omega
theorem wcol_div (h : Fin 8) (x : Fin 128) : (wcol h x).val / 128 = h.val := by have := x.isLt; show (128 * h.val + x.val) / 128 = h.val; omega
theorem wcol_mod (h : Fin 8) (x : Fin 128) : (wcol h x).val % 128 = x.val := by have := x.isLt; show (128 * h.val + x.val) % 128 = x.val; omega
theorem vcol_div (h : Fin 8) (x : Fin 64) : (vcol h x).val / 64 = h.val := by have := x.isLt; show (64 * h.val + x.val) / 64 = h.val; omega
theorem vcol_mod (h : Fin 8) (x : Fin 64) : (vcol h x).val % 64 = x.val := by have := x.isLt; show (64 * h.val + x.val) % 64 = x.val; omega

/-- A token's row without the padding rows in front. -/
theorem tok_lt (q : Fin 2176) : q.val - 112 < 2064 := by have := q.isLt; omega

theorem qE_eq (c : Dev nD) (b : Fin 2) (q : Fin 2176) (h : Fin 8) (x : Fin 128) : qE m c b q h x =
    if hq : 112 ≤ q.val ∧ x.val < 96 then m (c, Proc.tc.devRef main_arg0) (ix4 b h ⟨q.val - 112, tok_lt q⟩ ⟨x.val, hq.2⟩)
    else (0 : EReal) := by
  unfold qE V
  after_reads_at
  simp only [row_div, row_mod, wcol_div, wcol_mod, zero_int, Fin.is_lt, tok_lt, true_and, and_true, Fin.eta]
theorem kE_eq (c : Dev nD) (b : Fin 2) (k : Fin 2176) (h : Fin 8) (x : Fin 128) : kE m c b k h x =
    if hq : 112 ≤ k.val ∧ x.val < 96 then m (c, Proc.tc.devRef main_arg1) (ix4 b h ⟨k.val - 112, tok_lt k⟩ ⟨x.val, hq.2⟩)
    else (0 : EReal) := by
  unfold kE V
  after_reads_at
  simp only [row_div, row_mod, wcol_div, wcol_mod, zero_int, Fin.is_lt, tok_lt, true_and, and_true, Fin.eta]
theorem vE_eq (c : Dev nD) (b : Fin 2) (k : Fin 2176) (h : Fin 8) (d : Fin 64) : vE m c b k h d =
    if hq : 112 ≤ k.val then m (c, Proc.tc.devRef main_arg2) (ix4 b h ⟨k.val - 112, tok_lt k⟩ d)
    else (0 : EReal) := by
  unfold vE V
  after_reads_at
  simp only [row_div, row_mod, vcol_div, vcol_mod, zero_int, Fin.is_lt, tok_lt, true_and, and_true, Fin.eta]
theorem doE_eq (c : Dev nD) (b : Fin 2) (q : Fin 2176) (h : Fin 8) (d : Fin 64) : doE m c b q h d =
    if hq : 112 ≤ q.val then m (c, Proc.tc.devRef main_arg3) (ix3 b ⟨q.val - 112, tok_lt q⟩ (vcol h d))
    else (0 : EReal) := by
  unfold doE V
  after_reads_at
  simp only [row_div, row_mod, vcol_div, vcol_mod, zero_int, Fin.is_lt, tok_lt, true_and, and_true, Fin.eta]

/-- The queries, keys and values with the padding rows in front. -/
def qP (c : Dev nD) (b : Fin 2) (h : Fin 8) (q : Fin 2176) (x : Fin 96) : EReal :=
  if 112 ≤ q.val then m (c, Proc.tc.devRef main_arg0) (ix4 b h ⟨q.val - 112, tok_lt q⟩ x) else (0 : EReal)
def kP (c : Dev nD) (b : Fin 2) (h : Fin 8) (k : Fin 2176) (x : Fin 96) : EReal :=
  if 112 ≤ k.val then m (c, Proc.tc.devRef main_arg1) (ix4 b h ⟨k.val - 112, tok_lt k⟩ x) else (0 : EReal)
def vP (c : Dev nD) (b : Fin 2) (h : Fin 8) (k : Fin 2176) (d : Fin 64) : EReal :=
  if 112 ≤ k.val then m (c, Proc.tc.devRef main_arg2) (ix4 b h ⟨k.val - 112, tok_lt k⟩ d) else (0 : EReal)
/-- A score, from the plain queries and keys, and −∞ where the key is padding. -/
def sK (c : Dev nD) (b : Fin 2) (h : Fin 8) (q k : Fin 2176) : EReal :=
  Scalar.select (IntOp.cmpi CmpIPredicate.sge (BitVec.ofNat 32 k.val) 112#32)
    (∑ x : Fin 96, qP m c b h q x * kP m c b h k x) (Ideal.ofBits FTy.f32 4286578688#32)
/-- The exponential of a score less its row's maximum. -/
def eK (c : Dev nD) (b : Fin 2) (h : Fin 8) (q k : Fin 2176) : EReal :=
  Ideal.exp ((sK m c b h q k - Finset.fold max (Ideal.ofBits FTy.f32 4286578688#32) (fun k => sK m c b h q k) Finset.univ) * Ideal.ofBits FTy.f32 1037108716#32)

set_option maxHeartbeats 4000000 in
theorem pE_eq (c : Dev nD) (b : Fin 2) (h : Fin 8) (q k : Fin 2176) : pE m c b h q k = eK m c b h q k := by
  unfold pE V
  after_reads_at
  simp only [zero_int, Fin.is_lt, tok_lt, true_and, and_true, Fin.eta, and_false, dite_false, zero_mul, Finset.sum_const_zero, add_zero]
  rfl
set_option maxHeartbeats 4000000 in
theorem lE_eq (c : Dev nD) (b : Fin 2) (q : Fin 2176) (h : Fin 8) : lE m c b q h = ∑ k : Fin 2176, eK m c b h q k := by
  unfold lE V
  after_reads_at
  simp only [row_div, row_mod, vcol_div, vcol_mod, zero_int, Fin.is_lt, tok_lt, true_and, and_true, Fin.eta, and_false, dite_false, zero_mul, Finset.sum_const_zero, add_zero]
  rfl
set_option maxHeartbeats 4000000 in
theorem oE_eq (c : Dev nD) (b : Fin 2) (q : Fin 2176) (h : Fin 8) (d : Fin 64) : oE m c b q h d =
    Ideal.div (∑ k : Fin 2176, eK m c b h q k * vP m c b h k d)
      (∑ k : Fin 2176, eK m c b h q k) := by
  unfold oE V
  after_reads_at
  simp only [row_div, row_mod, vcol_div, vcol_mod, zero_int, Fin.is_lt, tok_lt, true_and, and_true, Fin.eta, and_false, dite_false, zero_mul, Finset.sum_const_zero, add_zero]
  rfl

end Cert.AttnBwdIdeal.Value

end
-- ==== Proof.Pieces.lean ====
/- A stored tile of a two-dimensional array, entry by entry: what the calls' proofs use where an array is written in
   tiles of several sizes. Nothing here speaks of a program. -/
module

public import Idealize.ShloMosaic.Lib.Pipeline.ReadBack
public import Idealize.ShloMosaic.Lib.Pipeline.ValueKit
public import Idealize.ShloMosaic.Lib.Pointwise

@[expose] public section

set_option maxRecDepth 16384

noncomputable section

namespace Cert.Common

open Idealize.ShloMosaic

/-- A tile whose entry (a, b) is `G` at (o + a, w + b) is `G` on the tile's rectangle. -/
theorem piece_at {A B o w n k : Nat} (G : Shape.Idx ⟨2, ![A, B]⟩ → EReal) (inb) (p : Shape.Idx ⟨2, ![n, k]⟩ → EReal)
    (h : ∀ (a : Fin n) (b : Fin k), p (ix2 a b)
      = G (ix2 ⟨o + a.val, Nat.lt_of_lt_of_le (Nat.add_lt_add_left a.isLt o) (inb 0)⟩ ⟨w + b.val, Nat.lt_of_lt_of_le (Nat.add_lt_add_left b.isLt w) (inb 1)⟩))
    (x : (Rect.unit (s := ⟨2, ![A, B]⟩) ![o, w] ![n, k] inb).shape.Idx) :
    p x = G ((Rect.unit (s := ⟨2, ![A, B]⟩) ![o, w] ![n, k] inb).emb x) := by
  have hx : x = ix2 (x 0) (x 1) := by
    funext i
    match i with
    | ⟨0, _⟩ => rfl
    | ⟨1, _⟩ => rfl
  rw [hx]
  refine (h (x 0) (x 1)).trans (congrArg G ?_)
  funext i
  refine Fin.ext ?_
  refine Eq.trans ?_ (ValueKit.rect_emb_unit_val _ _ _ _ _).symm
  match i with
  | ⟨0, _⟩ => rfl
  | ⟨1, _⟩ => rfl

end Cert.Common

end
-- ==== Proof.AttnValue.lean ====
/- The attention's backward call: what a block of queries adds to its three result arrays, as a function of the
   arrays the call is entered with. -/
module

public import proofs.«01_k».proof.Proof.AttnBlocks
public import proofs.«01_k».proof.Proof.Pieces

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Idealize.ShloMosaic.Pipeline (Dat)

variable (m : (ℓ : Loc nD τ sig) → Buf (Elt Ideal) ℓ)

/-- The gradient of a score, as the kernel forms it from what the forward pass saved. -/
def ds (c : Dev nD) (b : Fin 2) (h : Fin 8) (q k : Fin 2176) : EReal :=
  pE m c b h q k
    * ((∑ d : Fin 64, doE m c b q h d * vE m c b k h d) - ∑ d : Fin 64, doE m c b q h d * oE m c b q h d)
    * (Ideal.div 1 (lE m c b q h) * Ideal.ofBits FTy.f32 0x3DD105EC#32)
/-- The gradient of a query. -/
def dqK (c : Dev nD) (b : Fin 2) (q : Fin 2176) (h : Fin 8) (x : Fin 128) : EReal :=
  ∑ k : Fin 2176, ds m c b h q k * kE m c b k h x
/-- What a block of queries adds to the gradient of a key, and to that of a value. -/
def dkPart (c : Dev nD) (t : Fin cfg0.N) (j : Fin 2) (k : Fin 2176) (x : Fin 128) : EReal :=
  ∑ y : Fin 1088, ds m c (tb t) (th t j) (tq t y) k * qE m c (tb t) (tq t y) (th t j) x
def dvPart (c : Dev nD) (t : Fin cfg0.N) (j : Fin 2) (k : Fin 2176) (d : Fin 64) : EReal :=
  ∑ y : Fin 1088, pE m c (tb t) (th t j) (tq t y) k * (doE m c (tb t) (tq t y) (th t j) d * Ideal.div 1 (lE m c (tb t) (tq t y) (th t j)))

/-- The first three of these at an index of the pair's block. -/
def part8 (c : Dev nD) (t : Fin cfg0.N) (i : S2176x256.Idx) : EReal :=
  dkPart m c t ⟨(i 1).val / 128, by have := (i 1).isLt; have e : S2176x256.size 1 = 256 := rfl; omega⟩ (i 0) ⟨(i 1).val % 128, by omega⟩

def part9 (c : Dev nD) (t : Fin cfg0.N) (i : S2176x128.Idx) : EReal :=
  dvPart m c t ⟨(i 1).val / 64, by have := (i 1).isLt; have e : S2176x128.size 1 = 128 := rfl; omega⟩ (i 0) ⟨(i 1).val % 64, by omega⟩

theorem part8_at (c : Dev nD) (t : Fin cfg0.N) (i : S2176x256.Idx) (j : Fin 2) (k : Fin 2176) (x : Fin 128) (h0 : (i 0).val = k.val)
    (h1 : (i 1).val = 128 * j.val + x.val) : part8 m c t i = dkPart m c t j k x := by
  have := x.isLt
  obtain rfl : i 0 = k := Fin.ext h0
  exact congrArg₂ (dkPart m c t · (i 0) ·) (Fin.ext (show (i 1).val / 128 = j.val by omega)) (Fin.ext (show (i 1).val % 128 = x.val by omega))

theorem part8_hi (c : Dev nD) (t : Fin cfg0.N) (k : Fin 2176) (x : Fin 128) (hx : 128 + x.val < 256) :
    part8 m c t (ix2 k ⟨128 + x.val, hx⟩) = dkPart m c t 1 k x := part8_at m c t _ 1 k x rfl rfl
theorem part8_lo (c : Dev nD) (t : Fin cfg0.N) (k : Fin 2176) (x : Fin 128) (hx : x.val < 256) :
    part8 m c t (ix2 k ⟨x.val, hx⟩) = dkPart m c t 0 k x := part8_at m c t _ 0 k x rfl (Nat.zero_add _).symm

set_option maxHeartbeats 4000000 in
theorem step8 (c : Dev nD) (t : Fin cfg0.N) (h : ¬ t.val % 2 = 0) (y : S2176x256.Idx) : (outsAt0 m c t.val t.isLt).2.1 y
    = (show EReal from (outsAt0 m c (t.val - 1) (Nat.lt_of_le_of_lt (Nat.sub_le _ _) t.isLt)).2.1 y) + part8 m c t y := by
  obtain ⟨G, hG⟩ : ∃ G : S2176x256.Idx → EReal, ∀ y, G y = (show EReal from (outsAt0 m c (t.val - 1) (Nat.lt_of_le_of_lt (Nat.sub_le _ _) t.isLt)).2.1 y)
      + part8 m c t y := ⟨_, fun _ => rfl⟩
  rw [outsAt0_B m c t h, ← hG]
  frame_out
  refine View.canon_append_of_piecesOf (Val := Elt Ideal) (e := .f32) G
    [] [_, _, _, _, _, _, _, _] ⟨?_, ?_, ?_, ?_, ?_, ?_, ?_, ?_, trivial⟩ y (View.cover_of_tiledBy _ ![128, 128] (by sl_kernel_rfl) y)
  all_goals refine Cert.Common.piece_at G (by decide) _ fun x0 x1 => ?_
  all_goals open_payloads
  all_goals pointwise []
  all_goals first
    | (simp only [hG, part8_hi, dkPart, ds, sum_hi, blk0_hi, blk1_hi, blk2, blk3, blk4, blk5_hi, blk6]; done)
    | (simp only [hG, part8_lo, dkPart, ds, sum_lo, blk0_lo, blk1_lo, blk2, blk3, blk4, blk5_lo, blk6]; done)

set_option maxHeartbeats 4000000 in
theorem reset8 (c : Dev nD) (t : Fin cfg0.N) (h : t.val % 2 = 0) (y : S2176x256.Idx) : (outsAt0 m c t.val t.isLt).2.1 y = part8 m c t y := by
  obtain ⟨G, hG⟩ : ∃ G : S2176x256.Idx → EReal, ∀ y, G y = part8 m c t y := ⟨_, fun _ => rfl⟩
  rw [outsAt0_A m c t h, ← hG]
  frame_open
  simp (disch := decide) only [↓ View.readCov_skip, ↓ View.readCov_cons_toLoadRect, ↓ View.readCov_fill]
  frame_out
  refine View.canon_append_of_piecesOf (Val := Elt Ideal) (e := .f32) G
    [_] [_, _, _, _, _, _, _, _] ⟨?_, ?_, ?_, ?_, ?_, ?_, ?_, ?_, trivial⟩ y (View.cover_of_tiledBy _ ![128, 128] (by sl_kernel_rfl) y)
  all_goals refine Cert.Common.piece_at G (by decide) _ fun x0 x1 => ?_
  all_goals open_payloads
  all_goals pointwise []
  all_goals first
    | (simp only [hG, part8_hi, dkPart, ds, sum_hi, blk0_hi, blk1_hi, blk2, blk3, blk4, blk5_hi, blk6]; done)
    | (simp only [hG, part8_lo, dkPart, ds, sum_lo, blk0_lo, blk1_lo, blk2, blk3, blk4, blk5_lo, blk6]; done)

theorem part9_at (c : Dev nD) (t : Fin cfg0.N) (k : Fin 2176) (j : Fin 2) (d : Fin 64) (x : Fin 128) (hx : x.val = 64 * j.val + d.val) :
    part9 m c t (ix2 k x) = dvPart m c t j k d := by
  have := d.isLt
  exact congrArg₂ (dvPart m c t · k ·) (Fin.ext (show x.val / 64 = j.val by omega)) (Fin.ext (show x.val % 64 = d.val by omega))

/-- A lane of the pair is one of its first head's, or one of its second's. -/
theorem lane_cases (x : Fin 128) : (∃ d : Fin 64, x = ⟨64 * (0 : Fin 2).val + d.val, lane_lt 0 d⟩) ∨ ∃ d : Fin 64, x = ⟨64 * (1 : Fin 2).val + d.val, lane_lt 1 d⟩ := by
  rcases Nat.lt_or_ge x.val 64 with h | h
  · exact .inl ⟨⟨x.val, h⟩, Fin.ext (Nat.zero_add _).symm⟩
  · exact .inr ⟨⟨x.val - 64, by omega⟩, Fin.ext (show x.val = 64 + (x.val - 64) by omega)⟩
theorem lt_0 : ∀ d : Fin 64, IntOp.cmpi CmpIPredicate.slt (BitVec.ofNat 32 (64 * (0 : Fin 2).val + d.val)) 64#32 = 1#1 := by decide +kernel
theorem ge_0 : ∀ d : Fin 64, IntOp.cmpi CmpIPredicate.sge (BitVec.ofNat 32 (64 * (0 : Fin 2).val + d.val)) 64#32 = 0#1 := by decide +kernel
theorem lt_1 : ∀ d : Fin 64, IntOp.cmpi CmpIPredicate.slt (BitVec.ofNat 32 (64 * (1 : Fin 2).val + d.val)) 64#32 = 0#1 := by decide +kernel
theorem ge_1 : ∀ d : Fin 64, IntOp.cmpi CmpIPredicate.sge (BitVec.ofNat 32 (64 * (1 : Fin 2).val + d.val)) 64#32 = 1#1 := by decide +kernel
theorem part9_0 (c : Dev nD) (t : Fin cfg0.N) (k : Fin 2176) (d : Fin 64) :
    part9 m c t (ix2 k ⟨64 * (0 : Fin 2).val + d.val, lane_lt 0 d⟩) = dvPart m c t 0 k d := part9_at m c t k 0 d _ rfl
theorem part9_1 (c : Dev nD) (t : Fin cfg0.N) (k : Fin 2176) (d : Fin 64) :
    part9 m c t (ix2 k ⟨64 * (1 : Fin 2).val + d.val, lane_lt 1 d⟩) = dvPart m c t 1 k d := part9_at m c t k 1 d _ rfl
theorem sel_1 (a b : EReal) : Scalar.select 1#1 a b = a := rfl
theorem sel_0 (a b : EReal) : Scalar.select 0#1 a b = b := rfl

set_option maxHeartbeats 4000000 in
theorem step9 (c : Dev nD) (t : Fin cfg0.N) (h : ¬ t.val % 2 = 0) (y : S2176x128.Idx) : (outsAt0 m c t.val t.isLt).2.2 y
    = (show EReal from (outsAt0 m c (t.val - 1) (Nat.lt_of_le_of_lt (Nat.sub_le _ _) t.isLt)).2.2 y) + part9 m c t y := by
  obtain ⟨G, hG⟩ : ∃ G : S2176x128.Idx → EReal, ∀ y, G y = (show EReal from (outsAt0 m c (t.val - 1) (Nat.lt_of_le_of_lt (Nat.sub_le _ _) t.isLt)).2.2 y)
      + part9 m c t y := ⟨_, fun _ => rfl⟩
  rw [outsAt0_B m c t h, ← hG]
  frame_out
  refine View.canon_append_of_piecesOf (Val := Elt Ideal) (e := .f32) G
    [] [_, _, _, _] ⟨?_, ?_, ?_, ?_, trivial⟩ y (View.cover_of_tiledBy _ ![128, 128] (by sl_kernel_rfl) y)
  all_goals refine Cert.Common.piece_at G (by decide) _ fun x0 x1 => ?_
  all_goals open_payloads
  all_goals pointwise []
  all_goals
    rcases lane_cases x1 with ⟨d, rfl⟩ | ⟨d, rfl⟩
    · simp only [hG, part9_0, dvPart, lt_0, ge_0, sel_0, sel_1, Finset.sum_const_zero, add_zero, blk3, blk5_lo, blk6]
    · simp only [hG, part9_1, dvPart, lt_1, ge_1, sel_0, sel_1, Finset.sum_const_zero, zero_add, blk3, blk5_hi, blk6]

set_option maxHeartbeats 4000000 in
theorem reset9 (c : Dev nD) (t : Fin cfg0.N) (h : t.val % 2 = 0) (y : S2176x128.Idx) : (outsAt0 m c t.val t.isLt).2.2 y = part9 m c t y := by
  obtain ⟨G, hG⟩ : ∃ G : S2176x128.Idx → EReal, ∀ y, G y = part9 m c t y := ⟨_, fun _ => rfl⟩
  rw [outsAt0_A m c t h, ← hG]
  frame_open
  simp (disch := decide) only [↓ View.readCov_skip, ↓ View.readCov_cons_toLoadRect, ↓ View.readCov_fill]
  frame_out
  refine View.canon_append_of_piecesOf (Val := Elt Ideal) (e := .f32) G
    [_] [_, _, _, _] ⟨?_, ?_, ?_, ?_, trivial⟩ y (View.cover_of_tiledBy _ ![128, 128] (by sl_kernel_rfl) y)
  all_goals refine Cert.Common.piece_at G (by decide) _ fun x0 x1 => ?_
  all_goals open_payloads
  all_goals pointwise []
  all_goals
    rcases lane_cases x1 with ⟨d, rfl⟩ | ⟨d, rfl⟩
    · simp only [hG, part9_0, dvPart, lt_0, ge_0, sel_0, sel_1, Finset.sum_const_zero, add_zero, blk3, blk5_lo, blk6]
    · simp only [hG, part9_1, dvPart, lt_1, ge_1, sel_0, sel_1, Finset.sum_const_zero, zero_add, blk3, blk5_hi, blk6]

end Cert.AttnBwdIdeal.Value

end
-- ==== Proof.AttnFinal.lean ====
/- The attention's backward call: what its three result arrays hold after the run, as functions of the arrays the
   call is entered with. -/
module

public import proofs.«01_k».proof.Proof.AttnValue

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 4000000 in
theorem final7 (c : Dev nD) (G : S4352x1024.Idx → EReal) (hG : ∀ b q h x, G (ix2 (row b q) (wcol h x)) = dqK m c b q h x) :
    (dats m 0 c).arrAt 7 (cfgs 0).N = G := by
  refine (dats m 0 c).arrAt_eq_of_covers 7 _ (by decide +kernel) fun t _ y => ?_
  have ht := t_lt t
  blk_simp
  rw [after0_7]
  by_cases h : t.val % 2 = 0
  on_goal 1 => rw [outsAt0_A m c t h]
  on_goal 2 => rw [outsAt0_B m c t h]
  all_goals
    frame_out
    canon_tiles x h
    · open_payloads
      idx_vars x
      pointwise []
      simp only [sum_hi, blk0_hi, blk1_hi, blk2, blk3, blk4, blk5_hi, blk6]
      refine Eq.trans ?_ ((hG (tb t) (tq t x0) (th t 1) x1).symm.trans (congrArg G ?_))
      · exact sum_chunks fun k => ds m c (tb t) (th t 1) (tq t x0) k * kE m c (tb t) k (th t 1) x1
      · blk_ext [idx t, row, wcol, tb, tq, th]
    · open_payloads
      idx_vars x
      pointwise []
      simp only [sum_lo, blk0_lo, blk1_lo, blk2, blk3, blk4, blk5_lo, blk6]
      refine Eq.trans ?_ ((hG (tb t) (tq t x0) (th t 0) x1).symm.trans (congrArg G ?_))
      · exact sum_chunks fun k => ds m c (tb t) (th t 0) (tq t x0) k * kE m c (tb t) k (th t 0) x1
      · blk_ext [idx t, row, wcol, tb, tq, th]

/-! ### The gradients of the keys and of the values: two blocks of queries each -/

/-- The block of queries before an odd one: the other half of the same sequence. -/
def prev (t : Fin cfg0.N) : Fin cfg0.N := ⟨t.val - 1, Nat.lt_of_le_of_lt (Nat.sub_le _ _) t.isLt⟩

theorem two_blocks (t : Fin cfg0.N) (h : t.val % 2 = 1) (j : Fin 2) (f : Fin 2 → Fin 8 → Fin 2176 → EReal) :
    (∑ y : Fin 1088, f (tb (prev t)) (th (prev t) j) (tq (prev t) y)) + ∑ y : Fin 1088, f (tb t) (th t j) (tq t y)
      = ∑ q : Fin 2176, f (tb t) (th t j) q := by
  have hb : tb (prev t) = tb t := Fin.ext (show (t.val - 1) / 8 = t.val / 8 by omega)
  have hh : th (prev t) j = th t j := Fin.ext (show 2 * ((t.val - 1) / 2 % 4) + j.val = 2 * (t.val / 2 % 4) + j.val by omega)
  have h0 : ∀ y, tq (prev t) y = ⟨y.val, by omega⟩ := fun y => Fin.ext (show 1088 * ((t.val - 1) % 2) + y.val = y.val by omega)
  have h1 : ∀ y, tq t y = ⟨1088 + y.val, by omega⟩ := fun y => Fin.ext (show 1088 * (t.val % 2) + y.val = 1088 + y.val by omega)
  simp only [hb, hh, h0, h1]
  exact (Fin.sum_univ_two_halves 1088 1088 rfl fun q => f (tb t) (th t j) q).symm

/-- A lane of the pair's block lies in its first head's lanes, or in its second's. -/
theorem wide_cases (x : Fin 256) : (∃ d : Fin 128, x = ⟨d.val, by omega⟩) ∨ ∃ d : Fin 128, x = ⟨128 + d.val, by omega⟩ := by
  rcases Nat.lt_or_ge x.val 128 with h | h
  · exact .inl ⟨⟨x.val, h⟩, rfl⟩
  · exact .inr ⟨⟨x.val - 128, by omega⟩, Fin.ext (show x.val = 128 + (x.val - 128) by omega)⟩

theorem final8 (c : Dev nD) (G : S4352x1024.Idx → EReal) (hG : ∀ b k h x, G (ix2 (row b k) (wcol h x)) = ∑ q : Fin 2176, ds m c b h q k * qE m c b q h x) :
    (dats m 0 c).arrAt 8 (cfgs 0).N = G := by
  refine (dats m 0 c).arrAt_eq_of_covers 8 _ (by decide +kernel) fun t hf y => ?_
  have ht := t_lt t
  have h1 : t.val % 2 = 1 := (flush0_8 t).mp hf
  blk_simp
  rw [after0_8, step8 m c t (by omega)]
  refine (congrArg (· + _) (reset8 m c (prev t) (show (t.val - 1) % 2 = 0 by omega) y)).trans ?_
  idx_vars y
  rcases wide_cases y1 with ⟨x, rfl⟩ | ⟨x, rfl⟩
  · rw [part8_lo, part8_lo]
    refine Eq.trans (two_blocks t h1 0 fun b h q => ds m c b h q y0 * qE m c b q h x) ((hG (tb t) y0 (th t 0) x).symm.trans (congrArg G ?_))
    blk_ext [idx t, row, wcol, tb, th]
  · rw [part8_hi, part8_hi]
    refine Eq.trans (two_blocks t h1 1 fun b h q => ds m c b h q y0 * qE m c b q h x) ((hG (tb t) y0 (th t 1) x).symm.trans (congrArg G ?_))
    blk_ext [idx t, row, wcol, tb, th]

theorem final9 (c : Dev nD) (G : S4352x512.Idx → EReal)
    (hG : ∀ b k h d, G (ix2 (row b k) (vcol h d)) = ∑ q : Fin 2176, pE m c b h q k * (doE m c b q h d * Ideal.div 1 (lE m c b q h))) :
    (dats m 0 c).arrAt 9 (cfgs 0).N = G := by
  refine (dats m 0 c).arrAt_eq_of_covers 9 _ (by decide +kernel) fun t hf y => ?_
  have ht := t_lt t
  have h1 : t.val % 2 = 1 := (flush0_9 t).mp hf
  blk_simp
  rw [after0_9, step9 m c t (by omega)]
  refine (congrArg (· + _) (reset9 m c (prev t) (show (t.val - 1) % 2 = 0 by omega) y)).trans ?_
  idx_vars y
  rcases lane_cases y1 with ⟨d, rfl⟩ | ⟨d, rfl⟩
  · rw [part9_0, part9_0]
    refine Eq.trans (two_blocks t h1 0 fun b h q => pE m c b h q y0 * (doE m c b q h d * Ideal.div 1 (lE m c b q h))) ((hG (tb t) y0 (th t 0) d).symm.trans (congrArg G ?_))
    blk_ext [idx t, row, vcol, tb, th]
  · rw [part9_1, part9_1]
    refine Eq.trans (two_blocks t h1 1 fun b h q => pE m c b h q y0 * (doE m c b q h d * Ideal.div 1 (lE m c b q h))) ((hG (tb t) y0 (th t 1) d).symm.trans (congrArg G ?_))
    blk_ext [idx t, row, vcol, tb, th]

end Cert.AttnBwdIdeal.Value

end
-- ==== Proof.AttnRef.lean ====
/- The attention's gradients as the reference states them, read at an index. -/
module

public import proofs.«01_k».proof.Proof.Gen.AttnBwdRefIdeal.Read
public import Idealize.ShloMosaic.Lib.Pointwise
public import proofs.«01_k».proof.Proof.Common

@[expose] public section

set_option maxRecDepth 16384

noncomputable section

namespace Cert.AttnBwdRefIdeal.Read

open Cert.AttnBwdRefIdeal Cert.AttnBwdRefIdeal.Gen Idealize.ShloMosaic Idealize.ShloMosaic.TcCoe Idealize.SL.Sem
open Cert.Common

variable (x0 x1 : FVec Ideal S2x8x2064x96 .f32) (x2 : FVec Ideal S2x8x2064x64 .f32) (x3 : FVec Ideal S2x2064x512 .f32)

/-- A scaled score. -/
def sR (b : Fin 2) (h : Fin 8) (q k : Fin 2064) : EReal :=
  (∑ x : Fin 96, x0 (ix4 b h q x) * x1 (ix4 b h k x)) * Ideal.ofBits FTy.f32 1037108716#32
/-- A row's largest score. -/
def topR (b : Fin 2) (h : Fin 8) (q : Fin 2064) : EReal :=
  max (Ideal.ofBits FTy.f32 4286578688#32) (Finset.fold max (Ideal.ofBits FTy.f32 4286578688#32) (fun k => sR x0 x1 b h q k) Finset.univ)
/-- The exponential of a score less the largest. -/
def eR (b : Fin 2) (h : Fin 8) (q k : Fin 2064) : EReal := Ideal.exp (sR x0 x1 b h q k - topR x0 x1 b h q)
/-- A row's sum of exponentials. -/
def lR (b : Fin 2) (h : Fin 8) (q : Fin 2064) : EReal := ∑ k : Fin 2064, eR x0 x1 b h q k
/-- The gradient at a weight. -/
def dpR (b : Fin 2) (h : Fin 8) (q k : Fin 2064) : EReal :=
  ∑ d : Fin 64, x3 (ix3 b q ⟨h.val * 64 + d.val, by omega⟩) * x2 (ix4 b h k d)
/-- The gradient at a score, before the scale. -/
def dsR (b : Fin 2) (h : Fin 8) (q k : Fin 2064) : EReal :=
  (Ideal.div (dpR x2 x3 b h q k) (lR x0 x1 b h q)
      + -(∑ j : Fin 2064, dpR x2 x3 b h q j * Ideal.div 1 (lR x0 x1 b h q * lR x0 x1 b h q) * eR x0 x1 b h q j))
    * eR x0 x1 b h q k * Ideal.ofBits FTy.f32 1037108716#32

theorem v2_at (b : Fin 2) (h : Fin 8) (q k : Fin 2064) : val_main_v2 (F := Ideal) x0 x1 (ix4 b h q k) = sR x0 x1 b h q k := by
  pointwise [val_main_v0, val_main_v1, val_main_v2, val_main_cst]
  rfl
/-- The largest entry of each row of any array of the scores' shape. -/
theorem rowMax_at (y : FVec Ideal S2x8x2064x2064 .f32) (v : FVec Ideal S_ .f32) (b : Fin 2) (h : Fin 8) (q : Fin 2064) :
    Host.reduce FloatOps.maximumf y v reducesTo_S2x8x2064x2064_S2x8x2064_d3 h_S_ (ix3 b h q) = Finset.fold max (v (Shape.Idx.first h_S_)) (fun k => y (ix4 b h q k)) Finset.univ := by
  pointwise
theorem v10_at (b : Fin 2) (h : Fin 8) (q : Fin 2064) : val_main_v10 (F := Ideal) x0 x1 (ix3 b h q) = topR x0 x1 b h q := by
  rw [val_main_v10_apply]
  unfold topR val_main_v3
  rw [rowMax_at]
  simp only [v2_at]
  pointwise [val_main_v9, val_main_cst_0, val_main_cst_2]
theorem v23_at (b : Fin 2) (h : Fin 8) (q k : Fin 2064) : val_main_v23 (F := Ideal) x0 x1 (ix4 b h q k) = eR x0 x1 b h q k := by
  pointwise [val_main_v23, val_main_v22, val_main_v21, val_main_v20]
  simp only [v2_at, v10_at]
  rfl
theorem v24_at (b : Fin 2) (h : Fin 8) (q : Fin 2064) : val_main_v24 (F := Ideal) x0 x1 (ix3 b h q) = lR x0 x1 b h q := by
  pointwise [val_main_v24, val_main_cst_8]
  simp only [v23_at]
  rfl
theorem v38_at (b : Fin 2) (h : Fin 8) (q k : Fin 2064) : val_main_v38 (F := Ideal) x2 x3 (ix4 b h q k) = dpR x2 x3 b h q k := by
  pointwise [val_main_v38, val_main_v35, val_main_v34]
  rfl
theorem v52_at (b : Fin 2) (h : Fin 8) (q k : Fin 2064) : val_main_v52 (F := Ideal) x0 x1 x2 x3 (ix4 b h q k) = dsR x0 x1 x2 x3 b h q k := by
  pointwise [val_main_v52, val_main_v51, val_main_v50, val_main_v49, val_main_v48, val_main_v47, val_main_v46, val_main_v45, val_main_v44, val_main_v43, val_main_v42, val_main_v41, val_main_v40, val_main_v39, val_main_v30, val_main_v29, val_main_v28, val_main_v25, val_main_cst_9, val_main_cst_10, val_main_cst_11, val_main_cst_12]
  simp only [v23_at, v24_at, v38_at, Fin.sum_univ_one, dsR]

/-- The queries' gradient, in its padded layout. -/
theorem v61_at (r : Fin 4352) (w : Fin 1024) : val_main_v61 (F := Ideal) x0 x1 x2 x3 (ix2 r w) =
    if h : 112 ≤ r.val % 2176 ∧ w.val % 128 < 96 then
      ∑ k : Fin 2064, dsR x0 x1 x2 x3 ⟨r.val / 2176, by omega⟩ ⟨w.val / 128, by omega⟩ ⟨r.val % 2176 - 112, by omega⟩ k * x1 (ix4 ⟨r.val / 2176, by omega⟩ ⟨w.val / 128, by omega⟩ k ⟨w.val % 128, h.2⟩)
    else 0 := by
  pointwise [val_main_v61, val_main_v60, val_main_v59, val_main_v58, val_main_v57, val_main_v56, val_main_v55, val_main_v54, val_main_cst_13, val_main_cst_14]
  simp only [v52_at]
  by_cases h1 : r.val % 2176 < 112
  · simp only [h1, show ¬ 112 ≤ r.val % 2176 by omega, false_and, dite_true, dite_false]
  · by_cases h2 : w.val % 128 < 96
    · simp only [h1, h2, show 112 ≤ r.val % 2176 by omega, true_and, dite_true, dite_false]
    · simp only [h1, h2, and_false, dite_false]
/-- The keys' gradient. -/
theorem v68_at (r : Fin 4352) (w : Fin 1024) : val_main_v68 (F := Ideal) x0 x1 x2 x3 (ix2 r w) =
    if h : 112 ≤ r.val % 2176 ∧ w.val % 128 < 96 then
      ∑ q : Fin 2064, dsR x0 x1 x2 x3 ⟨r.val / 2176, by omega⟩ ⟨w.val / 128, by omega⟩ q ⟨r.val % 2176 - 112, by omega⟩ * x0 (ix4 ⟨r.val / 2176, by omega⟩ ⟨w.val / 128, by omega⟩ q ⟨w.val % 128, h.2⟩)
    else 0 := by
  pointwise [val_main_v68, val_main_v67, val_main_v66, val_main_v65, val_main_v64, val_main_v63, val_main_v62, val_main_v53, val_main_cst_15, val_main_cst_16]
  simp only [v52_at]
  by_cases h1 : r.val % 2176 < 112
  · simp only [h1, show ¬ 112 ≤ r.val % 2176 by omega, false_and, dite_true, dite_false]
  · by_cases h2 : w.val % 128 < 96
    · simp only [h1, h2, show 112 ≤ r.val % 2176 by omega, true_and, dite_true, dite_false]
    · simp only [h1, h2, and_false, dite_false]
/-- The values' gradient. -/
theorem v73_at (r : Fin 4352) (w : Fin 512) : val_main_v73 (F := Ideal) x0 x1 x3 (ix2 r w) =
    if 112 ≤ r.val % 2176 then
      ∑ q : Fin 2064, x3 (ix3 ⟨r.val / 2176, by omega⟩ q w) *
        Ideal.div (eR x0 x1 ⟨r.val / 2176, by omega⟩ ⟨w.val / 64, by omega⟩ q ⟨r.val % 2176 - 112, by omega⟩) (lR x0 x1 ⟨r.val / 2176, by omega⟩ ⟨w.val / 64, by omega⟩ q)
    else 0 := by
  pointwise [val_main_v73, val_main_v72, val_main_v71, val_main_v70, val_main_v69, val_main_v37, val_main_v36, val_main_v35, val_main_v34, val_main_v27, val_main_v26, val_main_v25, val_main_cst_17]
  simp only [v23_at, v24_at]
  by_cases h1 : r.val % 2176 < 112
  · simp only [h1, show ¬ 112 ≤ r.val % 2176 by omega, if_false, dite_true, dite_false]
  · simp only [h1, show 112 ≤ r.val % 2176 by omega, if_true, dite_false]

end Cert.AttnBwdRefIdeal.Read

end
-- ==== Proof.AttnMath.lean ====
/- The softmax's gradient over the reals: the kernel's way to write it and the reference's are equal. Nothing here speaks of
   a program. -/
module

public import proofs.«01_k».proof.Proof.Common

@[expose] public section

set_option maxRecDepth 16384

noncomputable section

namespace Cert.AttnMath

open Idealize.ShloMosaic Cert.Common

theorem word_bot : Ideal.ofBits FTy.f32 4286578688#32 = (⊥ : EReal) := by
  simp [Ideal.ofBits, Ideal.ieee]
/-- The scale of the scores, as its word has it. -/
def sc : ℝ := (13698540 : ℝ) / 2 ^ 27
theorem sc_pos : 0 < sc := by unfold sc; positivity
theorem word_sc : Ideal.ofBits FTy.f32 1037108716#32 = (sc : EReal) := by
  simp [Ideal.ofBits, Ideal.ieee, -EReal.coe_mul, sc]; norm_num

/-- A maximum over values below +∞, one of them above −∞, is a real. -/
theorem fold_max_real {n : ℕ} (f : Fin n → EReal) (h : ∀ k, f k < ⊤) (k₀ : Fin n) (h₀ : ⊥ < f k₀) :
    ∃ r : ℝ, Finset.fold max (⊥ : EReal) f Finset.univ = (r : EReal) := by
  have ht : Finset.fold max (⊥ : EReal) f Finset.univ < ⊤ := (Finset.fold_max_lt _).2 ⟨bot_lt_top, fun k _ => h k⟩
  have hb : ⊥ < Finset.fold max (⊥ : EReal) f Finset.univ := (Finset.lt_fold_max _).2 (Or.inr ⟨k₀, Finset.mem_univ _, h₀⟩)
  exact ⟨_, (EReal.coe_toReal ht.ne hb.ne').symm⟩

/-- The exponential of −∞ less a real, scaled, is nought. -/
theorem exp_bot (T : ℝ) : Ideal.exp (((⊥ : EReal) - (T : EReal)) * (sc : EReal)) = 0 := by
  rw [EReal.bot_sub, EReal.bot_mul_coe_of_pos sc_pos]
  rfl

variable {n : ℕ} (s : Fin n → ℝ) (T M : ℝ)

/-- An exponential less one shift is a multiple of that less another. -/
theorem exp_shift (j : Fin n) : Real.exp ((s j - T) * sc) = Real.exp (M - T * sc) * Real.exp (s j * sc - M) := by
  rw [← Real.exp_add]
  exact congrArg Real.exp (by ring)
theorem sum_exp_shift : ∑ j, Real.exp ((s j - T) * sc) = Real.exp (M - T * sc) * ∑ j, Real.exp (s j * sc - M) := by
  rw [Finset.mul_sum]
  exact Finset.sum_congr rfl fun j _ => exp_shift s T M j
theorem sum_exp_pos (f : Fin n → ℝ) (k : Fin n) : 0 < ∑ j, Real.exp (f j) :=
  Finset.sum_pos (fun j _ => Real.exp_pos _) ⟨k, Finset.mem_univ _⟩

/-- A weight does not depend on the shift. -/
theorem weight_eq (k : Fin n) : Real.exp ((s k - T) * sc) / ∑ j, Real.exp ((s j - T) * sc)
    = Real.exp (s k * sc - M) / ∑ j, Real.exp (s j * sc - M) := by
  rw [exp_shift s T M, sum_exp_shift s T M, mul_div_mul_left _ _ (Real.exp_pos _).ne']

/-- The gradient at a score: from the weighted row as the kernel has it, and as the quotient's derivative. -/
theorem score_eq {p : ℕ} (g : Fin p → ℝ) (v : Fin n → Fin p → ℝ) (k : Fin n) :
    Real.exp ((s k - T) * sc) * ((∑ d, g d * v k d) - ∑ d, g d * ((∑ j, Real.exp ((s j - T) * sc) * v j d) / ∑ j, Real.exp ((s j - T) * sc)))
        * (1 / (∑ j, Real.exp ((s j - T) * sc)) * sc)
      = ((∑ d, g d * v k d) / (∑ j, Real.exp (s j * sc - M))
          + -(∑ j, (∑ d, g d * v j d) * (1 / ((∑ i, Real.exp (s i * sc - M)) * (∑ i, Real.exp (s i * sc - M)))) * Real.exp (s j * sc - M)))
        * Real.exp (s k * sc - M) * sc := by
  have hL := sum_exp_pos (fun j => s j * sc - M) k
  have ha := Real.exp_pos (M - T * sc)
  rw [sum_exp_shift s T M, exp_shift s T M]
  set L := ∑ j, Real.exp (s j * sc - M)
  set a := Real.exp (M - T * sc)
  have h1 : ∑ d, g d * ((∑ j, Real.exp ((s j - T) * sc) * v j d) / (a * L)) = (∑ j, (∑ d, g d * v j d) * Real.exp (s j * sc - M)) / L := by
    have e : ∀ d, g d * ((∑ j, Real.exp ((s j - T) * sc) * v j d) / (a * L)) = ∑ j, g d * v j d * Real.exp (s j * sc - M) / L := fun d => by
      rw [Finset.sum_div, Finset.mul_sum]
      refine Finset.sum_congr rfl fun j _ => ?_
      rw [exp_shift s T M]
      field_simp
      ring
    simp only [e]
    rw [Finset.sum_comm, Finset.sum_div]
    refine Finset.sum_congr rfl fun j _ => ?_
    rw [Finset.sum_mul, Finset.sum_div]
  have h2 : ∑ j, (∑ d, g d * v j d) * (1 / (L * L)) * Real.exp (s j * sc - M) = (∑ j, (∑ d, g d * v j d) * Real.exp (s j * sc - M)) / (L * L) := by
    rw [Finset.sum_div]
    exact Finset.sum_congr rfl fun j _ => by ring
  rw [h1, h2]
  field_simp
  ring

end Cert.AttnMath

end
-- ==== Proof.AttnEq.lean ====
/- The attention's backward call: the kernel's gradients and the reference's are equal. -/
module

public import proofs.«01_k».proof.Proof.AttnEntry
public import proofs.«01_k».proof.Proof.AttnFinal
public import proofs.«01_k».proof.Proof.AttnRef
public import proofs.«01_k».proof.Proof.AttnMath

@[expose] public section

set_option maxRecDepth 16384

noncomputable section

namespace Cert.AttnEq

open Idealize.ShloMosaic Cert.Common Cert.AttnMath
open Cert.AttnBwdIdeal Cert.AttnBwdIdeal.Value Cert.AttnBwdRefIdeal.Read

variable (m : (ℓ : Loc nD τ sig) → Buf (Elt Ideal) ℓ) (c : Dev nD)

/-- The arrays the program is entered with: queries, keys, values, and the gradient of the attention's output. -/
abbrev A0 : FVec Ideal S2x8x2064x96 .f32 := m (c, Proc.tc.devRef main_arg0)
abbrev A1 : FVec Ideal S2x8x2064x96 .f32 := m (c, Proc.tc.devRef main_arg1)
abbrev A2 : FVec Ideal S2x8x2064x64 .f32 := m (c, Proc.tc.devRef main_arg2)
abbrev A3 : FVec Ideal S2x2064x512 .f32 := m (c, Proc.tc.devRef main_arg3)

/-- A token's row behind the padding. -/
def up (k : Fin 2064) : Fin 2176 := ⟨112 + k.val, by omega⟩
theorem up_ge (k : Fin 2064) : 112 ≤ (up k).val := by simp [up]
theorem up_sub (k : Fin 2064) : (⟨(up k).val - 112, tok_lt (up k)⟩ : Fin 2064) = k := Fin.ext (by simp [up])
theorem eq_up {k : Fin 2176} (h : 112 ≤ k.val) : k = up ⟨k.val - 112, tok_lt k⟩ := Fin.ext (by simp only [up]; omega)

/-- A sum over the padded rows whose padding is nought. -/
theorem sum_up (f : Fin 2176 → EReal) (h : ∀ k, k.val < 112 → f k = 0) : ∑ k, f k = ∑ k : Fin 2064, f (up k) := by
  rw [Fin.sum_univ_two_halves 112 2064 rfl f]
  rw [Finset.sum_eq_zero fun k _ => h _ (by simp), zero_add]
  rfl

theorem ge_cond : ∀ k : Fin 2176, IntOp.cmpi CmpIPredicate.sge (BitVec.ofNat 32 k.val) 112#32 = if 112 ≤ k.val then 1#1 else 0#1 := by
  decide +kernel

variable {m c} {Q K : S2x8x2064x96.Idx → ℝ} {V : S2x8x2064x64.Idx → ℝ} {D : S2x2064x512.Idx → ℝ}

/-- A score of reals. -/
def sr (Q K : S2x8x2064x96.Idx → ℝ) (b : Fin 2) (h : Fin 8) (q k : Fin 2064) : ℝ := ∑ x : Fin 96, Q (ix4 b h q x) * K (ix4 b h k x)
theorem vcol_eq (h : Fin 8) (d : Fin 64) (p) : (⟨h.val * 64 + d.val, p⟩ : Fin 512) = vcol h d := Fin.ext (by simp only [vcol]; omega)

section kernel
variable (e0 : A0 m c = fun i => (Q i : EReal)) (e1 : A1 m c = fun i => (K i : EReal))
include e0 e1

theorem sK_up (b : Fin 2) (h : Fin 8) (q k : Fin 2064) : sK m c b h (up q) (up k) = (sr Q K b h q k : EReal) := by
  unfold sK qP kP sr
  rw [ge_cond, if_pos (up_ge k)]
  simp only [if_pos (up_ge _), up_sub, coe_sum, EReal.coe_mul]
  exact (if_pos rfl).trans (Finset.sum_congr rfl fun x _ => congrArg₂ (fun x1 x2 : EReal => x1 * x2) (congrFun e0 _) (congrFun e1 _))
theorem sK_pad (b : Fin 2) (h : Fin 8) (q : Fin 2176) {k : Fin 2176} (hk : k.val < 112) : sK m c b h q k = ⊥ := by
  unfold sK
  rw [ge_cond, if_neg (by omega)]
  exact word_bot

/-- A true row's exponentials: real ones under some shift, and nought at the padding. -/
theorem eK_row (b : Fin 2) (h : Fin 8) (q : Fin 2064) : ∃ T : ℝ, (∀ k, k.val < 112 → eK m c b h (up q) k = 0) ∧
    ∀ k, eK m c b h (up q) (up k) = ((Real.exp ((sr Q K b h q k - T) * sc) : ℝ) : EReal) := by
  have hT : ∃ T : ℝ, Finset.fold max (⊥ : EReal) (fun k => sK m c b h (up q) k) Finset.univ = (T : EReal) := by
    refine fold_max_real _ (fun k => ?_) (up 0) (by rw [sK_up e0 e1]; exact EReal.bot_lt_coe _)
    by_cases hk : k.val < 112
    · rw [sK_pad e0 e1 _ _ _ hk]; exact bot_lt_top
    · rw [eq_up (not_lt.1 hk), sK_up e0 e1]; exact EReal.coe_lt_top _
  obtain ⟨T, hT⟩ := hT
  refine ⟨T, fun k hk => ?_, fun k => ?_⟩
  · unfold eK
    rw [word_bot, hT, sK_pad e0 e1 _ _ _ hk, word_sc, exp_bot]
  · unfold eK
    rw [word_bot, hT, sK_up e0 e1, word_sc, ← EReal.coe_sub, ← EReal.coe_mul]
    rfl

end kernel

section reference
variable (e0 : A0 m c = fun i => (Q i : EReal)) (e1 : A1 m c = fun i => (K i : EReal))
include e0 e1

/-- A row's exponentials in the reference: real ones under some shift. -/
theorem eR_row (b : Fin 2) (h : Fin 8) (q : Fin 2064) : ∃ M : ℝ,
    ∀ k, eR (A0 m c) (A1 m c) b h q k = ((Real.exp (sr Q K b h q k * sc - M) : ℝ) : EReal) := by
  have hs : ∀ k, sR (A0 m c) (A1 m c) b h q k = ((sr Q K b h q k * sc : ℝ) : EReal) := fun k => by
    unfold sR sr
    rw [e0, e1, word_sc, EReal.coe_mul, coe_sum]
    simp only [EReal.coe_mul]
  obtain ⟨M, hM⟩ : ∃ M : ℝ, Finset.fold max (⊥ : EReal) (fun k => sR (A0 m c) (A1 m c) b h q k) Finset.univ = (M : EReal) :=
    fold_max_real _ (fun k => by rw [hs]; exact EReal.coe_lt_top _) 0 (by rw [hs]; exact EReal.bot_lt_coe _)
  refine ⟨M, fun k => ?_⟩
  unfold eR topR
  rw [hs, word_bot, hM, max_eq_right bot_le, ← EReal.coe_sub]
  rfl

end reference

section equal
variable (e0 : A0 m c = fun i => (Q i : EReal)) (e1 : A1 m c = fun i => (K i : EReal))
  (e2 : A2 m c = fun i => (V i : EReal)) (e3 : A3 m c = fun i => (D i : EReal))
include e0 e1

/-- The weights agree: the kernel divides the output's gradient, the reference the exponential. -/
theorem weight_up (b : Fin 2) (h : Fin 8) (q k : Fin 2064) (g : EReal) :
    pE m c b h (up q) (up k) * (g * Ideal.div 1 (lE m c b (up q) h)) = g * Ideal.div (eR (A0 m c) (A1 m c) b h q k) (lR (A0 m c) (A1 m c) b h q) := by
  obtain ⟨T, h0, hk⟩ := eK_row e0 e1 b h q
  obtain ⟨M, hr⟩ := eR_row e0 e1 b h q
  unfold lR
  rw [pE_eq, lE_eq, sum_up _ h0]
  simp only [hk, hr, ← coe_sum]
  rw [Ideal.div_coe (sum_exp_pos _ k).ne', Ideal.div_coe (sum_exp_pos _ k).ne']
  have e := weight_eq (fun j => sr Q K b h q j) T M k
  simp only [div_eq_mul_one_div (Real.exp _)] at e
  rw [← EReal.coe_mul, ← e, EReal.coe_mul, one_mul, mul_left_comm]

include e2 e3

/-- The scores' gradients agree. -/
theorem ds_up (b : Fin 2) (h : Fin 8) (q k : Fin 2064) :
    ds m c b h (up q) (up k) = dsR (A0 m c) (A1 m c) (A2 m c) (A3 m c) b h q k := by
  obtain ⟨T, h0, hk⟩ := eK_row e0 e1 b h q
  obtain ⟨M, hr⟩ := eR_row e0 e1 b h q
  have hv : ∀ k d, vP m c b h (up k) d = (V (ix4 b h k d) : EReal) := fun k d => by
    unfold vP
    rw [if_pos (up_ge k), up_sub]
    exact congrFun e2 _
  have hvE : ∀ k d, vE m c b (up k) h d = (V (ix4 b h k d) : EReal) := fun k d => by
    rw [vE_eq, dif_pos (up_ge k), up_sub]
    exact congrFun e2 _
  have hd : ∀ d, doE m c b (up q) h d = (D (ix3 b q (vcol h d)) : EReal) := fun d => by
    rw [doE_eq, dif_pos (up_ge q), up_sub]
    exact congrFun e3 _
  have hL := sum_exp_pos (fun j => (sr Q K b h q j - T) * sc) k
  have hL' := sum_exp_pos (fun j => sr Q K b h q j * sc - M) k
  have hl : lE m c b (up q) h = ((∑ j, Real.exp ((sr Q K b h q j - T) * sc) : ℝ) : EReal) := by
    rw [lE_eq, sum_up _ h0]
    simp only [hk, ← coe_sum]
  have ho : ∀ d, oE m c b (up q) h d = (((∑ j, Real.exp ((sr Q K b h q j - T) * sc) * V (ix4 b h j d)) / ∑ j, Real.exp ((sr Q K b h q j - T) * sc) : ℝ) : EReal) := fun d => by
    rw [oE_eq, ← lE_eq, hl, sum_up _ fun j hj => by rw [h0 j hj, zero_mul]]
    simp only [hk, hv, ← EReal.coe_mul, ← coe_sum]
    rw [Ideal.div_coe hL.ne', ← EReal.coe_mul, ← div_eq_mul_one_div]
  unfold ds dsR dpR lR
  rw [e2, e3]
  simp only [pE_eq, hl, ho, hd, hvE, hk, hr, word_sc, vcol_eq, ← EReal.coe_mul, ← coe_sum]
  rw [Ideal.div_coe hL.ne', Ideal.div_coe hL'.ne', Ideal.div_coe (mul_pos hL' hL').ne']
  simp only [one_mul, ← EReal.coe_mul, ← coe_sum, ← EReal.coe_sub, ← EReal.coe_neg, ← EReal.coe_add]
  refine congrArg _ ?_
  have e := score_eq (fun j => sr Q K b h q j) T M (fun d => D (ix3 b q (vcol h d))) (fun j d => V (ix4 b h j d)) k
  rw [div_eq_mul_one_div (∑ d, _ * V (ix4 b h k d))] at e
  exact e

/-- Nought where the gradient of the output is padding. -/
theorem ds_pad {b : Fin 2} {h : Fin 8} {q : Fin 2176} (hq : ¬ 112 ≤ q.val) (k : Fin 2176) : ds m c b h q k = 0 := by
  unfold ds
  simp only [doE_eq, dif_neg hq, zero_mul, Finset.sum_const_zero, sub_zero, mul_zero]
/-- Nought where the key is padding. -/
theorem ds_pad_key {b : Fin 2} {h : Fin 8} (q : Fin 2064) {k : Fin 2176} (hk : ¬ 112 ≤ k.val) : ds m c b h (up q) k = 0 := by
  obtain ⟨T, h0, -⟩ := eK_row e0 e1 b h q
  unfold ds
  rw [pE_eq, h0 k (by omega), zero_mul, zero_mul]

/-- The queries' gradients agree. -/
theorem dq_eq (b : Fin 2) (q : Fin 2176) (h : Fin 8) (x : Fin 128) :
    val_main_v61 (F := Ideal) (A0 m c) (A1 m c) (A2 m c) (A3 m c) (ix2 (row b q) (wcol h x)) = dqK m c b q h x := by
  rw [v61_at]
  simp only [row_div, row_mod, wcol_div, wcol_mod]
  unfold dqK
  by_cases hx : x.val < 96
  · by_cases hq : 112 ≤ q.val
    · obtain ⟨q, rfl⟩ : ∃ q', q = up q' := ⟨_, eq_up hq⟩
      rw [dif_pos ⟨hq, hx⟩, sum_up _ fun k hk => by rw [ds_pad_key e0 e1 e2 e3 q (by omega), zero_mul]]
      refine Finset.sum_congr rfl fun k _ => ?_
      rw [ds_up e0 e1 e2 e3, kE_eq, dif_pos ⟨up_ge k, hx⟩]
      simp only [up_sub]
    · rw [dif_neg (by omega)]
      refine (Finset.sum_eq_zero fun k _ => ?_).symm
      rw [ds_pad e0 e1 e2 e3 hq, zero_mul]
  · rw [dif_neg (by omega)]
    refine (Finset.sum_eq_zero fun k _ => ?_).symm
    rw [kE_eq, dif_neg (by omega), mul_zero]

/-- The keys' gradients agree. -/
theorem dk_eq (b : Fin 2) (k : Fin 2176) (h : Fin 8) (x : Fin 128) :
    val_main_v68 (F := Ideal) (A0 m c) (A1 m c) (A2 m c) (A3 m c) (ix2 (row b k) (wcol h x)) = ∑ q : Fin 2176, ds m c b h q k * qE m c b q h x := by
  rw [v68_at, sum_up _ fun q hq => by rw [ds_pad e0 e1 e2 e3 (by omega), zero_mul]]
  simp only [row_div, row_mod, wcol_div, wcol_mod]
  by_cases hx : x.val < 96
  · by_cases hk : 112 ≤ k.val
    · obtain ⟨k, rfl⟩ : ∃ k', k = up k' := ⟨_, eq_up hk⟩
      rw [dif_pos ⟨hk, hx⟩]
      refine Finset.sum_congr rfl fun q _ => ?_
      rw [ds_up e0 e1 e2 e3, qE_eq, dif_pos ⟨up_ge q, hx⟩]
      simp only [up_sub]
    · rw [dif_neg (by omega)]
      refine (Finset.sum_eq_zero fun q _ => ?_).symm
      rw [ds_pad_key e0 e1 e2 e3 q hk, zero_mul]
  · rw [dif_neg (by omega)]
    refine (Finset.sum_eq_zero fun q _ => ?_).symm
    rw [qE_eq, dif_neg (by omega), mul_zero]

omit e2 e3 in
/-- The values' gradients agree. -/
theorem dv_eq (b : Fin 2) (k : Fin 2176) (h : Fin 8) (d : Fin 64) :
    val_main_v73 (F := Ideal) (A0 m c) (A1 m c) (A3 m c) (ix2 (row b k) (vcol h d))
      = ∑ q : Fin 2176, pE m c b h q k * (doE m c b q h d * Ideal.div 1 (lE m c b q h)) := by
  rw [v73_at, sum_up _ fun q hq => by rw [doE_eq, dif_neg (by omega), zero_mul, mul_zero]]
  simp only [row_div, row_mod, vcol_div, vcol_mod]
  by_cases hk : 112 ≤ k.val
  · obtain ⟨k, rfl⟩ : ∃ k', k = up k' := ⟨_, eq_up hk⟩
    rw [if_pos hk]
    refine Finset.sum_congr rfl fun q _ => ?_
    rw [weight_up e0 e1, doE_eq, dif_pos (up_ge q)]
    simp only [up_sub]
  · rw [if_neg hk]
    refine (Finset.sum_eq_zero fun q _ => ?_).symm
    obtain ⟨T, h0, -⟩ := eK_row e0 e1 b h q
    rw [pE_eq, h0 k (by omega), zero_mul]

end equal

end Cert.AttnEq

end
-- ==== Proof.AttnProof.lean ====
/- The attention's backward call: the value claim. -/
module

public import proofs.«01_k».proof.Defs
public import proofs.«01_k».proof.Proof.Gen.AttnBwdIdeal.Value
public import proofs.«01_k».proof.Proof.Gen.AttnBwdRefIdeal.Run
public import proofs.«01_k».proof.Proof.Gen.AttnBwdRefIdeal.Read
public import proofs.«01_k».proof.Proof.AttnEq

@[expose] public section

set_option maxRecDepth 16384

noncomputable section

namespace Cert.AttnEq

open Idealize.ShloMosaic Idealize.ShloMosaic.TcCoe Idealize.SL.Sem Cert.Common
open Cert.AttnBwdIdeal (nD τ sig S2x8x2064x96 S2x8x2064x64 S2x2064x512)

variable [Cert.Pre_attn_finite.Facts]

/-- The precondition, read back: the four arrays are real ones. -/
theorem finite_of_pre (m : (ℓ : Loc nD τ sig) → Buf (Elt Ideal) ℓ) (h : Cert.Pre_AttnBwdIdeal_attn_finite m) (c : Dev nD) :
    (∃ x : S2x8x2064x96.Idx → ℝ, A0 m c = fun i => (x i : EReal)) ∧ (∃ x : S2x8x2064x96.Idx → ℝ, A1 m c = fun i => (x i : EReal))
      ∧ (∃ x : S2x8x2064x64.Idx → ℝ, A2 m c = fun i => (x i : EReal)) ∧ (∃ x : S2x2064x512.Idx → ℝ, A3 m c = fun i => (x i : EReal)) := by
  have h := congrFun (h c) (fun i => i.elim0)
  obtain ⟨h, h3⟩ := IntOp.andi_eq_one.1 h
  obtain ⟨h, h2⟩ := IntOp.andi_eq_one.1 h
  obtain ⟨h0, h1⟩ := IntOp.andi_eq_one.1 h
  exact ⟨finite_of_all _ _ _ _ _ h0, finite_of_all _ _ _ _ _ h1, finite_of_all _ _ _ _ _ h2, finite_of_all _ _ _ _ _ h3⟩

theorem algebraic : Cert.algebraic_AttnBwdIdeal_AttnBwdRefIdeal_pre_attn_finite := by
  pair_intro
  · run_from Cert.AttnBwdIdeal.Value.run_blocks m g
  · have hf := finite_of_pre m hpre
    run_from Cert.AttnBwdRefIdeal.Value.run m' g'
    · obtain ⟨⟨x0, e0⟩, ⟨x1, e1⟩, ⟨x2, e2⟩, ⟨x3, e3⟩⟩ := hf c
      rw [Cert.AttnBwdRefIdeal.Read.val_main_v61_eq, (hagree c).1, (hagree c).2.1, (hagree c).2.2.1, (hagree c).2.2.2]
      exact (Cert.AttnBwdIdeal.Value.final7 m c _ fun b q h x => dq_eq e0 e1 e2 e3 b q h x).symm
    · obtain ⟨⟨x0, e0⟩, ⟨x1, e1⟩, ⟨x2, e2⟩, ⟨x3, e3⟩⟩ := hf c
      rw [Cert.AttnBwdRefIdeal.Read.val_main_v68_eq, (hagree c).1, (hagree c).2.1, (hagree c).2.2.1, (hagree c).2.2.2]
      exact (Cert.AttnBwdIdeal.Value.final8 m c _ fun b k h x => dk_eq e0 e1 e2 e3 b k h x).symm
    · obtain ⟨⟨x0, e0⟩, ⟨x1, e1⟩, -⟩ := hf c
      rw [Cert.AttnBwdRefIdeal.Read.val_main_v73_eq, (hagree c).2.2.2]
      exact (Cert.AttnBwdIdeal.Value.final9 m c _ fun b k h d => dv_eq e0 e1 b k h d).symm

end Cert.AttnEq

end
-- ==== Proof.Norm.lean ====
/- A row's norm and the gradient through it, and which of the two are reals. Nothing here speaks of a program. -/
module

public import proofs.«01_k».proof.Proof.Common

@[expose] public section

set_option maxRecDepth 16384

noncomputable section

namespace Cert.Norm

open Idealize.ShloMosaic Cert.Common

/-- The factor of a row's norm. -/
def nrm {n : ℕ} (a : Fin n → EReal) (c : EReal) : EReal := Ideal.rsqrt ((∑ x, a x * a x) * c + Ideal.ofBits FTy.f32 897988541#32)

/-- The gradient through a norm: `d` of the normalised row, `a` the row, `g` the gain. -/
def rb {n : ℕ} (d a g : Fin n → EReal) (c : EReal) (k : Fin n) : EReal :=
  nrm a c * (d k * g k - a k * nrm a c * ((∑ x, d x * g x * (a x * nrm a c)) * c))

/-! ### Reals -/

/-- An extended real that is a real. -/
def IsR (x : EReal) : Prop := ∃ r : ℝ, x = (r : EReal)

theorem IsR.mul {x y : EReal} : IsR x → IsR y → IsR (x * y) := by
  rintro ⟨a, rfl⟩ ⟨b, rfl⟩
  exact ⟨a * b, (EReal.coe_mul a b).symm⟩
theorem IsR.add {x y : EReal} : IsR x → IsR y → IsR (x + y) := by
  rintro ⟨a, rfl⟩ ⟨b, rfl⟩
  exact ⟨a + b, (EReal.coe_add a b).symm⟩
theorem IsR.sub {x y : EReal} : IsR x → IsR y → IsR (x - y) := by
  rintro ⟨a, rfl⟩ ⟨b, rfl⟩
  exact ⟨a - b, (EReal.coe_sub a b).symm⟩
theorem IsR.sum {ι : Type*} {s : Finset ι} {f : ι → EReal} (h : ∀ i, IsR (f i)) : IsR (∑ i ∈ s, f i) := by
  choose r hr using h
  exact ⟨∑ i ∈ s, r i, by simp only [hr, coe_sum]⟩
theorem IsR.zero : IsR 0 := ⟨0, EReal.coe_zero.symm⟩
theorem IsR.one : IsR 1 := ⟨1, EReal.coe_one.symm⟩
theorem isR_nrm {n : ℕ} {a : Fin n → EReal} {q : ℝ} (hq : 0 ≤ q) (ha : ∀ x, IsR (a x)) : IsR (nrm a (q : EReal)) := by
  choose r hr using ha
  refine ⟨(Real.sqrt ((∑ x, r x * r x) * q + eps))⁻¹, ?_⟩
  unfold nrm
  simp only [hr, word_eps, ← EReal.coe_mul, ← coe_sum, ← EReal.coe_add]
  exact rsqrt_pos (mean_pos r hq)

/-- The gradient through a norm as the reference writes it, added to `D`: the kernel's, added to `D`. -/
theorem norm_bwd {n : ℕ} (a g d : Fin n → ℝ) (q : ℝ) (hq : 0 ≤ q) (k : Fin n) (D : EReal) :
    let v := (∑ x, (a x : EReal) * a x) * (q : EReal) + Ideal.ofBits FTy.f32 897988541#32
    let z := (∑ x, (a x : EReal) * ((d x : EReal) * g x)) * (Ideal.ofBits FTy.f32 3204448256#32 * Ideal.div (Ideal.rsqrt v) v) * (q : EReal)
    D + (d k : EReal) * g k * Ideal.rsqrt v + a k * z + z * a k
      = D + rb (fun x => (d x : EReal)) (fun x => (a x : EReal)) (fun x => (g x : EReal)) q k := by
  intro v z
  have hp := mean_pos a hq
  set V : ℝ := (∑ x, a x * a x) * q + eps with hV
  have ev : v = (V : EReal) := by
    simp only [v, word_eps, ← EReal.coe_mul, ← coe_sum, ← EReal.coe_add, hV]
  have en : nrm (fun x => (a x : EReal)) (q : EReal) = (((Real.sqrt V)⁻¹ : ℝ) : EReal) := by
    unfold nrm
    exact (congrArg Ideal.rsqrt ev).trans (rsqrt_pos hp)
  have hs : (Real.sqrt V)⁻¹ * (Real.sqrt V)⁻¹ = 1 / V := by
    rw [← mul_inv, Real.mul_self_sqrt hp.le, one_div]
  have ez : z = (((∑ x, a x * (d x * g x)) * (-1 / 2 * ((Real.sqrt V)⁻¹ * (1 / V))) * q : ℝ) : EReal) := by
    simp only [z, ev, rsqrt_pos hp, word_neg_half, Ideal.div_coe hp.ne', ← EReal.coe_mul, ← coe_sum]
  unfold rb
  rw [en, ev, ez, rsqrt_pos hp]
  simp only [← EReal.coe_mul, ← coe_sum, ← EReal.coe_sub, add_assoc, ← EReal.coe_add]
  congr 2
  have e : ∑ x, d x * (g x * (a x * (Real.sqrt V)⁻¹)) = (∑ x, a x * (d x * g x)) * (Real.sqrt V)⁻¹ := by
    rw [Finset.sum_mul]
    exact Finset.sum_congr rfl fun x _ => by ring
  simp only [mul_assoc] at *
  rw [e, ← hs]
  ring

theorem norm_bwd_of {n : ℕ} {a g d : Fin n → EReal} {c : EReal} (q : ℝ) (hc : c = (q : EReal)) (hq : 0 ≤ q) (ha : ∀ x, IsR (a x)) (hg : ∀ x, IsR (g x))
    (hd : ∀ x, IsR (d x)) (k : Fin n) (D : EReal) :
    let v := (∑ x, a x * a x) * c + Ideal.ofBits FTy.f32 897988541#32
    let z := (∑ x, a x * (d x * g x)) * (Ideal.ofBits FTy.f32 3204448256#32 * Ideal.div (Ideal.rsqrt v) v) * c
    D + d k * g k * Ideal.rsqrt v + a k * z + z * a k = D + rb d a g c k := by
  choose a' ha using ha
  choose g' hg using hg
  choose d' hd using hd
  obtain rfl : a = fun x => (a' x : EReal) := funext ha
  obtain rfl : g = fun x => (g' x : EReal) := funext hg
  obtain rfl : d = fun x => (d' x : EReal) := funext hd
  subst hc
  exact norm_bwd a' g' d' q hq k D

theorem IsR.rb {n : ℕ} {d a g : Fin n → EReal} {q : ℝ} (hq : 0 ≤ q) (hd : ∀ x, IsR (d x)) (ha : ∀ x, IsR (a x)) (hg : ∀ x, IsR (g x)) (k) :
    IsR (Norm.rb d a g (q : EReal) k) :=
  (isR_nrm hq ha).mul (((hd k).mul (hg k)).sub (((ha k).mul (isR_nrm hq ha)).mul
    ((IsR.sum fun x => ((hd x).mul (hg x)).mul ((ha x).mul (isR_nrm hq ha))).mul ⟨q, rfl⟩)))
theorem rb_pad {n : ℕ} {d a : Fin n → EReal} (g : Fin n → EReal) (q : EReal) (hd : ∀ x, d x = 0) (ha : ∀ x, a x = 0) (k) : rb d a g q k = 0 := by
  unfold rb
  simp only [hd, ha, zero_mul, sub_zero, mul_zero]

end Cert.Norm

end
-- ==== Proof.PostRow.lean ====
/- The loss call, row by row: the stages of its body as functions of one row of each block, and what the body's
   arrays hold at an index in these terms. -/
module

public import proofs.«01_k».proof.Proof.Gen.PostIdeal.Value
public import Idealize.ShloMosaic.Lib.Pipeline.ValueKit
public import Idealize.ShloMosaic.Lib.Pointwise
public import Idealize.ShloMosaic.Lib.Claim
public import proofs.«01_k».proof.Proof.Norm

@[expose] public section

set_option maxRecDepth 16384

noncomputable section

namespace Cert.PostIdeal.Row

open Cert.PostIdeal Cert.PostIdeal.Gen Idealize.ShloMosaic Idealize.ShloMosaic.TcCoe Idealize.SL.Sem Cert.Norm

/-- `1/512`, `1/1024`, one half. -/
def c512 : EReal := Ideal.ofBits FTy.f32 989855744#32
def c1024 : EReal := Ideal.ofBits FTy.f32 981467136#32
def half : EReal := Ideal.ofBits FTy.f32 1056964608#32

/-- What a row of the call reads: its two mixer outputs, its residual stream, its target, whether it carries a loss,
    the three gains and the four weights. -/
structure Row where
  oa : Fin 512 → EReal
  ob : Fin 512 → EReal
  h : Fin 1024 → EReal
  tg : Fin 1024 → EReal
  live : Bool
  ga : Fin 512 → EReal
  gb : Fin 512 → EReal
  g2 : Fin 1024 → EReal
  wo : Fin 1024 → Fin 1024 → EReal
  wg : Fin 2816 → Fin 1024 → EReal
  wu : Fin 2816 → Fin 1024 → EReal
  wd : Fin 2816 → Fin 1024 → EReal

namespace Row

variable (R : Row)

/-- The two normalised outputs side by side. -/
def mix (k : Fin 1024) : EReal :=
  if h : k.val < 512 then R.oa ⟨k.val, h⟩ * nrm R.oa c512 * R.ga ⟨k.val, h⟩
  else R.ob ⟨k.val - 512, by omega⟩ * nrm R.ob c512 * R.gb ⟨k.val - 512, by omega⟩
/-- The residual stream after the mixer, and normalised. -/
def mid (k : Fin 1024) : EReal := R.h k + ∑ j, R.mix j * R.wo j k
def hn (k : Fin 1024) : EReal := R.mid k * nrm R.mid c1024 * R.g2 k
/-- The gate's and the up projection's rows, and the activation. -/
def gate (j : Fin 2816) : EReal := ∑ k, R.hn k * R.wg j k
def up (j : Fin 2816) : EReal := ∑ k, R.hn k * R.wu j k
def sg (j : Fin 2816) : EReal := half * Ideal.tanh (half * R.gate j) + half
def act (j : Fin 2816) : EReal := R.gate j * R.sg j * R.up j
/-- The error against the target, nothing on a row without a loss. -/
def err (k : Fin 1024) : EReal := if R.live = true then R.mid k + (∑ j, R.act j * R.wd j k) - R.tg k else 0
def dy (k : Fin 1024) : EReal := R.err k * c1024
def dact (j : Fin 2816) : EReal := ∑ k, R.dy k * R.wd j k
def dgate (j : Fin 2816) : EReal := R.dact j * R.up j * R.sg j * (1 + R.gate j * (1 - R.sg j))
def dup (j : Fin 2816) : EReal := R.dact j * R.gate j * R.sg j
def dhn (k : Fin 1024) : EReal := (∑ j, R.dgate j * R.wg j k) + ∑ j, R.dup j * R.wu j k
def dh1 (k : Fin 1024) : EReal := R.dy k + rb R.dhn R.mid R.g2 c1024 k
def dmix (j : Fin 1024) : EReal := ∑ k, R.dh1 k * R.wo j k
def dma (j : Fin 512) : EReal := R.dmix ⟨j.val, by omega⟩
def dmb (j : Fin 512) : EReal := R.dmix ⟨512 + j.val, by omega⟩
def doa (j : Fin 512) : EReal := rb R.dma R.oa R.ga c512 j
def dob (j : Fin 512) : EReal := rb R.dmb R.ob R.gb c512 j

end Row

/-- The row of the body's blocks. -/
abbrev rowB (t : Fin 17) (x0 x1 : Vec Ideal S256x512 .f32) (x2 : Vec Ideal S256x1024 .f32) (x3 x4 : Vec Ideal S1x128x1024 .f32)
    (x5 x6 : Vec Ideal S1x512 .f32) (x7 : Vec Ideal S1x1024 .f32) (x8 : Vec Ideal S1024x1024 .bf16)
    (x9 x10 x11 : Vec Ideal S2816x1024 .bf16) (y : Fin 256) : Row where
  oa := fun x => x0 (ix2 y x)
  ob := fun x => x1 (ix2 y x)
  h := fun x => x2 (ix2 y x)
  tg := fun k => if h : y.val < 128 then x3 (ix3 0 ⟨y.val, h⟩ k) else x4 (ix3 0 ⟨y.val - 128, by omega⟩ k)
  live := decide (128 ≤ (256 * t.val + y.val) % 2176)
  ga := fun x => x5 (ix2 0 x)
  gb := fun x => x6 (ix2 0 x)
  g2 := fun x => x7 (ix2 0 x)
  wo := fun j k => x8 (ix2 j k)
  wg := fun j k => x9 (ix2 j k)
  wu := fun j k => x10 (ix2 j k)
  wd := fun j k => x11 (ix2 j k)

/-- Whether a row carries a loss, as the body decides it. -/
theorem live_word (n : ℕ) (hn : n < 4352) :
    IntOp.cmpi CmpIPredicate.sge (Scalar.select (IntOp.cmpi CmpIPredicate.sge (BitVec.ofNat 32 n) 2176#32)
      (IntOp.subi (BitVec.ofNat 32 n) 2176#32) (BitVec.ofNat 32 n)) 128#32 = if 128 ≤ n % 2176 then 1#1 else 0#1 :=
  (by decide +kernel : ∀ n : Fin 4352, IntOp.cmpi CmpIPredicate.sge (Scalar.select (IntOp.cmpi CmpIPredicate.sge (BitVec.ofNat 32 n.val) 2176#32)
      (IntOp.subi (BitVec.ofNat 32 n.val) 2176#32) (BitVec.ofNat 32 n.val)) 128#32 = if 128 ≤ n.val % 2176 then 1#1 else 0#1) ⟨n, hn⟩
theorem row_word (t : Fin 17) (y : Fin 256) :
    IntOp.addi (Scalar.muli (BitVec.ofNat 32 t.val) 256#32) (BitVec.ofNat 32 y.val) = BitVec.ofNat 32 (256 * t.val + y.val) := by
  show BitVec.ofNat 32 t.val * 256#32 + BitVec.ofNat 32 y.val = _
  rw [Nat.mul_comm, BitVec.ofNat_add, BitVec.ofNat_mul]

variable (t : Fin 17) (x0 x1 : Vec Ideal S256x512 .f32) (x2 : Vec Ideal S256x1024 .f32) (x3 x4 : Vec Ideal S1x128x1024 .f32)
  (x5 x6 : Vec Ideal S1x512 .f32) (x7 : Vec Ideal S1x1024 .f32) (x8 : Vec Ideal S1024x1024 .bf16)
  (x9 x10 x11 : Vec Ideal S2816x1024 .bf16) (y : Fin 256)

theorem pay6_at (z : Fin 1) : k0_pay6 x0 (ix2 y z) = nrm (rowB t x0 x1 x2 x3 x4 x5 x6 x7 x8 x9 x10 x11 y).oa c512 := by
  pointwise [k0_pay6, k0_pay5]
  rfl
theorem pay7_at (x : Fin 512) : k0_pay7 x0 (ix2 y x) =
    (rowB t x0 x1 x2 x3 x4 x5 x6 x7 x8 x9 x10 x11 y).oa x * nrm (rowB t x0 x1 x2 x3 x4 x5 x6 x7 x8 x9 x10 x11 y).oa c512 := by
  pointwise [k0_pay7, k0_pay5]
  rw [pay6_at t x0 x1 x2 x3 x4 x5 x6 x7 x8 x9 x10 x11]
theorem pay9_at (z : Fin 1) : k0_pay9 x1 (ix2 y z) = nrm (rowB t x0 x1 x2 x3 x4 x5 x6 x7 x8 x9 x10 x11 y).ob c512 := by
  pointwise [k0_pay9, k0_pay8]
  rfl
theorem pay10_at (x : Fin 512) : k0_pay10 (k0_pay8 x1) (k0_pay9 x1) (ix2 y x) =
    (rowB t x0 x1 x2 x3 x4 x5 x6 x7 x8 x9 x10 x11 y).ob x * nrm (rowB t x0 x1 x2 x3 x4 x5 x6 x7 x8 x9 x10 x11 y).ob c512 := by
  pointwise [k0_pay10, k0_pay8]
  rw [pay9_at t x0 x1 x2 x3 x4 x5 x6 x7 x8 x9 x10 x11]
theorem pay11_at (k : Fin 1024) :
    k0_pay11 x5 x6 (k0_pay7 x0) (k0_pay8 x1) (k0_pay9 x1) (ix2 y k) =
    (rowB t x0 x1 x2 x3 x4 x5 x6 x7 x8 x9 x10 x11 y).mix k := by
  pointwise [k0_pay11]
  simp only [pay7_at t x0 x1 x2 x3 x4 x5 x6 x7 x8 x9 x10 x11, pay10_at t x0 x1 x2 x3 x4 x5 x6 x7 x8 x9 x10 x11]
  rfl
theorem pay13_at (k : Fin 1024) :
    (k0_pay13 x5 x6 (k0_pay1 x8) (k0_pay7 x0) (k0_pay8 x1) (k0_pay9 x1) x2) (ix2 y k) =
    (rowB t x0 x1 x2 x3 x4 x5 x6 x7 x8 x9 x10 x11 y).mid k := by
  pointwise [k0_pay13, k0_pay1]
  simp only [pay11_at t x0 x1 x2 x3 x4 x5 x6 x7 x8 x9 x10 x11]
  rfl
theorem pay14_at (z : Fin 1) :
    (k0_pay14 x5 x6 (k0_pay1 x8) (k0_pay7 x0) (k0_pay8 x1) (k0_pay9 x1) x2) (ix2 y z) =
    nrm (rowB t x0 x1 x2 x3 x4 x5 x6 x7 x8 x9 x10 x11 y).mid c1024 := by
  pointwise [k0_pay14]
  simp only [pay13_at t x0 x1 x2 x3 x4 x5 x6 x7 x8 x9 x10 x11]
  rfl
theorem pay15_at (k : Fin 1024) :
    (k0_pay15 x5 x6 (k0_pay1 x8) (k0_pay7 x0) (k0_pay8 x1) (k0_pay9 x1) x2) (ix2 y k) =
    (rowB t x0 x1 x2 x3 x4 x5 x6 x7 x8 x9 x10 x11 y).mid k * nrm (rowB t x0 x1 x2 x3 x4 x5 x6 x7 x8 x9 x10 x11 y).mid c1024 := by
  pointwise [k0_pay15]
  rw [pay13_at t x0 x1 x2 x3 x4 x5 x6 x7 x8 x9 x10 x11, pay14_at t x0 x1 x2 x3 x4 x5 x6 x7 x8 x9 x10 x11]
theorem pay16_at (k : Fin 1024) :
    k0_pay16 x5 x6 x7 (k0_pay1 x8) (k0_pay7 x0) (k0_pay8 x1) (k0_pay9 x1) x2 (ix2 y k) =
    (rowB t x0 x1 x2 x3 x4 x5 x6 x7 x8 x9 x10 x11 y).hn k := by
  pointwise [k0_pay16]
  rw [pay15_at t x0 x1 x2 x3 x4 x5 x6 x7 x8 x9 x10 x11]
  rfl
theorem pay17_at (j : Fin 2816) :
    (k0_pay17 x5 x6 x7 (k0_pay1 x8) (k0_pay2 x9) (k0_pay7 x0) (k0_pay8 x1) (k0_pay9 x1) x2) (ix2 y j) =
    (rowB t x0 x1 x2 x3 x4 x5 x6 x7 x8 x9 x10 x11 y).gate j := by
  pointwise [k0_pay17, k0_pay2]
  simp only [pay16_at t x0 x1 x2 x3 x4 x5 x6 x7 x8 x9 x10 x11]
  rfl
theorem pay18_at (j : Fin 2816) :
    (k0_pay18 x5 x6 x7 (k0_pay1 x8) (k0_pay3 x10) (k0_pay7 x0) (k0_pay8 x1) (k0_pay9 x1) x2) (ix2 y j) =
    (rowB t x0 x1 x2 x3 x4 x5 x6 x7 x8 x9 x10 x11 y).up j := by
  pointwise [k0_pay18, k0_pay3]
  simp only [pay16_at t x0 x1 x2 x3 x4 x5 x6 x7 x8 x9 x10 x11]
  rfl
theorem pay19_at (j : Fin 2816) :
    (k0_pay19 x5 x6 x7 (k0_pay1 x8) (k0_pay2 x9) (k0_pay3 x10) (k0_pay7 x0) (k0_pay8 x1) (k0_pay9 x1) x2) (ix2 y j) =
    (rowB t x0 x1 x2 x3 x4 x5 x6 x7 x8 x9 x10 x11 y).act j := by
  pointwise [k0_pay19]
  rw [pay17_at t x0 x1 x2 x3 x4 x5 x6 x7 x8 x9 x10 x11, pay18_at t x0 x1 x2 x3 x4 x5 x6 x7 x8 x9 x10 x11]
  rfl
theorem pay21_at (k : Fin 1024) :
    (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4) (ix2 y k) =
    (rowB t x0 x1 x2 x3 x4 x5 x6 x7 x8 x9 x10 x11 y).err k := by
  pointwise [k0_pay21, k0_pay4]
  simp only [pay13_at t x0 x1 x2 x3 x4 x5 x6 x7 x8 x9 x10 x11, pay19_at t x0 x1 x2 x3 x4 x5 x6 x7 x8 x9 x10 x11]
  rw [row_word, live_word _ (by omega)]
  unfold Row.err
  by_cases h : 128 ≤ (256 * t.val + y.val) % 2176
  · simp only [h, decide_true, if_true]
    rfl
  · simp only [h, decide_false, if_false]
    rfl
theorem pay25_at (k : Fin 1024) :
    (k0_pay25 (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (ix2 y k) =
    (rowB t x0 x1 x2 x3 x4 x5 x6 x7 x8 x9 x10 x11 y).dy k := by
  pointwise [k0_pay25]
  rw [pay21_at t x0 x1 x2 x3 x4 x5 x6 x7 x8 x9 x10 x11]
  rfl
theorem pay26_at (k : Fin 1024) :
    k0_pay26 (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4) (ix2 y k) =
    (rowB t x0 x1 x2 x3 x4 x5 x6 x7 x8 x9 x10 x11 y).dy k := by
  pointwise [k0_pay26]
  rw [pay25_at t x0 x1 x2 x3 x4 x5 x6 x7 x8 x9 x10 x11]
theorem pay27_at (j : Fin 2816) :
    k0_pay27 (k0_pay4 x11) (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4) (ix2 y j) =
    (rowB t x0 x1 x2 x3 x4 x5 x6 x7 x8 x9 x10 x11 y).dact j := by
  pointwise [k0_pay27]
  simp only [pay26_at t x0 x1 x2 x3 x4 x5 x6 x7 x8 x9 x10 x11]
  pointwise [k0_pay4]
  rfl
theorem pay28_at (j : Fin 2816) :
    k0_pay28 (k0_pay17 x5 x6 x7 (k0_pay1 x8) (k0_pay2 x9) (k0_pay7 x0) (k0_pay8 x1) (k0_pay9 x1) x2) (ix2 y j) =
    (rowB t x0 x1 x2 x3 x4 x5 x6 x7 x8 x9 x10 x11 y).sg j := by
  pointwise [k0_pay28]
  rw [pay17_at t x0 x1 x2 x3 x4 x5 x6 x7 x8 x9 x10 x11]
  rfl
theorem pay29_at (j : Fin 2816) :
    k0_pay29 (k0_pay4 x11) (k0_pay17 x5 x6 x7 (k0_pay1 x8) (k0_pay2 x9) (k0_pay7 x0) (k0_pay8 x1) (k0_pay9 x1) x2) (k0_pay18 x5 x6 x7 (k0_pay1 x8) (k0_pay3 x10) (k0_pay7 x0) (k0_pay8 x1) (k0_pay9 x1) x2) (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4) (ix2 y j) =
    (rowB t x0 x1 x2 x3 x4 x5 x6 x7 x8 x9 x10 x11 y).dgate j := by
  pointwise [k0_pay29]
  rw [pay27_at t x0 x1 x2 x3 x4 x5 x6 x7 x8 x9 x10 x11, pay28_at t x0 x1 x2 x3 x4 x5 x6 x7 x8 x9 x10 x11, pay17_at t x0 x1 x2 x3 x4 x5 x6 x7 x8 x9 x10 x11, pay18_at t x0 x1 x2 x3 x4 x5 x6 x7 x8 x9 x10 x11]
  rfl
theorem pay30_at (j : Fin 2816) :
    k0_pay30 (k0_pay4 x11) (k0_pay17 x5 x6 x7 (k0_pay1 x8) (k0_pay2 x9) (k0_pay7 x0) (k0_pay8 x1) (k0_pay9 x1) x2) (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4) (ix2 y j) =
    (rowB t x0 x1 x2 x3 x4 x5 x6 x7 x8 x9 x10 x11 y).dup j := by
  pointwise [k0_pay30]
  rw [pay27_at t x0 x1 x2 x3 x4 x5 x6 x7 x8 x9 x10 x11, pay28_at t x0 x1 x2 x3 x4 x5 x6 x7 x8 x9 x10 x11, pay17_at t x0 x1 x2 x3 x4 x5 x6 x7 x8 x9 x10 x11]
  rfl
theorem pay33_at (k : Fin 1024) :
    (k0_pay33 (k0_pay2 x9) (k0_pay3 x10) (k0_pay4 x11) (k0_pay17 x5 x6 x7 (k0_pay1 x8) (k0_pay2 x9) (k0_pay7 x0) (k0_pay8 x1) (k0_pay9 x1) x2) (k0_pay18 x5 x6 x7 (k0_pay1 x8) (k0_pay3 x10) (k0_pay7 x0) (k0_pay8 x1) (k0_pay9 x1) x2) (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (ix2 y k) =
    (rowB t x0 x1 x2 x3 x4 x5 x6 x7 x8 x9 x10 x11 y).dhn k := by
  pointwise [k0_pay33]
  simp only [pay29_at t x0 x1 x2 x3 x4 x5 x6 x7 x8 x9 x10 x11, pay30_at t x0 x1 x2 x3 x4 x5 x6 x7 x8 x9 x10 x11]
  pointwise [k0_pay2, k0_pay3]
  rfl
theorem pay38_at (k : Fin 1024) :
    k0_pay38 x7 (k0_pay14 x5 x6 (k0_pay1 x8) (k0_pay7 x0) (k0_pay8 x1) (k0_pay9 x1) x2) (k0_pay15 x5 x6 (k0_pay1 x8) (k0_pay7 x0) (k0_pay8 x1) (k0_pay9 x1) x2) (k0_pay25 (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (k0_pay33 (k0_pay2 x9) (k0_pay3 x10) (k0_pay4 x11) (k0_pay17 x5 x6 x7 (k0_pay1 x8) (k0_pay2 x9) (k0_pay7 x0) (k0_pay8 x1) (k0_pay9 x1) x2) (k0_pay18 x5 x6 x7 (k0_pay1 x8) (k0_pay3 x10) (k0_pay7 x0) (k0_pay8 x1) (k0_pay9 x1) x2) (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (ix2 y k) =
    (rowB t x0 x1 x2 x3 x4 x5 x6 x7 x8 x9 x10 x11 y).dh1 k := by
  pointwise [k0_pay38]
  simp only [pay14_at t x0 x1 x2 x3 x4 x5 x6 x7 x8 x9 x10 x11, pay15_at t x0 x1 x2 x3 x4 x5 x6 x7 x8 x9 x10 x11, pay25_at t x0 x1 x2 x3 x4 x5 x6 x7 x8 x9 x10 x11, pay33_at t x0 x1 x2 x3 x4 x5 x6 x7 x8 x9 x10 x11]
  rfl
theorem pay39_at (j : Fin 1024) :
    k0_pay39 x7 (k0_pay1 x8) (k0_pay14 x5 x6 (k0_pay1 x8) (k0_pay7 x0) (k0_pay8 x1) (k0_pay9 x1) x2) (k0_pay15 x5 x6 (k0_pay1 x8) (k0_pay7 x0) (k0_pay8 x1) (k0_pay9 x1) x2) (k0_pay25 (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (k0_pay33 (k0_pay2 x9) (k0_pay3 x10) (k0_pay4 x11) (k0_pay17 x5 x6 x7 (k0_pay1 x8) (k0_pay2 x9) (k0_pay7 x0) (k0_pay8 x1) (k0_pay9 x1) x2) (k0_pay18 x5 x6 x7 (k0_pay1 x8) (k0_pay3 x10) (k0_pay7 x0) (k0_pay8 x1) (k0_pay9 x1) x2) (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (ix2 y j) =
    (rowB t x0 x1 x2 x3 x4 x5 x6 x7 x8 x9 x10 x11 y).dmix j := by
  pointwise [k0_pay39]
  simp only [pay38_at t x0 x1 x2 x3 x4 x5 x6 x7 x8 x9 x10 x11]
  pointwise [k0_pay1]
  rfl
theorem pay40_at (j : Fin 512) :
    (k0_pay40 x7 (k0_pay1 x8) (k0_pay14 x5 x6 (k0_pay1 x8) (k0_pay7 x0) (k0_pay8 x1) (k0_pay9 x1) x2) (k0_pay15 x5 x6 (k0_pay1 x8) (k0_pay7 x0) (k0_pay8 x1) (k0_pay9 x1) x2) (k0_pay25 (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (k0_pay33 (k0_pay2 x9) (k0_pay3 x10) (k0_pay4 x11) (k0_pay17 x5 x6 x7 (k0_pay1 x8) (k0_pay2 x9) (k0_pay7 x0) (k0_pay8 x1) (k0_pay9 x1) x2) (k0_pay18 x5 x6 x7 (k0_pay1 x8) (k0_pay3 x10) (k0_pay7 x0) (k0_pay8 x1) (k0_pay9 x1) x2) (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4))) (ix2 y j) =
    (rowB t x0 x1 x2 x3 x4 x5 x6 x7 x8 x9 x10 x11 y).dma j := by
  pointwise [k0_pay40]
  simp only [pay39_at t x0 x1 x2 x3 x4 x5 x6 x7 x8 x9 x10 x11]
  rfl
theorem pay41_at (j : Fin 512) :
    (k0_pay41 x7 (k0_pay1 x8) (k0_pay14 x5 x6 (k0_pay1 x8) (k0_pay7 x0) (k0_pay8 x1) (k0_pay9 x1) x2) (k0_pay15 x5 x6 (k0_pay1 x8) (k0_pay7 x0) (k0_pay8 x1) (k0_pay9 x1) x2) (k0_pay25 (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (k0_pay33 (k0_pay2 x9) (k0_pay3 x10) (k0_pay4 x11) (k0_pay17 x5 x6 x7 (k0_pay1 x8) (k0_pay2 x9) (k0_pay7 x0) (k0_pay8 x1) (k0_pay9 x1) x2) (k0_pay18 x5 x6 x7 (k0_pay1 x8) (k0_pay3 x10) (k0_pay7 x0) (k0_pay8 x1) (k0_pay9 x1) x2) (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4))) (ix2 y j) =
    (rowB t x0 x1 x2 x3 x4 x5 x6 x7 x8 x9 x10 x11 y).dmb j := by
  pointwise [k0_pay41]
  simp only [pay39_at t x0 x1 x2 x3 x4 x5 x6 x7 x8 x9 x10 x11]
  rfl
theorem pay48_at (j : Fin 512) :
    k0_pay48 x5 (k0_pay6 x0) (k0_pay7 x0) (k0_pay40 x7 (k0_pay1 x8) (k0_pay14 x5 x6 (k0_pay1 x8) (k0_pay7 x0) (k0_pay8 x1) (k0_pay9 x1) x2) (k0_pay15 x5 x6 (k0_pay1 x8) (k0_pay7 x0) (k0_pay8 x1) (k0_pay9 x1) x2) (k0_pay25 (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (k0_pay33 (k0_pay2 x9) (k0_pay3 x10) (k0_pay4 x11) (k0_pay17 x5 x6 x7 (k0_pay1 x8) (k0_pay2 x9) (k0_pay7 x0) (k0_pay8 x1) (k0_pay9 x1) x2) (k0_pay18 x5 x6 x7 (k0_pay1 x8) (k0_pay3 x10) (k0_pay7 x0) (k0_pay8 x1) (k0_pay9 x1) x2) (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4))) (ix2 y j) =
    (rowB t x0 x1 x2 x3 x4 x5 x6 x7 x8 x9 x10 x11 y).doa j := by
  pointwise [k0_pay48]
  simp only [pay6_at t x0 x1 x2 x3 x4 x5 x6 x7 x8 x9 x10 x11, pay7_at t x0 x1 x2 x3 x4 x5 x6 x7 x8 x9 x10 x11, pay40_at t x0 x1 x2 x3 x4 x5 x6 x7 x8 x9 x10 x11]
  rfl
theorem pay49_at (j : Fin 512) :
    k0_pay49 x6 (k0_pay9 x1) (k0_pay10 (k0_pay8 x1) (k0_pay9 x1)) (k0_pay41 x7 (k0_pay1 x8) (k0_pay14 x5 x6 (k0_pay1 x8) (k0_pay7 x0) (k0_pay8 x1) (k0_pay9 x1) x2) (k0_pay15 x5 x6 (k0_pay1 x8) (k0_pay7 x0) (k0_pay8 x1) (k0_pay9 x1) x2) (k0_pay25 (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (k0_pay33 (k0_pay2 x9) (k0_pay3 x10) (k0_pay4 x11) (k0_pay17 x5 x6 x7 (k0_pay1 x8) (k0_pay2 x9) (k0_pay7 x0) (k0_pay8 x1) (k0_pay9 x1) x2) (k0_pay18 x5 x6 x7 (k0_pay1 x8) (k0_pay3 x10) (k0_pay7 x0) (k0_pay8 x1) (k0_pay9 x1) x2) (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4))) (ix2 y j) =
    (rowB t x0 x1 x2 x3 x4 x5 x6 x7 x8 x9 x10 x11 y).dob j := by
  pointwise [k0_pay49]
  simp only [pay9_at t x0 x1 x2 x3 x4 x5 x6 x7 x8 x9 x10 x11, pay10_at t x0 x1 x2 x3 x4 x5 x6 x7 x8 x9 x10 x11, pay41_at t x0 x1 x2 x3 x4 x5 x6 x7 x8 x9 x10 x11]
  rfl

/-- What a block adds to the loss and to the three gains' gradients. -/
theorem pay22_at (z : Fin 1) (l : Fin 128) :
    k0_pay22 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4 (ix2 z l) =
    Ideal.ofBits FTy.f32 973078528#32 * ∑ y : Fin 256, ∑ k : Fin 1024, (rowB t x0 x1 x2 x3 x4 x5 x6 x7 x8 x9 x10 x11 y).err k * (rowB t x0 x1 x2 x3 x4 x5 x6 x7 x8 x9 x10 x11 y).err k := by
  pointwise [k0_pay22]
  simp only [pay21_at t x0 x1 x2 x3 x4 x5 x6 x7 x8 x9 x10 x11]
theorem pay35_at (z : Fin 1) (k : Fin 1024) :
    k0_pay35 (k0_pay34 (k0_pay2 x9) (k0_pay3 x10) (k0_pay4 x11) (k0_pay15 x5 x6 (k0_pay1 x8) (k0_pay7 x0) (k0_pay8 x1) (k0_pay9 x1) x2) (k0_pay17 x5 x6 x7 (k0_pay1 x8) (k0_pay2 x9) (k0_pay7 x0) (k0_pay8 x1) (k0_pay9 x1) x2) (k0_pay18 x5 x6 x7 (k0_pay1 x8) (k0_pay3 x10) (k0_pay7 x0) (k0_pay8 x1) (k0_pay9 x1) x2) (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (ix2 z k) =
    ∑ y : Fin 256, (rowB t x0 x1 x2 x3 x4 x5 x6 x7 x8 x9 x10 x11 y).dhn k * ((rowB t x0 x1 x2 x3 x4 x5 x6 x7 x8 x9 x10 x11 y).mid k * nrm (rowB t x0 x1 x2 x3 x4 x5 x6 x7 x8 x9 x10 x11 y).mid c1024) := by
  pointwise [k0_pay35, k0_pay34]
  simp only [pay33_at t x0 x1 x2 x3 x4 x5 x6 x7 x8 x9 x10 x11, pay15_at t x0 x1 x2 x3 x4 x5 x6 x7 x8 x9 x10 x11]
theorem pay42_at (z : Fin 1) (j : Fin 512) :
    k0_pay42 x7 (k0_pay1 x8) (k0_pay7 x0) (k0_pay14 x5 x6 (k0_pay1 x8) (k0_pay7 x0) (k0_pay8 x1) (k0_pay9 x1) x2) (k0_pay15 x5 x6 (k0_pay1 x8) (k0_pay7 x0) (k0_pay8 x1) (k0_pay9 x1) x2) (k0_pay25 (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (k0_pay33 (k0_pay2 x9) (k0_pay3 x10) (k0_pay4 x11) (k0_pay17 x5 x6 x7 (k0_pay1 x8) (k0_pay2 x9) (k0_pay7 x0) (k0_pay8 x1) (k0_pay9 x1) x2) (k0_pay18 x5 x6 x7 (k0_pay1 x8) (k0_pay3 x10) (k0_pay7 x0) (k0_pay8 x1) (k0_pay9 x1) x2) (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (ix2 z j) =
    ∑ y : Fin 256, (rowB t x0 x1 x2 x3 x4 x5 x6 x7 x8 x9 x10 x11 y).dma j * ((rowB t x0 x1 x2 x3 x4 x5 x6 x7 x8 x9 x10 x11 y).oa j * nrm (rowB t x0 x1 x2 x3 x4 x5 x6 x7 x8 x9 x10 x11 y).oa c512) := by
  pointwise [k0_pay42]
  simp only [pay40_at t x0 x1 x2 x3 x4 x5 x6 x7 x8 x9 x10 x11, pay7_at t x0 x1 x2 x3 x4 x5 x6 x7 x8 x9 x10 x11]
theorem pay45_at (z : Fin 1) (j : Fin 512) :
    k0_pay45 (k0_pay10 (k0_pay8 x1) (k0_pay9 x1)) (k0_pay41 x7 (k0_pay1 x8) (k0_pay14 x5 x6 (k0_pay1 x8) (k0_pay7 x0) (k0_pay8 x1) (k0_pay9 x1) x2) (k0_pay15 x5 x6 (k0_pay1 x8) (k0_pay7 x0) (k0_pay8 x1) (k0_pay9 x1) x2) (k0_pay25 (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4)) (k0_pay33 (k0_pay2 x9) (k0_pay3 x10) (k0_pay4 x11) (k0_pay17 x5 x6 x7 (k0_pay1 x8) (k0_pay2 x9) (k0_pay7 x0) (k0_pay8 x1) (k0_pay9 x1) x2) (k0_pay18 x5 x6 x7 (k0_pay1 x8) (k0_pay3 x10) (k0_pay7 x0) (k0_pay8 x1) (k0_pay9 x1) x2) (k0_pay21 (BitVec.ofNat 32 t.val) (k0_pay4 x11) (k0_pay13 x5 x6 (k0_pay1 x8) (k0_pay7 x0) (k0_pay8 x1) (k0_pay9 x1) x2) (k0_pay19 x5 x6 x7 (k0_pay1 x8) (k0_pay2 x9) (k0_pay3 x10) (k0_pay7 x0) (k0_pay8 x1) (k0_pay9 x1) x2) x3 x4))) (ix2 z j) =
    ∑ y : Fin 256, (rowB t x0 x1 x2 x3 x4 x5 x6 x7 x8 x9 x10 x11 y).dmb j * ((rowB t x0 x1 x2 x3 x4 x5 x6 x7 x8 x9 x10 x11 y).ob j * nrm (rowB t x0 x1 x2 x3 x4 x5 x6 x7 x8 x9 x10 x11 y).ob c512) := by
  pointwise [k0_pay45]
  simp only [pay41_at t x0 x1 x2 x3 x4 x5 x6 x7 x8 x9 x10 x11, pay10_at t x0 x1 x2 x3 x4 x5 x6 x7 x8 x9 x10 x11]

end Cert.PostIdeal.Row

end
-- ==== Proof.PostBlocks.lean ====
/- The loss call: the rows of its blocks as rows of the arrays the call is entered with. -/
module

public import proofs.«01_k».proof.Proof.PostRow

@[expose] public section

set_option maxRecDepth 16384

noncomputable section

namespace Cert.PostIdeal.Value

open Cert.PostIdeal Cert.PostIdeal.Gen Cert.PostIdeal.Row Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![2 * t.val / 17, 2 * t.val % 17 - 1, 0] ∧ win0_4.index t = ![(2 * t.val + 1) / 17, (2 * t.val + 1) % 17 - 1, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0]
    ∧ win0_13.index t = ![t.val, 0] ∧ win0_14.index t = ![t.val, 0] ∧ win0_15.index t = ![0, t.val] ∧ win0_16.index t = ![t.val, 0]
    ∧ win0_17.index t = ![0, t.val] ∧ win0_18.index t = ![0, t.val] ∧ win0_19.index t = ![0, t.val] ∧ win0_20.index t = ![t.val, 0]
    ∧ win0_21.index t = ![0, 0] ∧ win0_22.index t = ![0, 0] ∧ win0_23.index t = ![0, 0] ∧ win0_24.index t = ![0, 0] :=
  (by decide +kernel : ∀ t : Fin grid0.N, _)

theorem lt17 (t : Fin cfg0.N) : t.val < 17 := lt_of_lt_of_eq t.isLt N_0

/-- Array row of row `y` of block `t`. -/
def rowAt (t : Fin cfg0.N) (y : Fin 256) : Fin 4352 := ⟨256 * t.val + y.val, by have := lt17 t; omega⟩

theorem blk0 (c : Dev nD) (t : Fin cfg0.N) (y : Fin 256) (x : Fin 512) :
    iblk m c 0 t (ix2 y x) = V m c main_v1 (ix2 (rowAt t y) x) := by
  blk_ext [iblk, V, rowAt, idx t]
theorem blk1 (c : Dev nD) (t : Fin cfg0.N) (y : Fin 256) (x : Fin 512) :
    iblk m c 1 t (ix2 y x) = V m c main_v3 (ix2 (rowAt t y) x) := by
  blk_ext [iblk, V, rowAt, idx t]
theorem blk2 (c : Dev nD) (t : Fin cfg0.N) (y : Fin 256) (x : Fin 1024) :
    iblk m c 2 t (ix2 y x) = V m c main_v5 (ix2 (rowAt t y) x) := by
  blk_ext [iblk, V, rowAt, idx t]
theorem blk3 (c : Dev nD) (t : Fin cfg0.N) (y : Fin 128) (x : Fin 1024) :
    iblk m c 3 t (ix3 0 y x) = V m c main_arg3 (ix3 ⟨2 * t.val / 17, by have := lt17 t; omega⟩ ⟨128 * (2 * t.val % 17 - 1) + y.val, by omega⟩ x) := by
  blk_ext [iblk, V, idx t]
theorem blk4 (c : Dev nD) (t : Fin cfg0.N) (y : Fin 128) (x : Fin 1024) :
    iblk m c 4 t (ix3 0 y x) = V m c main_arg3 (ix3 ⟨(2 * t.val + 1) / 17, by have := lt17 t; omega⟩ ⟨128 * ((2 * t.val + 1) % 17 - 1) + y.val, by omega⟩ x) := by
  blk_ext [iblk, V, idx t]
theorem blk5 (c : Dev nD) (t : Fin cfg0.N) (x : Fin 512) : iblk m c 5 t (ix2 0 x) = V m c main_arg4 (ix2 0 x) := by
  blk_ext [iblk, V, idx t]
theorem blk6 (c : Dev nD) (t : Fin cfg0.N) (x : Fin 512) : iblk m c 6 t (ix2 0 x) = V m c main_arg5 (ix2 0 x) := by
  blk_ext [iblk, V, idx t]
theorem blk7 (c : Dev nD) (t : Fin cfg0.N) (x : Fin 1024) : iblk m c 7 t (ix2 0 x) = V m c main_arg6 (ix2 0 x) := by
  blk_ext [iblk, V, idx t]
theorem blk8 (c : Dev nD) (t : Fin cfg0.N) (j : Fin 1024) (x : Fin 1024) : iblk m c 8 t (ix2 j x) = V m c main_v7 (ix2 j x) := by
  blk_ext [iblk, V, idx t]
theorem blk9 (c : Dev nD) (t : Fin cfg0.N) (j : Fin 2816) (x : Fin 1024) : iblk m c 9 t (ix2 j x) = V m c main_v10 (ix2 j x) := by
  blk_ext [iblk, V, idx t]
theorem blk10 (c : Dev nD) (t : Fin cfg0.N) (j : Fin 2816) (x : Fin 1024) : iblk m c 10 t (ix2 j x) = V m c main_v13 (ix2 j x) := by
  blk_ext [iblk, V, idx t]
theorem blk11 (c : Dev nD) (t : Fin cfg0.N) (j : Fin 2816) (x : Fin 1024) : iblk m c 11 t (ix2 j x) = V m c main_v15 (ix2 j x) := by
  blk_ext [iblk, V, idx t]

/-- Row `r` of the arrays the call is entered with. -/
def rowE (c : Dev nD) (r : Fin 4352) : Row where
  oa := fun x => V m c main_v1 (ix2 r x)
  ob := fun x => V m c main_v3 (ix2 r x)
  h := fun x => V m c main_v5 (ix2 r x)
  tg := fun k => V m c main_arg3 (ix3 ⟨r.val / 2176, by omega⟩ ⟨128 * (r.val / 128 % 17 - 1) + r.val % 128, by omega⟩ k)
  live := decide (128 ≤ r.val % 2176)
  ga := fun x => V m c main_arg4 (ix2 0 x)
  gb := fun x => V m c main_arg5 (ix2 0 x)
  g2 := fun x => V m c main_arg6 (ix2 0 x)
  wo := fun j k => V m c main_v7 (ix2 j k)
  wg := fun j k => V m c main_v10 (ix2 j k)
  wu := fun j k => V m c main_v13 (ix2 j k)
  wd := fun j k => V m c main_v15 (ix2 j k)

theorem rowB_eq (c : Dev nD) (t : Fin cfg0.N) (y : Fin 256) :
    rowB ⟨t.val, lt17 t⟩ (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) y = rowE m c (rowAt t y) := by
  have ht := lt17 t
  unfold rowB rowE
  simp only [blk0, blk1, blk2, blk3, blk4, blk5, blk6, blk7, blk8, blk9, blk10, blk11]
  congr 1
  funext k
  by_cases h : y.val < 128
  · rw [dif_pos h]
    congr 2 <;> apply Fin.ext <;> simp only [rowAt] <;> omega
  · rw [dif_neg h]
    congr 2 <;> apply Fin.ext <;> simp only [rowAt] <;> omega

end Cert.PostIdeal.Value

end
-- ==== Proof.PostMath.lean ====
/- The loss call's row stages on reals: the constants, which stages are reals, and the equations between the two ways to
   write a norm's gradient and the gate's. -/
module

public import proofs.«01_k».proof.Proof.PostRow
public import proofs.«01_k».proof.Proof.Common

@[expose] public section

set_option maxRecDepth 16384

noncomputable section

namespace Cert.PostIdeal.Row

open Idealize.ShloMosaic Cert.Common Cert.Norm

theorem c1024_real : c1024 = ((1 / 1024 : ℝ) : EReal) := word_inv_1024
theorem c512_real : c512 = ((1 / 512 : ℝ) : EReal) := by
  unfold c512
  simp [Ideal.ofBits, Ideal.ieee, -EReal.coe_mul]; norm_num
theorem half_real : half = ((1 / 2 : ℝ) : EReal) := by
  unfold half
  simp [Ideal.ofBits, Ideal.ieee, -EReal.coe_mul]; norm_num
theorem word_512 : Ideal.ofBits FTy.f32 1140850688#32 = ((512 : ℝ) : EReal) := by
  simp [Ideal.ofBits, Ideal.ieee, -EReal.coe_mul]; norm_num
theorem word_two : Ideal.ofBits FTy.f32 1073741824#32 = ((2 : ℝ) : EReal) := by
  simp [Ideal.ofBits, Ideal.ieee, -EReal.coe_mul]; norm_num
theorem word_half_1024 : Ideal.ofBits FTy.f32 973078528#32 = ((1 / 2048 : ℝ) : EReal) := by
  simp [Ideal.ofBits, Ideal.ieee, -EReal.coe_mul]; norm_num

/-- A quotient by the number of columns is a product. -/
theorem div_512 (x : EReal) : Ideal.div x (Ideal.ofBits FTy.f32 1140850688#32) = x * c512 := by
  rw [word_512, Ideal.div_coe (by norm_num), c512_real]
theorem div_1024 (x : EReal) : Ideal.div x (Ideal.ofBits FTy.f32 1149239296#32) = x * c1024 := by
  rw [word_1024, Ideal.div_coe (by norm_num), c1024_real]

/-! ### Reals -/

theorem isR_c1024 : IsR c1024 := ⟨_, c1024_real⟩
theorem isR_c512 : IsR c512 := ⟨_, c512_real⟩
theorem isR_half : IsR half := ⟨_, half_real⟩
theorem IsR.tanh {x : EReal} : IsR x → IsR (Ideal.tanh x) := by
  rintro ⟨a, rfl⟩
  exact ⟨_, Ideal.tanh_coe a⟩

/-- The logistic function both ways. -/
theorem sigmoid_eq {x : EReal} : IsR x → Ideal.div 1 (1 + Ideal.exp (-x)) = half * Ideal.tanh (half * x) + half := by
  rintro ⟨a, rfl⟩
  have hp : 0 < 1 + Real.exp (-a) := by positivity
  rw [half_real, ← EReal.coe_neg, Ideal.exp_coe, ← EReal.coe_one, ← EReal.coe_add, Ideal.div_coe hp.ne', ← EReal.coe_mul, ← EReal.coe_mul,
    Ideal.tanh_coe, ← EReal.coe_mul, ← EReal.coe_add]
  congr 1
  rw [Real.tanh_eq_sinh_div_cosh, Real.sinh_eq, Real.cosh_eq]
  have e : Real.exp (-a) = Real.exp (-(1 / 2 * a)) * Real.exp (-(1 / 2 * a)) := by
    rw [← Real.exp_add]; congr 1; ring
  have e' : Real.exp (1 / 2 * a) * Real.exp (-(1 / 2 * a)) = 1 := by
    rw [← Real.exp_add]; simp
  rw [e]
  set u := Real.exp (-(1 / 2 * a)) with hu
  have hu0 : 0 < u := Real.exp_pos _
  have ew : Real.exp (1 / 2 * a) = u⁻¹ := eq_inv_of_mul_eq_one_left e'
  rw [ew]
  field_simp
  ring

/-- The gate's gradient both ways. -/
theorem dgate_eq {p u s g : EReal} : IsR p → IsR u → IsR s → IsR g →
    p * u * s + g * (p * u) * (s * (1 - s)) = p * u * s * (1 + g * (1 - s)) := by
  rintro ⟨p, rfl⟩ ⟨u, rfl⟩ ⟨s, rfl⟩ ⟨g, rfl⟩
  simp only [← EReal.coe_one, ← EReal.coe_mul, ← EReal.coe_sub, ← EReal.coe_add]
  congr 1
  ring

/-! ### Which stages are reals -/

/-- A row of reals. -/
structure Row.Real (R : Row) : Prop where
  oa : ∀ x, IsR (R.oa x)
  ob : ∀ x, IsR (R.ob x)
  h : ∀ x, IsR (R.h x)
  tg : ∀ x, IsR (R.tg x)
  ga : ∀ x, IsR (R.ga x)
  gb : ∀ x, IsR (R.gb x)
  g2 : ∀ x, IsR (R.g2 x)
  wo : ∀ j k, IsR (R.wo j k)
  wg : ∀ j k, IsR (R.wg j k)
  wu : ∀ j k, IsR (R.wu j k)
  wd : ∀ j k, IsR (R.wd j k)

namespace Row.Real

variable {R : Row} (H : R.Real)
include H

theorem mix (k) : IsR (R.mix k) := by
  unfold Row.mix
  rw [c512_real]
  split
  · exact ((H.oa _).mul (isR_nrm (by norm_num) H.oa)).mul (H.ga _)
  · exact ((H.ob _).mul (isR_nrm (by norm_num) H.ob)).mul (H.gb _)
theorem mid (k) : IsR (R.mid k) := (H.h k).add (.sum fun j => (H.mix j).mul (H.wo j k))
theorem nrm_mid : IsR (nrm R.mid c1024) := by rw [c1024_real]; exact isR_nrm (by norm_num) H.mid
theorem hn (k) : IsR (R.hn k) := ((H.mid k).mul H.nrm_mid).mul (H.g2 k)
theorem gate (j) : IsR (R.gate j) := .sum fun k => (H.hn k).mul (H.wg j k)
theorem up (j) : IsR (R.up j) := .sum fun k => (H.hn k).mul (H.wu j k)
theorem sg (j) : IsR (R.sg j) := (isR_half.mul (IsR.tanh (isR_half.mul (H.gate j)))).add isR_half
theorem act (j) : IsR (R.act j) := ((H.gate j).mul (H.sg j)).mul (H.up j)
theorem err (k) : IsR (R.err k) := by
  unfold Row.err
  split
  · exact ((H.mid k).add (.sum fun j => (H.act j).mul (H.wd j k))).sub (H.tg k)
  · exact .zero
theorem dy (k) : IsR (R.dy k) := (H.err k).mul isR_c1024
theorem dact (j) : IsR (R.dact j) := .sum fun k => (H.dy k).mul (H.wd j k)
theorem dgate (j) : IsR (R.dgate j) :=
  (((H.dact j).mul (H.up j)).mul (H.sg j)).mul (IsR.one.add ((H.gate j).mul (IsR.one.sub (H.sg j))))
theorem dup (j) : IsR (R.dup j) := ((H.dact j).mul (H.gate j)).mul (H.sg j)
theorem dhn (k) : IsR (R.dhn k) := (IsR.sum fun j => (H.dgate j).mul (H.wg j k)).add (.sum fun j => (H.dup j).mul (H.wu j k))
theorem dh1 (k) : IsR (R.dh1 k) := by
  unfold Row.dh1
  rw [c1024_real]
  exact (H.dy k).add (IsR.rb (by norm_num) H.dhn H.mid H.g2 k)
theorem dmix (j) : IsR (R.dmix j) := .sum fun k => (H.dh1 k).mul (H.wo j k)

end Row.Real

/-! ### A row of the padding -/

section pad
variable {R : Row} (ha : ∀ x, R.oa x = 0) (hb : ∀ x, R.ob x = 0) (hh : ∀ x, R.h x = 0) (hl : R.live = false)

section fwd
include ha hb
theorem mix_pad (k) : R.mix k = 0 := by
  unfold Row.mix
  split <;> simp only [ha, hb, zero_mul]
include hh
theorem mid_pad (k) : R.mid k = 0 := by
  unfold Row.mid
  simp only [hh, mix_pad ha hb, zero_mul, Finset.sum_const_zero, add_zero]
theorem hn_pad (k) : R.hn k = 0 := by
  unfold Row.hn
  simp only [mid_pad ha hb hh, zero_mul]
theorem gate_pad (j) : R.gate j = 0 := by
  unfold Row.gate
  simp only [hn_pad ha hb hh, zero_mul, Finset.sum_const_zero]
theorem act_pad (j) : R.act j = 0 := by
  unfold Row.act
  simp only [gate_pad ha hb hh, zero_mul]
end fwd

section bwd
include hl
theorem err_pad (k) : R.err k = 0 := by
  unfold Row.err
  rw [hl, if_neg (by decide)]
theorem dy_pad (k) : R.dy k = 0 := by
  unfold Row.dy
  rw [err_pad hl, zero_mul]
theorem dact_pad (j) : R.dact j = 0 := by
  unfold Row.dact
  simp only [dy_pad hl, zero_mul, Finset.sum_const_zero]
theorem dgate_pad (j) : R.dgate j = 0 := by
  unfold Row.dgate
  simp only [dact_pad hl, zero_mul]
theorem dup_pad (j) : R.dup j = 0 := by
  unfold Row.dup
  simp only [dact_pad hl, zero_mul]
theorem dhn_pad (k) : R.dhn k = 0 := by
  unfold Row.dhn
  simp only [dgate_pad hl, dup_pad hl, zero_mul, Finset.sum_const_zero, add_zero]
end bwd

include ha hb hh hl
theorem dh1_pad (k) : R.dh1 k = 0 := by
  unfold Row.dh1
  rw [dy_pad hl, rb_pad _ _ (dhn_pad hl) (mid_pad ha hb hh), add_zero]
theorem dmix_pad (j) : R.dmix j = 0 := by
  unfold Row.dmix
  simp only [dh1_pad ha hb hh hl, zero_mul, Finset.sum_const_zero]
theorem doa_pad (j) : R.doa j = 0 := rb_pad _ _ (fun x => dmix_pad ha hb hh hl _) ha j
theorem dob_pad (j) : R.dob j = 0 := rb_pad _ _ (fun x => dmix_pad ha hb hh hl _) hb j

end pad

end Cert.PostIdeal.Row

end
-- ==== Proof.PostRef.lean ====
/- The loss call as the reference states it, read row by row. -/
module

public import proofs.«01_k».proof.Proof.Gen.PostRefIdeal.Read
public import Idealize.ShloMosaic.Lib.Pointwise
public import proofs.«01_k».proof.Proof.PostMath

@[expose] public section

set_option maxRecDepth 16384

noncomputable section

namespace Cert.PostRefIdeal.Read

open Cert.PostRefIdeal Cert.PostRefIdeal.Gen Idealize.ShloMosaic Idealize.ShloMosaic.TcCoe Idealize.SL.Sem
open Cert.Common Cert.PostIdeal.Row Cert.Norm

variable (x0 x1 : FVec Ideal S2x2064x512 .f32) (x2 : FVec Ideal S2x2064x1024 .f32) (x3 : FVec Ideal S2x2048x1024 .f32)
  (x4 x5 : FVec Ideal S1x512 .f32) (x6 : FVec Ideal S1x1024 .f32) (x7 : FVec Ideal S1x1024x1024 .f32)
  (x8 x9 : FVec Ideal S1x1024x2816 .f32) (x10 : FVec Ideal S1x2816x1024 .f32)

/-- Row `s` of batch `b` of the arguments; the first 16 rows carry no loss. -/
def rowA (b : Fin 2) (s : Fin 2064) : Row where
  oa := fun x => x0 (ix3 b s x)
  ob := fun x => x1 (ix3 b s x)
  h := fun x => x2 (ix3 b s x)
  tg := fun k => x3 (ix3 b ⟨128 * ((s.val + 112) / 128 - 1) + (s.val + 112) % 128, by omega⟩ k)
  live := decide (16 ≤ s.val)
  ga := fun x => x4 (ix2 0 x)
  gb := fun x => x5 (ix2 0 x)
  g2 := fun x => x6 (ix2 0 x)
  wo := fun j k => x7 (ix3 0 j k)
  wg := fun j k => x8 (ix3 0 k j)
  wu := fun j k => x9 (ix3 0 k j)
  wd := fun j k => x10 (ix3 0 j k)

variable (b : Fin 2) (s : Fin 2064)

/-! ### Forward -/

theorem v8_at (z : Fin 1) : val_main_v8 (F := Ideal) x0 (ix3 b s z) = nrm (rowA x0 x1 x2 x3 x4 x5 x6 x7 x8 x9 x10 b s).oa c512 := by
  pointwise [val_main_v8, val_main_v7, val_main_v6, val_main_v5, val_main_v4, val_main_v3, val_main_v2, val_main_v1, val_main_cst, val_main_cst_0, val_main_cst_1]
  rw [div_512]
  rfl
theorem v25_at (z : Fin 1) : val_main_v25 (F := Ideal) x1 (ix3 b s z) = nrm (rowA x0 x1 x2 x3 x4 x5 x6 x7 x8 x9 x10 b s).ob c512 := by
  pointwise [val_main_v25, val_main_v24, val_main_v23, val_main_v22, val_main_v21, val_main_v20, val_main_v19, val_main_v18, val_main_cst_3, val_main_cst_4, val_main_cst_5]
  rw [div_512]
  rfl
theorem v13_at (k : Fin 512) : val_main_v13 (F := Ideal) x0 (ix3 b s k) =
    (rowA x0 x1 x2 x3 x4 x5 x6 x7 x8 x9 x10 b s).oa k * nrm (rowA x0 x1 x2 x3 x4 x5 x6 x7 x8 x9 x10 b s).oa c512 := by
  pointwise [val_main_v13, val_main_v12]
  rw [v8_at x0 x1 x2 x3 x4 x5 x6 x7 x8 x9 x10]
  rfl
theorem v30_at (k : Fin 512) : val_main_v30 (F := Ideal) x1 (ix3 b s k) =
    (rowA x0 x1 x2 x3 x4 x5 x6 x7 x8 x9 x10 b s).ob k * nrm (rowA x0 x1 x2 x3 x4 x5 x6 x7 x8 x9 x10 b s).ob c512 := by
  pointwise [val_main_v30, val_main_v29]
  rw [v25_at x0 x1 x2 x3 x4 x5 x6 x7 x8 x9 x10]
  rfl
theorem v34_at (k : Fin 1024) : val_main_v34 (F := Ideal) x0 x1 x4 x5 (ix3 b s k) = (rowA x0 x1 x2 x3 x4 x5 x6 x7 x8 x9 x10 b s).mix k := by
  pointwise [val_main_v34, val_main_v33, val_main_v32, val_main_v31, val_main_v17, val_main_v16, val_main_v15, val_main_v14, val_main_v0]
  simp only [v13_at x0 x1 x2 x3 x4 x5 x6 x7 x8 x9 x10, v30_at x0 x1 x2 x3 x4 x5 x6 x7 x8 x9 x10]
  rfl
theorem v37_at (k : Fin 1024) : val_main_v37 (F := Ideal) x0 x1 x2 x4 x5 x7 (ix3 b s k) = (rowA x0 x1 x2 x3 x4 x5 x6 x7 x8 x9 x10 b s).mid k := by
  pointwise [val_main_v37, val_main_v36, val_main_v35]
  simp only [v34_at x0 x1 x2 x3 x4 x5 x6 x7 x8 x9 x10]
  rfl
theorem v45_at (z : Fin 1) : val_main_v45 (F := Ideal) x0 x1 x2 x4 x5 x7 (ix3 b s z) =
    (∑ x, (rowA x0 x1 x2 x3 x4 x5 x6 x7 x8 x9 x10 b s).mid x * (rowA x0 x1 x2 x3 x4 x5 x6 x7 x8 x9 x10 b s).mid x) * c1024 + Ideal.ofBits FTy.f32 897988541#32 := by
  pointwise [val_main_v45, val_main_v44, val_main_v43, val_main_v42, val_main_v41, val_main_v40, val_main_v39, val_main_cst_7, val_main_cst_8, val_main_cst_9]
  rw [div_1024]
  simp only [v37_at x0 x1 x2 x3 x4 x5 x6 x7 x8 x9 x10]
theorem v46_at (z : Fin 1) : val_main_v46 (F := Ideal) x0 x1 x2 x4 x5 x7 (ix3 b s z) = nrm (rowA x0 x1 x2 x3 x4 x5 x6 x7 x8 x9 x10 b s).mid c1024 := by
  pointwise [val_main_v46]
  rw [v45_at x0 x1 x2 x3 x4 x5 x6 x7 x8 x9 x10]
  rfl
theorem v51_at (k : Fin 1024) : val_main_v51 (F := Ideal) x0 x1 x2 x4 x5 x7 (ix3 b s k) =
    (rowA x0 x1 x2 x3 x4 x5 x6 x7 x8 x9 x10 b s).mid k * nrm (rowA x0 x1 x2 x3 x4 x5 x6 x7 x8 x9 x10 b s).mid c1024 := by
  pointwise [val_main_v51, val_main_v50]
  rw [v46_at x0 x1 x2 x3 x4 x5 x6 x7 x8 x9 x10, v37_at x0 x1 x2 x3 x4 x5 x6 x7 x8 x9 x10]
theorem v54_at (k : Fin 1024) : val_main_v54 (F := Ideal) x0 x1 x2 x4 x5 x6 x7 (ix3 b s k) = (rowA x0 x1 x2 x3 x4 x5 x6 x7 x8 x9 x10 b s).hn k := by
  pointwise [val_main_v54, val_main_v53, val_main_v52, val_main_v38]
  rw [v51_at x0 x1 x2 x3 x4 x5 x6 x7 x8 x9 x10]
  rfl
theorem v56_at (j : Fin 2816) : val_main_v56 (F := Ideal) x0 x1 x2 x4 x5 x6 x7 x8 (ix3 b s j) = (rowA x0 x1 x2 x3 x4 x5 x6 x7 x8 x9 x10 b s).gate j := by
  pointwise [val_main_v56, val_main_v55]
  simp only [v54_at x0 x1 x2 x3 x4 x5 x6 x7 x8 x9 x10]
  rfl
theorem v58_at (j : Fin 2816) : val_main_v58 (F := Ideal) x0 x1 x2 x4 x5 x6 x7 x9 (ix3 b s j) = (rowA x0 x1 x2 x3 x4 x5 x6 x7 x8 x9 x10 b s).up j := by
  pointwise [val_main_v58, val_main_v57]
  simp only [v54_at x0 x1 x2 x3 x4 x5 x6 x7 x8 x9 x10]
  rfl

variable (H : ∀ b s, (rowA x0 x1 x2 x3 x4 x5 x6 x7 x8 x9 x10 b s).Real)
include H

theorem v59_at (j : Fin 2816) : val_main_v59_2 (F := Ideal) x0 x1 x2 x4 x5 x6 x7 x8 (ix3 b s j) = (rowA x0 x1 x2 x3 x4 x5 x6 x7 x8 x9 x10 b s).sg j := by
  pointwise [val_main_v59_2, val_main_call0_v4, val_main_call0_v3, val_main_call0_v2, val_main_call0_v1, val_main_call0_v0, val_main_call0_cst, val_main_call0_cst_0]
  rw [v56_at x0 x1 x2 x3 x4 x5 x6 x7 x8 x9 x10]
  exact sigmoid_eq ((H b s).gate j)
theorem v60_at (j : Fin 2816) : val_main_v60 (F := Ideal) x0 x1 x2 x4 x5 x6 x7 x8 x9 (ix3 b s j) = (rowA x0 x1 x2 x3 x4 x5 x6 x7 x8 x9 x10 b s).act j := by
  pointwise [val_main_v60, val_main_v59_0]
  rw [v56_at x0 x1 x2 x3 x4 x5 x6 x7 x8 x9 x10, v58_at x0 x1 x2 x3 x4 x5 x6 x7 x8 x9 x10, v59_at x0 x1 x2 x3 x4 x5 x6 x7 x8 x9 x10 b s H]
  rfl

/-- The error of a row that carries a loss. -/
theorem v65_at (s' : Fin 2048) (k : Fin 1024) : val_main_v65 (F := Ideal) x0 x1 x2 x3 x4 x5 x6 x7 x8 x9 x10 (ix3 b s' k) =
    (rowA x0 x1 x2 x3 x4 x5 x6 x7 x8 x9 x10 b ⟨16 + s'.val, by omega⟩).err k := by
  pointwise [val_main_v65, val_main_v64, val_main_v63, val_main_v62, val_main_v61]
  simp only [v37_at x0 x1 x2 x3 x4 x5 x6 x7 x8 x9 x10, v60_at x0 x1 x2 x3 x4 x5 x6 x7 x8 x9 x10 _ _ H]
  unfold Row.err
  rw [if_pos (show (rowA x0 x1 x2 x3 x4 x5 x6 x7 x8 x9 x10 b ⟨16 + s'.val, by omega⟩).live = true from decide_eq_true (by simp only; omega))]
  have e : (⟨128 * ((16 + s'.val + 112) / 128 - 1) + (16 + s'.val + 112) % 128, by omega⟩ : Fin 2048) = s' := Fin.ext (by simp only; omega)
  show _ = _ - x3 (ix3 b ⟨128 * ((16 + s'.val + 112) / 128 - 1) + (16 + s'.val + 112) % 128, by omega⟩ k)
  rw [e]
  rfl

/-! ### Backward -/

theorem v79_at (s' : Fin 2048) (k : Fin 1024) : val_main_v79 (F := Ideal) x0 x1 x2 x3 x4 x5 x6 x7 x8 x9 x10 (ix3 b s' k) =
    (rowA x0 x1 x2 x3 x4 x5 x6 x7 x8 x9 x10 b ⟨16 + s'.val, by omega⟩).dy k := by
  pointwise [val_main_v79, val_main_v78, val_main_v77, val_main_v76, val_main_v75, val_main_v74, val_main_v68, val_main_v67, val_main_cst_11, val_main_cst_16, val_main_cst_17, val_main_cst_18]
  rw [v65_at x0 x1 x2 x3 x4 x5 x6 x7 x8 x9 x10 b H, div_1024]
  unfold Row.dy
  obtain ⟨r, hr⟩ := (H b ⟨16 + s'.val, by omega⟩).err k
  rw [hr, word_two, show Ideal.ofBits FTy.f32 1056964608#32 = ((1 / 2 : ℝ) : EReal) from half_real, c1024_real]
  simp only [← EReal.coe_one, ← EReal.coe_mul]
  congr 1
  ring
theorem v80_at (k : Fin 1024) : val_main_v80 (F := Ideal) x0 x1 x2 x3 x4 x5 x6 x7 x8 x9 x10 (ix3 b s k) = (rowA x0 x1 x2 x3 x4 x5 x6 x7 x8 x9 x10 b s).dy k := by
  pointwise [val_main_v80, val_main_cst_19]
  by_cases h : 16 ≤ s.val
  · have h' : 16 ≤ s.val ∧ s.val - 16 < 2048 := ⟨h, by omega⟩
    rw [dif_pos h', v79_at x0 x1 x2 x3 x4 x5 x6 x7 x8 x9 x10 b H, show (⟨16 + (s.val - 16), by omega⟩ : Fin 2064) = s from Fin.ext (by simp only; omega)]
  · rw [dif_neg fun h' => h h'.1]
    exact (dy_pad (R := (rowA x0 x1 x2 x3 x4 x5 x6 x7 x8 x9 x10 b s)) (decide_eq_false h) k).symm
theorem v81_at (j : Fin 2816) : val_main_v81 (F := Ideal) x0 x1 x2 x3 x4 x5 x6 x7 x8 x9 x10 (ix3 b s j) = (rowA x0 x1 x2 x3 x4 x5 x6 x7 x8 x9 x10 b s).dact j := by
  pointwise [val_main_v81, val_main_v61]
  simp only [v80_at x0 x1 x2 x3 x4 x5 x6 x7 x8 x9 x10 _ _ H]
  rfl
theorem v82_at (j : Fin 2816) : val_main_v82 (F := Ideal) x0 x1 x2 x3 x4 x5 x6 x7 x8 x9 x10 (ix3 b s j) = (rowA x0 x1 x2 x3 x4 x5 x6 x7 x8 x9 x10 b s).dup j := by
  pointwise [val_main_v82, val_main_v59_0]
  rw [v81_at x0 x1 x2 x3 x4 x5 x6 x7 x8 x9 x10 _ _ H, v56_at x0 x1 x2 x3 x4 x5 x6 x7 x8 x9 x10, v59_at x0 x1 x2 x3 x4 x5 x6 x7 x8 x9 x10 _ _ H, mul_comm, ← mul_assoc]
  rfl
theorem v84_at (j : Fin 2816) : val_main_v84 (F := Ideal) x0 x1 x2 x3 x4 x5 x6 x7 x8 x9 x10 (ix3 b s j) = (rowA x0 x1 x2 x3 x4 x5 x6 x7 x8 x9 x10 b s).dgate j := by
  pointwise [val_main_v84, val_main_call1_v2, val_main_call1_v1, val_main_call1_v0, val_main_v83, val_main_v59_1, val_main_call0_v7, val_main_call0_v6, val_main_call0_cst_1]
  rw [v81_at x0 x1 x2 x3 x4 x5 x6 x7 x8 x9 x10 _ _ H, v56_at x0 x1 x2 x3 x4 x5 x6 x7 x8 x9 x10, v58_at x0 x1 x2 x3 x4 x5 x6 x7 x8 x9 x10, v59_at x0 x1 x2 x3 x4 x5 x6 x7 x8 x9 x10 _ _ H]
  exact dgate_eq ((H b s).dact j) ((H b s).up j) ((H b s).sg j) ((H b s).gate j)
theorem v87_at (k : Fin 1024) : val_main_v87 (F := Ideal) x0 x1 x2 x3 x4 x5 x6 x7 x8 x9 x10 (ix3 b s k) = (rowA x0 x1 x2 x3 x4 x5 x6 x7 x8 x9 x10 b s).dhn k := by
  pointwise [val_main_v87, val_main_v86, val_main_v85, val_main_v57, val_main_v55]
  simp only [v82_at x0 x1 x2 x3 x4 x5 x6 x7 x8 x9 x10 _ _ H, v84_at x0 x1 x2 x3 x4 x5 x6 x7 x8 x9 x10 _ _ H]
  exact add_comm _ _
theorem v108_at (k : Fin 1024) : val_main_v108 (F := Ideal) x0 x1 x2 x3 x4 x5 x6 x7 x8 x9 x10 (ix3 b s k) = (rowA x0 x1 x2 x3 x4 x5 x6 x7 x8 x9 x10 b s).dh1 k := by
  pointwise [val_main_v108, val_main_v107, val_main_v106, val_main_v105, val_main_v104, val_main_v103, val_main_v102, val_main_v101, val_main_v100, val_main_v99, val_main_v98, val_main_v97, val_main_v96, val_main_v95, val_main_v94, val_main_v92, val_main_v91, val_main_v52, val_main_v38, val_main_v49, val_main_v48, val_main_v47, val_main_v46, val_main_cst_10, val_main_cst_22, val_main_cst_23, val_main_cst_24]
  simp only [v80_at x0 x1 x2 x3 x4 x5 x6 x7 x8 x9 x10 _ _ H, v87_at x0 x1 x2 x3 x4 x5 x6 x7 x8 x9 x10 _ _ H, v37_at x0 x1 x2 x3 x4 x5 x6 x7 x8 x9 x10, v45_at x0 x1 x2 x3 x4 x5 x6 x7 x8 x9 x10, Fin.sum_univ_one, div_1024]
  exact norm_bwd_of (1 / 1024) c1024_real (by norm_num) (H b s).mid (H b s).g2 (H b s).dhn k _
theorem v110_at (j : Fin 1024) : val_main_v110 (F := Ideal) x0 x1 x2 x3 x4 x5 x6 x7 x8 x9 x10 (ix3 b s j) = (rowA x0 x1 x2 x3 x4 x5 x6 x7 x8 x9 x10 b s).dmix j := by
  pointwise [val_main_v110, val_main_v35]
  simp only [v108_at x0 x1 x2 x3 x4 x5 x6 x7 x8 x9 x10 _ _ H]
  rfl
theorem v153_at (k : Fin 512) : val_main_v153 (F := Ideal) x0 x1 x2 x3 x4 x5 x6 x7 x8 x9 x10 (ix3 b s k) = (rowA x0 x1 x2 x3 x4 x5 x6 x7 x8 x9 x10 b s).doa k := by
  pointwise [val_main_v153, val_main_v152, val_main_v151, val_main_v150, val_main_v149, val_main_v148, val_main_v147, val_main_v146, val_main_v145, val_main_v144, val_main_v143, val_main_v142, val_main_v141, val_main_v140, val_main_v138, val_main_v137, val_main_v111, val_main_v14, val_main_v0, val_main_v11, val_main_v10, val_main_v9, val_main_v8, val_main_v7, val_main_v6, val_main_v5, val_main_v4, val_main_v3, val_main_v2, val_main_v1, val_main_cst, val_main_cst_0, val_main_cst_1, val_main_cst_2, val_main_cst_32, val_main_cst_33, val_main_cst_34]
  simp only [v110_at x0 x1 x2 x3 x4 x5 x6 x7 x8 x9 x10 _ _ H, Fin.sum_univ_one, div_512]
  have e := norm_bwd_of (1 / 512) c512_real (by norm_num) (H b s).oa (H b s).ga (fun x => (H b s).dmix ⟨x.val, by omega⟩) k 0
  simp only [zero_add] at e
  exact e
theorem v132_at (k : Fin 512) : val_main_v132 (F := Ideal) x0 x1 x2 x3 x4 x5 x6 x7 x8 x9 x10 (ix3 b s k) = (rowA x0 x1 x2 x3 x4 x5 x6 x7 x8 x9 x10 b s).dob k := by
  pointwise [val_main_v132, val_main_v131, val_main_v130, val_main_v129, val_main_v128, val_main_v127, val_main_v126, val_main_v125, val_main_v124, val_main_v123, val_main_v122, val_main_v121, val_main_v120, val_main_v119, val_main_v117, val_main_v116, val_main_v112, val_main_v31, val_main_v17, val_main_v28, val_main_v27, val_main_v26, val_main_v25, val_main_v24, val_main_v23, val_main_v22, val_main_v21, val_main_v20, val_main_v19, val_main_v18, val_main_cst_3, val_main_cst_4, val_main_cst_5, val_main_cst_6, val_main_cst_27, val_main_cst_28, val_main_cst_29]
  simp only [v110_at x0 x1 x2 x3 x4 x5 x6 x7 x8 x9 x10 _ _ H, Fin.sum_univ_one, div_512]
  have e := norm_bwd_of (1 / 512) c512_real (by norm_num) (H b s).ob (H b s).gb (fun x => (H b s).dmix ⟨512 + x.val, by omega⟩) k 0
  simp only [zero_add] at e
  exact e

/-! ### The results -/

theorem v157_at (r : Fin 4352) (k : Fin 512) : val_main_v157 (F := Ideal) x0 x1 x2 x3 x4 x5 x6 x7 x8 x9 x10 (ix2 r k) =
    if r.val % 2176 < 112 then 0 else (rowA x0 x1 x2 x3 x4 x5 x6 x7 x8 x9 x10 ⟨r.val / 2176, by omega⟩ ⟨r.val % 2176 - 112, by omega⟩).doa k := by
  pointwise [val_main_v157, val_main_v156, val_main_v155, val_main_cst_35]
  simp only [v153_at x0 x1 x2 x3 x4 x5 x6 x7 x8 x9 x10 _ _ H]
  by_cases h : r.val % 2176 < 112
  · rw [dif_pos h, if_pos h]
  · rw [dif_neg h, if_neg h]
theorem v160_at (r : Fin 4352) (k : Fin 512) : val_main_v160 (F := Ideal) x0 x1 x2 x3 x4 x5 x6 x7 x8 x9 x10 (ix2 r k) =
    if r.val % 2176 < 112 then 0 else (rowA x0 x1 x2 x3 x4 x5 x6 x7 x8 x9 x10 ⟨r.val / 2176, by omega⟩ ⟨r.val % 2176 - 112, by omega⟩).dob k := by
  pointwise [val_main_v160, val_main_v159, val_main_v158, val_main_cst_36]
  simp only [v132_at x0 x1 x2 x3 x4 x5 x6 x7 x8 x9 x10 _ _ H]
  by_cases h : r.val % 2176 < 112
  · rw [dif_pos h, if_pos h]
  · rw [dif_neg h, if_neg h]
theorem v163_at (r : Fin 4352) (k : Fin 1024) : val_main_v163 (F := Ideal) x0 x1 x2 x3 x4 x5 x6 x7 x8 x9 x10 (ix2 r k) =
    if r.val % 2176 < 112 then 0 else (rowA x0 x1 x2 x3 x4 x5 x6 x7 x8 x9 x10 ⟨r.val / 2176, by omega⟩ ⟨r.val % 2176 - 112, by omega⟩).dh1 k := by
  pointwise [val_main_v163, val_main_v162, val_main_v161, val_main_cst_37]
  simp only [v108_at x0 x1 x2 x3 x4 x5 x6 x7 x8 x9 x10 _ _ H]
  by_cases h : r.val % 2176 < 112
  · rw [dif_pos h, if_pos h]
  · rw [dif_neg h, if_neg h]
omit H in
theorem v168_at (r : Fin 4352) (k : Fin 1024) : val_main_v168 (F := Ideal) x0 x1 x4 x5 (ix2 k r) =
    if r.val % 2176 < 112 then 0 else (rowA x0 x1 x2 x3 x4 x5 x6 x7 x8 x9 x10 ⟨r.val / 2176, by omega⟩ ⟨r.val % 2176 - 112, by omega⟩).mix k := by
  pointwise [val_main_v168, val_main_v167, val_main_v166, val_main_v165, val_main_v164, val_main_cst_38]
  simp only [v34_at x0 x1 x2 x3 x4 x5 x6 x7 x8 x9 x10]
  by_cases h : r.val % 2176 < 112
  · rw [dif_pos h, if_pos h]
  · rw [dif_neg h, if_neg h]
omit H in
theorem v172_at (r : Fin 4352) (k : Fin 1024) : val_main_v172 (F := Ideal) x0 x1 x2 x4 x5 x6 x7 (ix2 r k) =
    if r.val % 2176 < 112 then 0 else (rowA x0 x1 x2 x3 x4 x5 x6 x7 x8 x9 x10 ⟨r.val / 2176, by omega⟩ ⟨r.val % 2176 - 112, by omega⟩).hn k := by
  pointwise [val_main_v172, val_main_v171, val_main_v170, val_main_v169, val_main_cst_39]
  simp only [v54_at x0 x1 x2 x3 x4 x5 x6 x7 x8 x9 x10]
  by_cases h : r.val % 2176 < 112
  · rw [dif_pos h, if_pos h]
  · rw [dif_neg h, if_neg h]
theorem v177_at (r : Fin 4352) (k : Fin 2816) : val_main_v177 (F := Ideal) x0 x1 x2 x4 x5 x6 x7 x8 x9 (ix2 k r) =
    if r.val % 2176 < 112 then 0 else (rowA x0 x1 x2 x3 x4 x5 x6 x7 x8 x9 x10 ⟨r.val / 2176, by omega⟩ ⟨r.val % 2176 - 112, by omega⟩).act k := by
  pointwise [val_main_v177, val_main_v176, val_main_v175, val_main_v174, val_main_v173, val_main_cst_40]
  simp only [v60_at x0 x1 x2 x3 x4 x5 x6 x7 x8 x9 x10 _ _ H]
  by_cases h : r.val % 2176 < 112
  · rw [dif_pos h, if_pos h]
  · rw [dif_neg h, if_neg h]
theorem v182_at (r : Fin 4352) (k : Fin 2816) : val_main_v182 (F := Ideal) x0 x1 x2 x3 x4 x5 x6 x7 x8 x9 x10 (ix2 k r) =
    if r.val % 2176 < 112 then 0 else (rowA x0 x1 x2 x3 x4 x5 x6 x7 x8 x9 x10 ⟨r.val / 2176, by omega⟩ ⟨r.val % 2176 - 112, by omega⟩).dgate k := by
  pointwise [val_main_v182, val_main_v181, val_main_v180, val_main_v179, val_main_v178, val_main_cst_41]
  simp only [v84_at x0 x1 x2 x3 x4 x5 x6 x7 x8 x9 x10 _ _ H]
  by_cases h : r.val % 2176 < 112
  · rw [dif_pos h, if_pos h]
  · rw [dif_neg h, if_neg h]
theorem v187_at (r : Fin 4352) (k : Fin 2816) : val_main_v187 (F := Ideal) x0 x1 x2 x3 x4 x5 x6 x7 x8 x9 x10 (ix2 k r) =
    if r.val % 2176 < 112 then 0 else (rowA x0 x1 x2 x3 x4 x5 x6 x7 x8 x9 x10 ⟨r.val / 2176, by omega⟩ ⟨r.val % 2176 - 112, by omega⟩).dup k := by
  pointwise [val_main_v187, val_main_v186, val_main_v185, val_main_v184, val_main_v183, val_main_cst_42]
  simp only [v82_at x0 x1 x2 x3 x4 x5 x6 x7 x8 x9 x10 _ _ H]
  by_cases h : r.val % 2176 < 112
  · rw [dif_pos h, if_pos h]
  · rw [dif_neg h, if_neg h]
theorem v191_at (r : Fin 4352) (k : Fin 1024) : val_main_v191 (F := Ideal) x0 x1 x2 x3 x4 x5 x6 x7 x8 x9 x10 (ix2 r k) =
    if r.val % 2176 < 112 then 0 else (rowA x0 x1 x2 x3 x4 x5 x6 x7 x8 x9 x10 ⟨r.val / 2176, by omega⟩ ⟨r.val % 2176 - 112, by omega⟩).dy k := by
  pointwise [val_main_v191, val_main_v190, val_main_v189, val_main_v188, val_main_cst_43]
  simp only [v80_at x0 x1 x2 x3 x4 x5 x6 x7 x8 x9 x10 _ _ H]
  by_cases h : r.val % 2176 < 112
  · rw [dif_pos h, if_pos h]
  · rw [dif_neg h, if_neg h]

theorem v192_at (l : Fin 128) : val_main_v192 (F := Ideal) x0 x1 x2 x3 x4 x5 x6 x7 x8 x9 x10 (ix2 0 l) =
    half * ∑ b : Fin 2, ∑ s' : Fin 2048, (∑ k, (rowA x0 x1 x2 x3 x4 x5 x6 x7 x8 x9 x10 b ⟨16 + s'.val, by omega⟩).err k * (rowA x0 x1 x2 x3 x4 x5 x6 x7 x8 x9 x10 b ⟨16 + s'.val, by omega⟩).err k) * c1024 := by
  pointwise [val_main_v192, val_main_v73, val_main_v72, val_main_v71, val_main_v70, val_main_v69, val_main_v66, val_main_cst_12, val_main_cst_13, val_main_cst_14, val_main_cst_15]
  simp only [v65_at x0 x1 x2 x3 x4 x5 x6 x7 x8 x9 x10 _ H, div_1024]
  rfl
theorem v109_at (k : Fin 1024) : val_main_v109 (F := Ideal) x0 x1 x2 x3 x4 x5 x6 x7 x8 x9 x10 (ix2 0 k) =
    ∑ b : Fin 2, ∑ s : Fin 2064, (rowA x0 x1 x2 x3 x4 x5 x6 x7 x8 x9 x10 b s).mid k * nrm (rowA x0 x1 x2 x3 x4 x5 x6 x7 x8 x9 x10 b s).mid c1024 * (rowA x0 x1 x2 x3 x4 x5 x6 x7 x8 x9 x10 b s).dhn k := by
  pointwise [val_main_v109, val_main_v93, val_main_v90, val_main_v89, val_main_v88, val_main_cst_20, val_main_cst_21]
  rw [hostReduceAdd_r3]
  pointwise
  rw [hostReduceAdd_r3]
  pointwise
  simp only [v87_at x0 x1 x2 x3 x4 x5 x6 x7 x8 x9 x10 _ _ H, v51_at x0 x1 x2 x3 x4 x5 x6 x7 x8 x9 x10, Fin.sum_univ_one]
theorem v154_at (k : Fin 512) : val_main_v154 (F := Ideal) x0 x1 x2 x3 x4 x5 x6 x7 x8 x9 x10 (ix2 0 k) =
    ∑ b : Fin 2, ∑ s : Fin 2064, (rowA x0 x1 x2 x3 x4 x5 x6 x7 x8 x9 x10 b s).oa k * nrm (rowA x0 x1 x2 x3 x4 x5 x6 x7 x8 x9 x10 b s).oa c512 * (rowA x0 x1 x2 x3 x4 x5 x6 x7 x8 x9 x10 b s).dma k := by
  pointwise [val_main_v154, val_main_v139, val_main_v136, val_main_v135, val_main_v134, val_main_v111, val_main_cst_30, val_main_cst_31]
  rw [hostReduceAdd_r3]
  pointwise
  rw [hostReduceAdd_r3]
  pointwise
  simp only [v110_at x0 x1 x2 x3 x4 x5 x6 x7 x8 x9 x10 _ _ H, v13_at x0 x1 x2 x3 x4 x5 x6 x7 x8 x9 x10, Fin.sum_univ_one]
  rfl
theorem v133_at (k : Fin 512) : val_main_v133 (F := Ideal) x0 x1 x2 x3 x4 x5 x6 x7 x8 x9 x10 (ix2 0 k) =
    ∑ b : Fin 2, ∑ s : Fin 2064, (rowA x0 x1 x2 x3 x4 x5 x6 x7 x8 x9 x10 b s).ob k * nrm (rowA x0 x1 x2 x3 x4 x5 x6 x7 x8 x9 x10 b s).ob c512 * (rowA x0 x1 x2 x3 x4 x5 x6 x7 x8 x9 x10 b s).dmb k := by
  pointwise [val_main_v133, val_main_v118, val_main_v115, val_main_v114, val_main_v113, val_main_v112, val_main_cst_25, val_main_cst_26]
  rw [hostReduceAdd_r3]
  pointwise
  rw [hostReduceAdd_r3]
  pointwise
  simp only [v110_at x0 x1 x2 x3 x4 x5 x6 x7 x8 x9 x10 _ _ H, v30_at x0 x1 x2 x3 x4 x5 x6 x7 x8 x9 x10, Fin.sum_univ_one]
  rfl

end Cert.PostRefIdeal.Read

end
-- ==== Proof.PostEntry.lean ====
/- The loss call: the arrays it is entered with, read at an index, and its rows as rows of the arguments. -/
module

public import Idealize.ShloMosaic.Lib.StableHlo.ReadAt
public import proofs.«01_k».proof.Proof.PostBlocks
public import proofs.«01_k».proof.Proof.PostRef

@[expose] public section

set_option maxRecDepth 16384

noncomputable section

namespace Cert.PostIdeal.Value

open Cert.PostIdeal Cert.PostIdeal.Gen Cert.PostIdeal.Row Idealize.ShloMosaic Idealize.ShloMosaic.TcCoe Idealize.SL.Sem
open Idealize.ShloMosaic.Pipeline (Dat)
open Cert.Common Cert.PostRefIdeal.Read

variable (m : (ℓ : Loc nD τ sig) → Buf (Elt Ideal) ℓ)

theorem oaE_eq (c : Dev nD) (r : Fin 4352) (k : Fin 512) : V m c main_v1 (ix2 r k) =
    if h : r.val / 2176 < 2 ∧ 112 ≤ r.val % 2176 ∧ r.val % 2176 - 112 < 2064 then
      m (c, Proc.tc.devRef main_arg0) (ix3 ⟨r.val / 2176, h.1⟩ ⟨r.val % 2176 - 112, h.2.2⟩ k)
    else (0 : EReal) := by
  unfold V
  after_reads_at
  simp only [zero_int]
theorem obE_eq (c : Dev nD) (r : Fin 4352) (k : Fin 512) : V m c main_v3 (ix2 r k) =
    if h : r.val / 2176 < 2 ∧ 112 ≤ r.val % 2176 ∧ r.val % 2176 - 112 < 2064 then
      m (c, Proc.tc.devRef main_arg1) (ix3 ⟨r.val / 2176, h.1⟩ ⟨r.val % 2176 - 112, h.2.2⟩ k)
    else (0 : EReal) := by
  unfold V
  after_reads_at
  simp only [zero_int]
theorem hE_eq (c : Dev nD) (r : Fin 4352) (k : Fin 1024) : V m c main_v5 (ix2 r k) =
    if h : r.val / 2176 < 2 ∧ 112 ≤ r.val % 2176 ∧ r.val % 2176 - 112 < 2064 then
      m (c, Proc.tc.devRef main_arg2) (ix3 ⟨r.val / 2176, h.1⟩ ⟨r.val % 2176 - 112, h.2.2⟩ k)
    else (0 : EReal) := by
  unfold V
  after_reads_at
  simp only [zero_int]
theorem woE_eq (c : Dev nD) (j : Fin 1024) (k : Fin 1024) : V m c main_v7 (ix2 j k) = m (c, Proc.tc.devRef main_arg7) (ix3 0 j k) := by
  unfold V
  after_reads_at
theorem wgE_eq (c : Dev nD) (j : Fin 2816) (k : Fin 1024) : V m c main_v10 (ix2 j k) = m (c, Proc.tc.devRef main_arg8) (ix3 0 k j) := by
  unfold V
  after_reads_at
theorem wuE_eq (c : Dev nD) (j : Fin 2816) (k : Fin 1024) : V m c main_v13 (ix2 j k) = m (c, Proc.tc.devRef main_arg9) (ix3 0 k j) := by
  unfold V
  after_reads_at
theorem wdE_eq (c : Dev nD) (j : Fin 2816) (k : Fin 1024) : V m c main_v15 (ix2 j k) = m (c, Proc.tc.devRef main_arg10) (ix3 0 j k) := by
  unfold V
  after_reads_at
theorem tgE_eq (c : Dev nD) (b : Fin 2) (q : Fin 2048) (k : Fin 1024) : V m c main_arg3 (ix3 b q k) = m (c, Proc.tc.devRef main_arg3) (ix3 b q k) := by
  unfold V
  after_reads_at
theorem gaE_eq (c : Dev nD) (k : Fin 512) : V m c main_arg4 (ix2 0 k) = m (c, Proc.tc.devRef main_arg4) (ix2 0 k) := by
  unfold V
  after_reads_at
theorem gbE_eq (c : Dev nD) (k : Fin 512) : V m c main_arg5 (ix2 0 k) = m (c, Proc.tc.devRef main_arg5) (ix2 0 k) := by
  unfold V
  after_reads_at
theorem g2E_eq (c : Dev nD) (k : Fin 1024) : V m c main_arg6 (ix2 0 k) = m (c, Proc.tc.devRef main_arg6) (ix2 0 k) := by
  unfold V
  after_reads_at

variable (c : Dev nD)

/-- Row `s` of batch `b` of the arguments the program is given. -/
abbrev rowM (b : Fin 2) (s : Fin 2064) : Row :=
  rowA (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8)) (m (c, Proc.tc.devRef main_arg9)) (m (c, Proc.tc.devRef main_arg10)) b s

theorem rowE_row {r : Fin 4352} (h : ¬ r.val % 2176 < 112) : rowE m c r = rowM m c ⟨r.val / 2176, by omega⟩ ⟨r.val % 2176 - 112, by omega⟩ := by
  have hc : r.val / 2176 < 2 ∧ 112 ≤ r.val % 2176 ∧ r.val % 2176 - 112 < 2064 := by omega
  unfold rowE rowM rowA
  congr 1
  · exact funext fun k => (oaE_eq m c r k).trans (dif_pos hc)
  · exact funext fun k => (obE_eq m c r k).trans (dif_pos hc)
  · exact funext fun k => (hE_eq m c r k).trans (dif_pos hc)
  · funext k
    rw [tgE_eq]
    congr 2
    apply Fin.ext
    simp only
    omega
  · exact decide_eq_decide.2 (show 128 ≤ r.val % 2176 ↔ 16 ≤ r.val % 2176 - 112 by omega)
  · exact funext fun j => funext fun k => woE_eq m c j k
  · exact funext fun j => funext fun k => wgE_eq m c j k
  · exact funext fun j => funext fun k => wuE_eq m c j k
  · exact funext fun j => funext fun k => wdE_eq m c j k

variable {m c} {r : Fin 4352} (h : r.val % 2176 < 112)
include h
theorem oa_zero (k) : (rowE m c r).oa k = 0 := (oaE_eq m c r k).trans (dif_neg (by omega))
theorem ob_zero (k) : (rowE m c r).ob k = 0 := (obE_eq m c r k).trans (dif_neg (by omega))
theorem h_zero (k) : (rowE m c r).h k = 0 := (hE_eq m c r k).trans (dif_neg (by omega))
theorem not_live : (rowE m c r).live = false := decide_eq_false (by omega)

end Cert.PostIdeal.Value

end
-- ==== Proof.PostValue.lean ====
/- The loss call: what its result arrays hold after the run, row by row. -/
module

public import proofs.«01_k».proof.Proof.PostBlocks

@[expose] public section

set_option maxRecDepth 16384

noncomputable section

namespace Cert.PostIdeal.Value

open Cert.PostIdeal Cert.PostIdeal.Gen Cert.PostIdeal.Row Idealize.ShloMosaic Idealize.ShloMosaic.TcCoe Idealize.SL.Sem
open Idealize.ShloMosaic.Pipeline (Dat)

variable (m : (ℓ : Loc nD τ sig) → Buf (Elt Ideal) ℓ)

theorem coords0 : ∀ t : Fin cfg0.N, (grid0.coords t 0).val = t.val := (by decide +kernel : ∀ t : Fin grid0.N, _)

theorem arr12 (c : Dev nD) (G : S4352x512.Idx → EReal) (hG : ∀ r k, G (ix2 r k) = (rowE m c r).doa k) :
    (dats m 0 c).arrAt 12 (cfgs 0).N = G := by
  refine (dats m 0 c).arrAt_eq_of_covers 12 _ (by decide +kernel) fun t _ y => ?_
  have ht := lt17 t
  blk_simp
  rw [after0_12]
  by_cases h : t.val % 17 = 0
  · rw [outsAt0_A m c t h (by omega) h (by omega) h (by omega) h (by omega)]
    frame_out
    idx_vars y
    rw [coords0, pay48_at ⟨t.val, ht⟩, rowB_eq]
    refine (hG (rowAt t y0) y1).symm.trans (congrArg G ?_)
    blk_point [iblk, V, rowAt, idx t]
  · rw [outsAt0_B m c t h (by omega) h (by omega) h (by omega) h (by omega)]
    frame_out
    idx_vars y
    rw [coords0, pay48_at ⟨t.val, ht⟩, rowB_eq]
    refine (hG (rowAt t y0) y1).symm.trans (congrArg G ?_)
    blk_point [iblk, V, rowAt, idx t]

theorem arr13 (c : Dev nD) (G : S4352x512.Idx → EReal) (hG : ∀ r k, G (ix2 r k) = (rowE m c r).dob k) :
    (dats m 0 c).arrAt 13 (cfgs 0).N = G := by
  refine (dats m 0 c).arrAt_eq_of_covers 13 _ (by decide +kernel) fun t _ y => ?_
  have ht := lt17 t
  blk_simp
  rw [after0_13]
  by_cases h : t.val % 17 = 0
  · rw [outsAt0_A m c t h (by omega) h (by omega) h (by omega) h (by omega)]
    frame_out
    idx_vars y
    rw [coords0, pay49_at ⟨t.val, ht⟩, rowB_eq]
    refine (hG (rowAt t y0) y1).symm.trans (congrArg G ?_)
    blk_point [iblk, V, rowAt, idx t]
  · rw [outsAt0_B m c t h (by omega) h (by omega) h (by omega) h (by omega)]
    frame_out
    idx_vars y
    rw [coords0, pay49_at ⟨t.val, ht⟩, rowB_eq]
    refine (hG (rowAt t y0) y1).symm.trans (congrArg G ?_)
    blk_point [iblk, V, rowAt, idx t]

theorem arr14 (c : Dev nD) (G : S4352x1024.Idx → EReal) (hG : ∀ r k, G (ix2 r k) = (rowE m c r).dh1 k) :
    (dats m 0 c).arrAt 14 (cfgs 0).N = G := by
  refine (dats m 0 c).arrAt_eq_of_covers 14 _ (by decide +kernel) fun t _ y => ?_
  have ht := lt17 t
  blk_simp
  rw [after0_14]
  by_cases h : t.val % 17 = 0
  · rw [outsAt0_A m c t h (by omega) h (by omega) h (by omega) h (by omega)]
    frame_out
    idx_vars y
    rw [coords0, pay38_at ⟨t.val, ht⟩, rowB_eq]
    refine (hG (rowAt t y0) y1).symm.trans (congrArg G ?_)
    blk_point [iblk, V, rowAt, idx t]
  · rw [outsAt0_B m c t h (by omega) h (by omega) h (by omega) h (by omega)]
    frame_out
    idx_vars y
    rw [coords0, pay38_at ⟨t.val, ht⟩, rowB_eq]
    refine (hG (rowAt t y0) y1).symm.trans (congrArg G ?_)
    blk_point [iblk, V, rowAt, idx t]

theorem arr15 (c : Dev nD) (G : S1024x4352.Idx → EReal) (hG : ∀ r k, G (ix2 k r) = (rowE m c r).mix k) :
    (dats m 0 c).arrAt 15 (cfgs 0).N = G := by
  refine (dats m 0 c).arrAt_eq_of_covers 15 _ (by decide +kernel) fun t _ y => ?_
  have ht := lt17 t
  blk_simp
  rw [after0_15]
  by_cases h : t.val % 17 = 0
  · rw [outsAt0_A m c t h (by omega) h (by omega) h (by omega) h (by omega)]
    frame_out
    idx_vars y
    pointwise [k0_pay12]
    rw [pay11_at ⟨t.val, ht⟩, rowB_eq]
    refine (hG (rowAt t y1) y0).symm.trans (congrArg G ?_)
    blk_point [iblk, V, rowAt, idx t]
  · rw [outsAt0_B m c t h (by omega) h (by omega) h (by omega) h (by omega)]
    frame_out
    idx_vars y
    pointwise [k0_pay12]
    rw [pay11_at ⟨t.val, ht⟩, rowB_eq]
    refine (hG (rowAt t y1) y0).symm.trans (congrArg G ?_)
    blk_point [iblk, V, rowAt, idx t]

theorem arr16 (c : Dev nD) (G : S4352x1024.Idx → EReal) (hG : ∀ r k, G (ix2 r k) = (rowE m c r).hn k) :
    (dats m 0 c).arrAt 16 (cfgs 0).N = G := by
  refine (dats m 0 c).arrAt_eq_of_covers 16 _ (by decide +kernel) fun t _ y => ?_
  have ht := lt17 t
  blk_simp
  rw [after0_16]
  by_cases h : t.val % 17 = 0
  · rw [outsAt0_A m c t h (by omega) h (by omega) h (by omega) h (by omega)]
    frame_out
    idx_vars y
    rw [pay16_at ⟨t.val, ht⟩, rowB_eq]
    refine (hG (rowAt t y0) y1).symm.trans (congrArg G ?_)
    blk_point [iblk, V, rowAt, idx t]
  · rw [outsAt0_B m c t h (by omega) h (by omega) h (by omega) h (by omega)]
    frame_out
    idx_vars y
    rw [pay16_at ⟨t.val, ht⟩, rowB_eq]
    refine (hG (rowAt t y0) y1).symm.trans (congrArg G ?_)
    blk_point [iblk, V, rowAt, idx t]

theorem arr17 (c : Dev nD) (G : S2816x4352.Idx → EReal) (hG : ∀ r k, G (ix2 k r) = (rowE m c r).act k) :
    (dats m 0 c).arrAt 17 (cfgs 0).N = G := by
  refine (dats m 0 c).arrAt_eq_of_covers 17 _ (by decide +kernel) fun t _ y => ?_
  have ht := lt17 t
  blk_simp
  rw [after0_17]
  by_cases h : t.val % 17 = 0
  · rw [outsAt0_A m c t h (by omega) h (by omega) h (by omega) h (by omega)]
    frame_out
    idx_vars y
    pointwise [k0_pay20]
    rw [pay19_at ⟨t.val, ht⟩, rowB_eq]
    refine (hG (rowAt t y1) y0).symm.trans (congrArg G ?_)
    blk_point [iblk, V, rowAt, idx t]
  · rw [outsAt0_B m c t h (by omega) h (by omega) h (by omega) h (by omega)]
    frame_out
    idx_vars y
    pointwise [k0_pay20]
    rw [pay19_at ⟨t.val, ht⟩, rowB_eq]
    refine (hG (rowAt t y1) y0).symm.trans (congrArg G ?_)
    blk_point [iblk, V, rowAt, idx t]

theorem arr18 (c : Dev nD) (G : S2816x4352.Idx → EReal) (hG : ∀ r k, G (ix2 k r) = (rowE m c r).dgate k) :
    (dats m 0 c).arrAt 18 (cfgs 0).N = G := by
  refine (dats m 0 c).arrAt_eq_of_covers 18 _ (by decide +kernel) fun t _ y => ?_
  have ht := lt17 t
  blk_simp
  rw [after0_18]
  by_cases h : t.val % 17 = 0
  · rw [outsAt0_A m c t h (by omega) h (by omega) h (by omega) h (by omega)]
    frame_out
    idx_vars y
    pointwise [k0_pay31]
    rw [coords0, pay29_at ⟨t.val, ht⟩, rowB_eq]
    refine (hG (rowAt t y1) y0).symm.trans (congrArg G ?_)
    blk_point [iblk, V, rowAt, idx t]
  · rw [outsAt0_B m c t h (by omega) h (by omega) h (by omega) h (by omega)]
    frame_out
    idx_vars y
    pointwise [k0_pay31]
    rw [coords0, pay29_at ⟨t.val, ht⟩, rowB_eq]
    refine (hG (rowAt t y1) y0).symm.trans (congrArg G ?_)
    blk_point [iblk, V, rowAt, idx t]

theorem arr19 (c : Dev nD) (G : S2816x4352.Idx → EReal) (hG : ∀ r k, G (ix2 k r) = (rowE m c r).dup k) :
    (dats m 0 c).arrAt 19 (cfgs 0).N = G := by
  refine (dats m 0 c).arrAt_eq_of_covers 19 _ (by decide +kernel) fun t _ y => ?_
  have ht := lt17 t
  blk_simp
  rw [after0_19]
  by_cases h : t.val % 17 = 0
  · rw [outsAt0_A m c t h (by omega) h (by omega) h (by omega) h (by omega)]
    frame_out
    idx_vars y
    pointwise [k0_pay32]
    rw [coords0, pay30_at ⟨t.val, ht⟩, rowB_eq]
    refine (hG (rowAt t y1) y0).symm.trans (congrArg G ?_)
    blk_point [iblk, V, rowAt, idx t]
  · rw [outsAt0_B m c t h (by omega) h (by omega) h (by omega) h (by omega)]
    frame_out
    idx_vars y
    pointwise [k0_pay32]
    rw [coords0, pay30_at ⟨t.val, ht⟩, rowB_eq]
    refine (hG (rowAt t y1) y0).symm.trans (congrArg G ?_)
    blk_point [iblk, V, rowAt, idx t]

theorem arr20 (c : Dev nD) (G : S4352x1024.Idx → EReal) (hG : ∀ r k, G (ix2 r k) = (rowE m c r).dy k) :
    (dats m 0 c).arrAt 20 (cfgs 0).N = G := by
  refine (dats m 0 c).arrAt_eq_of_covers 20 _ (by decide +kernel) fun t _ y => ?_
  have ht := lt17 t
  blk_simp
  rw [after0_20]
  by_cases h : t.val % 17 = 0
  · rw [outsAt0_A m c t h (by omega) h (by omega) h (by omega) h (by omega)]
    frame_out
    idx_vars y
    rw [coords0, pay26_at ⟨t.val, ht⟩, rowB_eq]
    refine (hG (rowAt t y0) y1).symm.trans (congrArg G ?_)
    blk_point [iblk, V, rowAt, idx t]
  · rw [outsAt0_B m c t h (by omega) h (by omega) h (by omega) h (by omega)]
    frame_out
    idx_vars y
    rw [coords0, pay26_at ⟨t.val, ht⟩, rowB_eq]
    refine (hG (rowAt t y0) y1).symm.trans (congrArg G ?_)
    blk_point [iblk, V, rowAt, idx t]

end Cert.PostIdeal.Value

end
-- ==== Proof.PostSums.lean ====
/- The loss call: what its result arrays that add over the blocks hold after the run. -/
module

public import Idealize.ShloMosaic.Lib.Pipeline.ReadBack
public import proofs.«01_k».proof.Proof.PostValue

@[expose] public section

set_option maxRecDepth 16384

noncomputable section

namespace Cert.PostIdeal.Value

open Cert.PostIdeal Cert.PostIdeal.Gen Cert.PostIdeal.Row Idealize.ShloMosaic Idealize.ShloMosaic.TcCoe Idealize.SL.Sem Cert.Norm
open Idealize.ShloMosaic.Pipeline (Dat)

variable (m : (ℓ : Loc nD τ sig) → Buf (Elt Ideal) ℓ)

/-- What a block adds to the loss. -/
def part21 (c : Dev nD) (t : Fin cfg0.N) (k : Fin 128) : EReal :=
  Ideal.ofBits FTy.f32 973078528#32 * ∑ y : Fin 256, ∑ x : Fin 1024, (rowE m c (rowAt t y)).err x * (rowE m c (rowAt t y)).err x

/-- The result is a copy of the scratch that carries it. -/
theorem copy21 (c : Dev nD) (t : Fin cfg0.N) (j : S1x128.Idx) :
    (outsAt0 m c t.val t.isLt).2.2.2.2.2.2.2.2.2.1 j = (outsAt0 m c t.val t.isLt).2.2.2.2.2.2.2.2.2.2.2.2.2.1 j := by
  have ht := lt17 t
  by_cases h : t.val % 17 = 0
  · rw [outsAt0_A m c t h (by omega) h (by omega) h (by omega) h (by omega)]
    frame_out
  · rw [outsAt0_B m c t h (by omega) h (by omega) h (by omega) h (by omega)]
    frame_out

theorem first21 (c : Dev nD) (t : Fin cfg0.N) (h : t.val % 17 = 0) (k : Fin 128) :
    (outsAt0 m c t.val t.isLt).2.2.2.2.2.2.2.2.2.2.2.2.2.1 (ix2 0 k) = 0 + part21 m c t k := by
  have ht := lt17 t
  rw [outsAt0_A m c t h (by omega) h (by omega) h (by omega) h (by omega)]
  frame_out
  pointwise [k0_pay23]
  rw [coords0, pay22_at ⟨t.val, ht⟩]
  simp only [rowB_eq]
  rfl
theorem next21 (c : Dev nD) (t : Fin cfg0.N) (h : ¬ t.val % 17 = 0) (k : Fin 128) :
    (outsAt0 m c t.val t.isLt).2.2.2.2.2.2.2.2.2.2.2.2.2.1 (ix2 0 k) = (outsAt0 m c (t.val - 1) (by omega)).2.2.2.2.2.2.2.2.2.2.2.2.2.1 (ix2 0 k) + part21 m c t k := by
  have ht := lt17 t
  rw [outsAt0_B m c t h (by omega) h (by omega) h (by omega) h (by omega)]
  frame_out
  rw [read_unread_whole]
  pointwise [k0_pay24]
  rw [coords0, pay22_at ⟨t.val, ht⟩]
  simp only [rowB_eq]
  rfl
theorem arr21 (c : Dev nD) (G : S1x128.Idx → EReal) (hG : ∀ k, G (ix2 0 k) = ∑ t : Fin 17, part21 m c ⟨t.val, by have hN : cfg0.N = 17 := N_0; omega⟩ k) :
    (dats m 0 c).arrAt 21 (cfgs 0).N = G := by
  refine (dats m 0 c).arrAt_eq_of_covers 21 _ (by decide +kernel) fun t hf y => ?_
  have hN : grid0.N = 17 := N_0
  have ht : t.val < 17 := lt_of_lt_of_eq t.isLt N_0
  blk_simp
  rw [after0_21, copy21]
  rw [Pipeline.eq_sum_fin_of_reset_step_apply_of_flush (fun n h => (outsAt0 m c n h).2.2.2.2.2.2.2.2.2.2.2.2.2.1) 17 (fun _ => 0) (fun t i => part21 m c t (i 1))
    (fun t h j => by
      idx_vars j
      obtain rfl : j0 = 0 := Subsingleton.elim _ _
      exact first21 m c t h j1)
    (fun t h j => by
      idx_vars j
      obtain rfl : j0 = 0 := Subsingleton.elim _ _
      exact next21 m c t h j1)
    t ((flush0_21 t).mp hf) _]
  have h0 : t.val / 17 = 0 := by omega
  have e : (fun k : Fin 128 => ix2 (0 : Fin 1) k) (y 1) = (win0_21.blk t).view.emb y := by
    idx_vars y
    blk_point [iblk, V, idx t]
  rw [zero_add, ← e]
  refine Eq.trans ?_ (hG (y 1)).symm
  refine Fin.sum_fin_congr fun s => ?_
  congr 1
  apply Fin.ext
  show 17 * (t.val / 17) + s.val = s.val
  omega

/-- What a block adds to the first output gain's gradient. -/
def part22 (c : Dev nD) (t : Fin cfg0.N) (k : Fin 512) : EReal :=
  ∑ y : Fin 256, (rowE m c (rowAt t y)).dma k * ((rowE m c (rowAt t y)).oa k * nrm (rowE m c (rowAt t y)).oa c512)

/-- The result is a copy of the scratch that carries it. -/
theorem copy22 (c : Dev nD) (t : Fin cfg0.N) (j : S1x512.Idx) :
    (outsAt0 m c t.val t.isLt).2.2.2.2.2.2.2.2.2.2.1 j = (outsAt0 m c t.val t.isLt).2.2.2.2.2.2.2.2.2.2.2.2.2.2.1 j := by
  have ht := lt17 t
  by_cases h : t.val % 17 = 0
  · rw [outsAt0_A m c t h (by omega) h (by omega) h (by omega) h (by omega)]
    frame_out
  · rw [outsAt0_B m c t h (by omega) h (by omega) h (by omega) h (by omega)]
    frame_out

theorem first22 (c : Dev nD) (t : Fin cfg0.N) (h : t.val % 17 = 0) (k : Fin 512) :
    (outsAt0 m c t.val t.isLt).2.2.2.2.2.2.2.2.2.2.2.2.2.2.1 (ix2 0 k) = 0 + part22 m c t k := by
  have ht := lt17 t
  rw [outsAt0_A m c t h (by omega) h (by omega) h (by omega) h (by omega)]
  frame_out
  pointwise [k0_pay43]
  rw [coords0, pay42_at ⟨t.val, ht⟩]
  exact Finset.sum_congr rfl fun y _ => by rw [rowB_eq]
theorem next22 (c : Dev nD) (t : Fin cfg0.N) (h : ¬ t.val % 17 = 0) (k : Fin 512) :
    (outsAt0 m c t.val t.isLt).2.2.2.2.2.2.2.2.2.2.2.2.2.2.1 (ix2 0 k) = (outsAt0 m c (t.val - 1) (by omega)).2.2.2.2.2.2.2.2.2.2.2.2.2.2.1 (ix2 0 k) + part22 m c t k := by
  have ht := lt17 t
  rw [outsAt0_B m c t h (by omega) h (by omega) h (by omega) h (by omega)]
  frame_out
  rw [read_unread_whole]
  pointwise [k0_pay44]
  rw [coords0, pay42_at ⟨t.val, ht⟩]
  exact congrArg (_ + ·) (Finset.sum_congr rfl fun y _ => by rw [rowB_eq])
theorem arr22 (c : Dev nD) (G : S1x512.Idx → EReal) (hG : ∀ k, G (ix2 0 k) = ∑ t : Fin 17, part22 m c ⟨t.val, by have hN : cfg0.N = 17 := N_0; omega⟩ k) :
    (dats m 0 c).arrAt 22 (cfgs 0).N = G := by
  refine (dats m 0 c).arrAt_eq_of_covers 22 _ (by decide +kernel) fun t hf y => ?_
  have hN : grid0.N = 17 := N_0
  have ht : t.val < 17 := lt_of_lt_of_eq t.isLt N_0
  blk_simp
  rw [after0_22, copy22]
  rw [Pipeline.eq_sum_fin_of_reset_step_apply_of_flush (fun n h => (outsAt0 m c n h).2.2.2.2.2.2.2.2.2.2.2.2.2.2.1) 17 (fun _ => 0) (fun t i => part22 m c t (i 1))
    (fun t h j => by
      idx_vars j
      obtain rfl : j0 = 0 := Subsingleton.elim _ _
      exact first22 m c t h j1)
    (fun t h j => by
      idx_vars j
      obtain rfl : j0 = 0 := Subsingleton.elim _ _
      exact next22 m c t h j1)
    t ((flush0_22 t).mp hf) _]
  have h0 : t.val / 17 = 0 := by omega
  have e : (fun k : Fin 512 => ix2 (0 : Fin 1) k) (y 1) = (win0_22.blk t).view.emb y := by
    idx_vars y
    blk_point [iblk, V, idx t]
  rw [zero_add, ← e]
  refine Eq.trans ?_ (hG (y 1)).symm
  refine Fin.sum_fin_congr fun s => ?_
  congr 1
  apply Fin.ext
  show 17 * (t.val / 17) + s.val = s.val
  omega

/-- What a block adds to the second output gain's gradient. -/
def part23 (c : Dev nD) (t : Fin cfg0.N) (k : Fin 512) : EReal :=
  ∑ y : Fin 256, (rowE m c (rowAt t y)).dmb k * ((rowE m c (rowAt t y)).ob k * nrm (rowE m c (rowAt t y)).ob c512)

/-- The result is a copy of the scratch that carries it. -/
theorem copy23 (c : Dev nD) (t : Fin cfg0.N) (j : S1x512.Idx) :
    (outsAt0 m c t.val t.isLt).2.2.2.2.2.2.2.2.2.2.2.1 j = (outsAt0 m c t.val t.isLt).2.2.2.2.2.2.2.2.2.2.2.2.2.2.2.1 j := by
  have ht := lt17 t
  by_cases h : t.val % 17 = 0
  · rw [outsAt0_A m c t h (by omega) h (by omega) h (by omega) h (by omega)]
    frame_out
  · rw [outsAt0_B m c t h (by omega) h (by omega) h (by omega) h (by omega)]
    frame_out

theorem first23 (c : Dev nD) (t : Fin cfg0.N) (h : t.val % 17 = 0) (k : Fin 512) :
    (outsAt0 m c t.val t.isLt).2.2.2.2.2.2.2.2.2.2.2.2.2.2.2.1 (ix2 0 k) = 0 + part23 m c t k := by
  have ht := lt17 t
  rw [outsAt0_A m c t h (by omega) h (by omega) h (by omega) h (by omega)]
  frame_out
  pointwise [k0_pay46]
  rw [coords0, pay45_at ⟨t.val, ht⟩]
  exact Finset.sum_congr rfl fun y _ => by rw [rowB_eq]
theorem next23 (c : Dev nD) (t : Fin cfg0.N) (h : ¬ t.val % 17 = 0) (k : Fin 512) :
    (outsAt0 m c t.val t.isLt).2.2.2.2.2.2.2.2.2.2.2.2.2.2.2.1 (ix2 0 k) = (outsAt0 m c (t.val - 1) (by omega)).2.2.2.2.2.2.2.2.2.2.2.2.2.2.2.1 (ix2 0 k) + part23 m c t k := by
  have ht := lt17 t
  rw [outsAt0_B m c t h (by omega) h (by omega) h (by omega) h (by omega)]
  frame_out
  rw [read_unread_whole]
  pointwise [k0_pay47]
  rw [coords0, pay45_at ⟨t.val, ht⟩]
  exact congrArg (_ + ·) (Finset.sum_congr rfl fun y _ => by rw [rowB_eq])
theorem arr23 (c : Dev nD) (G : S1x512.Idx → EReal) (hG : ∀ k, G (ix2 0 k) = ∑ t : Fin 17, part23 m c ⟨t.val, by have hN : cfg0.N = 17 := N_0; omega⟩ k) :
    (dats m 0 c).arrAt 23 (cfgs 0).N = G := by
  refine (dats m 0 c).arrAt_eq_of_covers 23 _ (by decide +kernel) fun t hf y => ?_
  have hN : grid0.N = 17 := N_0
  have ht : t.val < 17 := lt_of_lt_of_eq t.isLt N_0
  blk_simp
  rw [after0_23, copy23]
  rw [Pipeline.eq_sum_fin_of_reset_step_apply_of_flush (fun n h => (outsAt0 m c n h).2.2.2.2.2.2.2.2.2.2.2.2.2.2.2.1) 17 (fun _ => 0) (fun t i => part23 m c t (i 1))
    (fun t h j => by
      idx_vars j
      obtain rfl : j0 = 0 := Subsingleton.elim _ _
      exact first23 m c t h j1)
    (fun t h j => by
      idx_vars j
      obtain rfl : j0 = 0 := Subsingleton.elim _ _
      exact next23 m c t h j1)
    t ((flush0_23 t).mp hf) _]
  have h0 : t.val / 17 = 0 := by omega
  have e : (fun k : Fin 512 => ix2 (0 : Fin 1) k) (y 1) = (win0_23.blk t).view.emb y := by
    idx_vars y
    blk_point [iblk, V, idx t]
  rw [zero_add, ← e]
  refine Eq.trans ?_ (hG (y 1)).symm
  refine Fin.sum_fin_congr fun s => ?_
  congr 1
  apply Fin.ext
  show 17 * (t.val / 17) + s.val = s.val
  omega

/-- What a block adds to the second norm's gain's gradient. -/
def part24 (c : Dev nD) (t : Fin cfg0.N) (k : Fin 1024) : EReal :=
  ∑ y : Fin 256, (rowE m c (rowAt t y)).dhn k * ((rowE m c (rowAt t y)).mid k * nrm (rowE m c (rowAt t y)).mid c1024)

/-- The result is a copy of the scratch that carries it. -/
theorem copy24 (c : Dev nD) (t : Fin cfg0.N) (j : S1x1024.Idx) :
    (outsAt0 m c t.val t.isLt).2.2.2.2.2.2.2.2.2.2.2.2.1 j = (outsAt0 m c t.val t.isLt).2.2.2.2.2.2.2.2.2.2.2.2.2.2.2.2 j := by
  have ht := lt17 t
  by_cases h : t.val % 17 = 0
  · rw [outsAt0_A m c t h (by omega) h (by omega) h (by omega) h (by omega)]
    frame_out
  · rw [outsAt0_B m c t h (by omega) h (by omega) h (by omega) h (by omega)]
    frame_out

theorem first24 (c : Dev nD) (t : Fin cfg0.N) (h : t.val % 17 = 0) (k : Fin 1024) :
    (outsAt0 m c t.val t.isLt).2.2.2.2.2.2.2.2.2.2.2.2.2.2.2.2 (ix2 0 k) = 0 + part24 m c t k := by
  have ht := lt17 t
  rw [outsAt0_A m c t h (by omega) h (by omega) h (by omega) h (by omega)]
  frame_out
  pointwise [k0_pay36]
  rw [coords0, pay35_at ⟨t.val, ht⟩]
  simp only [rowB_eq]
  rfl
theorem next24 (c : Dev nD) (t : Fin cfg0.N) (h : ¬ t.val % 17 = 0) (k : Fin 1024) :
    (outsAt0 m c t.val t.isLt).2.2.2.2.2.2.2.2.2.2.2.2.2.2.2.2 (ix2 0 k) = (outsAt0 m c (t.val - 1) (by omega)).2.2.2.2.2.2.2.2.2.2.2.2.2.2.2.2 (ix2 0 k) + part24 m c t k := by
  have ht := lt17 t
  rw [outsAt0_B m c t h (by omega) h (by omega) h (by omega) h (by omega)]
  frame_out
  rw [read_unread_whole]
  pointwise [k0_pay37]
  rw [coords0, pay35_at ⟨t.val, ht⟩]
  simp only [rowB_eq]
  rfl
theorem arr24 (c : Dev nD) (G : S1x1024.Idx → EReal) (hG : ∀ k, G (ix2 0 k) = ∑ t : Fin 17, part24 m c ⟨t.val, by have hN : cfg0.N = 17 := N_0; omega⟩ k) :
    (dats m 0 c).arrAt 24 (cfgs 0).N = G := by
  refine (dats m 0 c).arrAt_eq_of_covers 24 _ (by decide +kernel) fun t hf y => ?_
  have hN : grid0.N = 17 := N_0
  have ht : t.val < 17 := lt_of_lt_of_eq t.isLt N_0
  blk_simp
  rw [after0_24, copy24]
  rw [Pipeline.eq_sum_fin_of_reset_step_apply_of_flush (fun n h => (outsAt0 m c n h).2.2.2.2.2.2.2.2.2.2.2.2.2.2.2.2) 17 (fun _ => 0) (fun t i => part24 m c t (i 1))
    (fun t h j => by
      idx_vars j
      obtain rfl : j0 = 0 := Subsingleton.elim _ _
      exact first24 m c t h j1)
    (fun t h j => by
      idx_vars j
      obtain rfl : j0 = 0 := Subsingleton.elim _ _
      exact next24 m c t h j1)
    t ((flush0_24 t).mp hf) _]
  have h0 : t.val / 17 = 0 := by omega
  have e : (fun k : Fin 1024 => ix2 (0 : Fin 1) k) (y 1) = (win0_24.blk t).view.emb y := by
    idx_vars y
    blk_point [iblk, V, idx t]
  rw [zero_add, ← e]
  refine Eq.trans ?_ (hG (y 1)).symm
  refine Fin.sum_fin_congr fun s => ?_
  congr 1
  apply Fin.ext
  show 17 * (t.val / 17) + s.val = s.val
  omega

end Cert.PostIdeal.Value

end
-- ==== Proof.PostEq.lean ====
/- The loss call: the kernel's rows and sums and the reference's are equal. -/
module

public import proofs.«01_k».proof.Proof.PostEntry
public import proofs.«01_k».proof.Proof.PostSums

@[expose] public section

set_option maxRecDepth 16384

noncomputable section

namespace Cert.PostEq

open Idealize.ShloMosaic Idealize.ShloMosaic.TcCoe Idealize.SL.Sem Cert.Common Cert.Norm
open Cert.PostIdeal Cert.PostIdeal.Row Cert.PostIdeal.Value Cert.PostRefIdeal.Read

variable (m : (ℓ : Loc nD τ sig) → Buf (Elt Ideal) ℓ) (c : Dev nD)

/-- The arrays the program is given. -/
abbrev A0 : FVec Ideal S2x2064x512 .f32 := m (c, Proc.tc.devRef main_arg0)
abbrev A1 : FVec Ideal S2x2064x512 .f32 := m (c, Proc.tc.devRef main_arg1)
abbrev A2 : FVec Ideal S2x2064x1024 .f32 := m (c, Proc.tc.devRef main_arg2)
abbrev A3 : FVec Ideal S2x2048x1024 .f32 := m (c, Proc.tc.devRef main_arg3)
abbrev A4 : FVec Ideal S1x512 .f32 := m (c, Proc.tc.devRef main_arg4)
abbrev A5 : FVec Ideal S1x512 .f32 := m (c, Proc.tc.devRef main_arg5)
abbrev A6 : FVec Ideal S1x1024 .f32 := m (c, Proc.tc.devRef main_arg6)
abbrev A7 : FVec Ideal S1x1024x1024 .f32 := m (c, Proc.tc.devRef main_arg7)
abbrev A8 : FVec Ideal S1x1024x2816 .f32 := m (c, Proc.tc.devRef main_arg8)
abbrev A9 : FVec Ideal S1x1024x2816 .f32 := m (c, Proc.tc.devRef main_arg9)
abbrev A10 : FVec Ideal S1x2816x1024 .f32 := m (c, Proc.tc.devRef main_arg10)

/-- A sum over the rows of all blocks, nothing on padding rows, is one over the rows of the arguments. -/
theorem sum_eq (F : Row → EReal) (hF : ∀ r : Fin 4352, r.val % 2176 < 112 → F (rowE m c r) = 0) :
    ∑ t : Fin 17, ∑ y : Fin 256, F (rowE m c (rowAt ⟨t.val, by have hN : cfg0.N = 17 := Gen.N_0; omega⟩ y))
      = ∑ b : Fin 2, ∑ s : Fin 2064, F (rowM m c b s) := by
  let f : ℕ → EReal := fun r => if h : r < 4352 then F (rowE m c ⟨r, h⟩) else 0
  have hf : ∀ r : Fin 4352, f r.val = F (rowE m c r) := fun r => dif_pos r.isLt
  have e : ∀ (t : Fin 17) (y : Fin 256), F (rowE m c (rowAt ⟨t.val, by have hN : cfg0.N = 17 := Gen.N_0; omega⟩ y)) = f (256 * t.val + y.val) :=
    fun t y => (hf (rowAt ⟨t.val, by have hN : cfg0.N = 17 := Gen.N_0; omega⟩ y)).symm
  simp only [e]
  rw [sum_rows f fun r hr => by
    by_cases h : r < 4352
    · exact (hf ⟨r, h⟩).trans (hF _ hr)
    · exact dif_neg h]
  refine Finset.sum_congr rfl fun b _ => Finset.sum_congr rfl fun s _ => ?_
  have hr : ¬ (2176 * b.val + (112 + s.val)) % 2176 < 112 := by omega
  rw [show f (2176 * b.val + (112 + s.val)) = _ from hf ⟨2176 * b.val + (112 + s.val), by omega⟩, rowE_row m c hr]
  have eb : (⟨(2176 * b.val + (112 + s.val)) / 2176, by omega⟩ : Fin 2) = b := Fin.ext (by simp only; omega)
  have es : (⟨(2176 * b.val + (112 + s.val)) % 2176 - 112, by omega⟩ : Fin 2064) = s := Fin.ext (by simp only; omega)
  rw [eb, es]

/-- A real factor leaves a sum of reals. -/
theorem sum_mul_real {n : ℕ} {f : Fin n → EReal} (hf : ∀ i, IsR (f i)) {a : EReal} : IsR a → ∑ i, f i * a = (∑ i, f i) * a := by
  rintro ⟨a, rfl⟩
  choose g hg using hf
  simp only [hg, ← EReal.coe_mul, ← coe_sum, Finset.sum_mul]

/-- The mean square error over the rows that carry a loss, halved, is the sum over all rows times one factor. -/
theorem loss_sum {e : Fin 2 → Fin 2064 → EReal} (he : ∀ b s, IsR (e b s)) (hz : ∀ b (s : Fin 2064), s.val < 16 → e b s = 0) :
    half * ∑ b : Fin 2, ∑ s' : Fin 2048, e b ⟨16 + s'.val, by omega⟩ * c1024
      = (∑ b : Fin 2, ∑ s : Fin 2064, e b s) * Ideal.ofBits FTy.f32 973078528#32 := by
  have e0 : ∀ b : Fin 2, ∑ s : Fin 2064, e b s = ∑ s' : Fin 2048, e b ⟨16 + s'.val, by omega⟩ := fun b => by
    rw [Fin.sum_univ_two_halves 16 2048 rfl (e b), Finset.sum_eq_zero fun s _ => hz b _ s.isLt, zero_add]
  choose f hf using he
  simp only [e0]
  simp only [hf, half_real, c1024_real, word_half_1024, ← EReal.coe_mul, ← coe_sum, ← Finset.sum_mul]
  congr 1
  ring

variable {m c}

theorem mix_eq (r : Fin 4352) (k : Fin 1024) : val_main_v168 (F := Ideal) (A0 m c) (A1 m c) (A4 m c) (A5 m c) (ix2 k r) = (rowE m c r).mix k := by
  rw [v168_at (A0 m c) (A1 m c) (A2 m c) (A3 m c) (A4 m c) (A5 m c) (A6 m c) (A7 m c) (A8 m c) (A9 m c) (A10 m c)]
  by_cases h : r.val % 2176 < 112
  · rw [if_pos h, mix_pad (oa_zero h) (ob_zero h)]
  · rw [if_neg h, rowE_row m c h]
theorem hn_eq (r : Fin 4352) (k : Fin 1024) : val_main_v172 (F := Ideal) (A0 m c) (A1 m c) (A2 m c) (A4 m c) (A5 m c) (A6 m c) (A7 m c) (ix2 r k) = (rowE m c r).hn k := by
  rw [v172_at (A0 m c) (A1 m c) (A2 m c) (A3 m c) (A4 m c) (A5 m c) (A6 m c) (A7 m c) (A8 m c) (A9 m c) (A10 m c)]
  by_cases h : r.val % 2176 < 112
  · rw [if_pos h, hn_pad (oa_zero h) (ob_zero h) (h_zero h)]
  · rw [if_neg h, rowE_row m c h]

variable (H : ∀ b s, (rowM m c b s).Real)
include H

theorem doa_eq (r : Fin 4352) (k : Fin 512) : val_main_v157 (F := Ideal) (A0 m c) (A1 m c) (A2 m c) (A3 m c) (A4 m c) (A5 m c) (A6 m c) (A7 m c) (A8 m c) (A9 m c) (A10 m c) (ix2 r k) = (rowE m c r).doa k := by
  rw [v157_at (A0 m c) (A1 m c) (A2 m c) (A3 m c) (A4 m c) (A5 m c) (A6 m c) (A7 m c) (A8 m c) (A9 m c) (A10 m c) H]
  by_cases h : r.val % 2176 < 112
  · rw [if_pos h, doa_pad (oa_zero h) (ob_zero h) (h_zero h) (not_live h)]
  · rw [if_neg h, rowE_row m c h]
theorem dob_eq (r : Fin 4352) (k : Fin 512) : val_main_v160 (F := Ideal) (A0 m c) (A1 m c) (A2 m c) (A3 m c) (A4 m c) (A5 m c) (A6 m c) (A7 m c) (A8 m c) (A9 m c) (A10 m c) (ix2 r k) = (rowE m c r).dob k := by
  rw [v160_at (A0 m c) (A1 m c) (A2 m c) (A3 m c) (A4 m c) (A5 m c) (A6 m c) (A7 m c) (A8 m c) (A9 m c) (A10 m c) H]
  by_cases h : r.val % 2176 < 112
  · rw [if_pos h, dob_pad (oa_zero h) (ob_zero h) (h_zero h) (not_live h)]
  · rw [if_neg h, rowE_row m c h]
theorem dh1_eq (r : Fin 4352) (k : Fin 1024) : val_main_v163 (F := Ideal) (A0 m c) (A1 m c) (A2 m c) (A3 m c) (A4 m c) (A5 m c) (A6 m c) (A7 m c) (A8 m c) (A9 m c) (A10 m c) (ix2 r k) = (rowE m c r).dh1 k := by
  rw [v163_at (A0 m c) (A1 m c) (A2 m c) (A3 m c) (A4 m c) (A5 m c) (A6 m c) (A7 m c) (A8 m c) (A9 m c) (A10 m c) H]
  by_cases h : r.val % 2176 < 112
  · rw [if_pos h, dh1_pad (oa_zero h) (ob_zero h) (h_zero h) (not_live h)]
  · rw [if_neg h, rowE_row m c h]
theorem act_eq (r : Fin 4352) (k : Fin 2816) : val_main_v177 (F := Ideal) (A0 m c) (A1 m c) (A2 m c) (A4 m c) (A5 m c) (A6 m c) (A7 m c) (A8 m c) (A9 m c) (ix2 k r) = (rowE m c r).act k := by
  rw [v177_at (A0 m c) (A1 m c) (A2 m c) (A3 m c) (A4 m c) (A5 m c) (A6 m c) (A7 m c) (A8 m c) (A9 m c) (A10 m c) H]
  by_cases h : r.val % 2176 < 112
  · rw [if_pos h, act_pad (oa_zero h) (ob_zero h) (h_zero h)]
  · rw [if_neg h, rowE_row m c h]
theorem dgate_eq (r : Fin 4352) (k : Fin 2816) : val_main_v182 (F := Ideal) (A0 m c) (A1 m c) (A2 m c) (A3 m c) (A4 m c) (A5 m c) (A6 m c) (A7 m c) (A8 m c) (A9 m c) (A10 m c) (ix2 k r) = (rowE m c r).dgate k := by
  rw [v182_at (A0 m c) (A1 m c) (A2 m c) (A3 m c) (A4 m c) (A5 m c) (A6 m c) (A7 m c) (A8 m c) (A9 m c) (A10 m c) H]
  by_cases h : r.val % 2176 < 112
  · rw [if_pos h, dgate_pad (not_live h)]
  · rw [if_neg h, rowE_row m c h]
theorem dup_eq (r : Fin 4352) (k : Fin 2816) : val_main_v187 (F := Ideal) (A0 m c) (A1 m c) (A2 m c) (A3 m c) (A4 m c) (A5 m c) (A6 m c) (A7 m c) (A8 m c) (A9 m c) (A10 m c) (ix2 k r) = (rowE m c r).dup k := by
  rw [v187_at (A0 m c) (A1 m c) (A2 m c) (A3 m c) (A4 m c) (A5 m c) (A6 m c) (A7 m c) (A8 m c) (A9 m c) (A10 m c) H]
  by_cases h : r.val % 2176 < 112
  · rw [if_pos h, dup_pad (not_live h)]
  · rw [if_neg h, rowE_row m c h]
theorem dy_eq (r : Fin 4352) (k : Fin 1024) : val_main_v191 (F := Ideal) (A0 m c) (A1 m c) (A2 m c) (A3 m c) (A4 m c) (A5 m c) (A6 m c) (A7 m c) (A8 m c) (A9 m c) (A10 m c) (ix2 r k) = (rowE m c r).dy k := by
  rw [v191_at (A0 m c) (A1 m c) (A2 m c) (A3 m c) (A4 m c) (A5 m c) (A6 m c) (A7 m c) (A8 m c) (A9 m c) (A10 m c) H]
  by_cases h : r.val % 2176 < 112
  · rw [if_pos h, dy_pad (not_live h)]
  · rw [if_neg h, rowE_row m c h]
theorem dga_eq (k : Fin 512) : val_main_v154 (F := Ideal) (A0 m c) (A1 m c) (A2 m c) (A3 m c) (A4 m c) (A5 m c) (A6 m c) (A7 m c) (A8 m c) (A9 m c) (A10 m c) (ix2 0 k) = ∑ t : Fin 17, part22 m c ⟨t.val, by have hN : cfg0.N = 17 := Gen.N_0; omega⟩ k := by
  rw [v154_at (A0 m c) (A1 m c) (A2 m c) (A3 m c) (A4 m c) (A5 m c) (A6 m c) (A7 m c) (A8 m c) (A9 m c) (A10 m c) H]
  refine Eq.trans ?_ (sum_eq m c (fun R => R.dma k * (R.oa k * nrm R.oa c512)) fun r h => ?_).symm
  · exact Finset.sum_congr rfl fun b _ => Finset.sum_congr rfl fun s _ => mul_comm _ _
  · rw [show (rowE m c r).dma k = 0 from dmix_pad (oa_zero h) (ob_zero h) (h_zero h) (not_live h) _, zero_mul]
theorem dgb_eq (k : Fin 512) : val_main_v133 (F := Ideal) (A0 m c) (A1 m c) (A2 m c) (A3 m c) (A4 m c) (A5 m c) (A6 m c) (A7 m c) (A8 m c) (A9 m c) (A10 m c) (ix2 0 k) = ∑ t : Fin 17, part23 m c ⟨t.val, by have hN : cfg0.N = 17 := Gen.N_0; omega⟩ k := by
  rw [v133_at (A0 m c) (A1 m c) (A2 m c) (A3 m c) (A4 m c) (A5 m c) (A6 m c) (A7 m c) (A8 m c) (A9 m c) (A10 m c) H]
  refine Eq.trans ?_ (sum_eq m c (fun R => R.dmb k * (R.ob k * nrm R.ob c512)) fun r h => ?_).symm
  · exact Finset.sum_congr rfl fun b _ => Finset.sum_congr rfl fun s _ => mul_comm _ _
  · rw [show (rowE m c r).dmb k = 0 from dmix_pad (oa_zero h) (ob_zero h) (h_zero h) (not_live h) _, zero_mul]
theorem dg2_eq (k : Fin 1024) : val_main_v109 (F := Ideal) (A0 m c) (A1 m c) (A2 m c) (A3 m c) (A4 m c) (A5 m c) (A6 m c) (A7 m c) (A8 m c) (A9 m c) (A10 m c) (ix2 0 k) = ∑ t : Fin 17, part24 m c ⟨t.val, by have hN : cfg0.N = 17 := Gen.N_0; omega⟩ k := by
  rw [v109_at (A0 m c) (A1 m c) (A2 m c) (A3 m c) (A4 m c) (A5 m c) (A6 m c) (A7 m c) (A8 m c) (A9 m c) (A10 m c) H]
  refine Eq.trans ?_ (sum_eq m c (fun R => R.dhn k * (R.mid k * nrm R.mid c1024)) fun r h => ?_).symm
  · exact Finset.sum_congr rfl fun b _ => Finset.sum_congr rfl fun s _ => mul_comm _ _
  · rw [dhn_pad (not_live h), zero_mul]

theorem loss_eq (l : Fin 128) : val_main_v192 (F := Ideal) (A0 m c) (A1 m c) (A2 m c) (A3 m c) (A4 m c) (A5 m c) (A6 m c) (A7 m c) (A8 m c) (A9 m c) (A10 m c) (ix2 0 l) = ∑ t : Fin 17, part21 m c ⟨t.val, by have hN : cfg0.N = 17 := Gen.N_0; omega⟩ l := by
  rw [v192_at (A0 m c) (A1 m c) (A2 m c) (A3 m c) (A4 m c) (A5 m c) (A6 m c) (A7 m c) (A8 m c) (A9 m c) (A10 m c) H]
  have hp : ∀ r : Fin 4352, r.val % 2176 < 112 → ∑ k, (rowE m c r).err k * (rowE m c r).err k = 0 := fun r h =>
    Finset.sum_eq_zero fun k _ => by rw [err_pad (not_live h), zero_mul]
  have hE : ∀ b s, IsR (∑ k, (rowM m c b s).err k * (rowM m c b s).err k) := fun b s => .sum fun k => ((H b s).err k).mul ((H b s).err k)
  have hr : ∀ r : Fin 4352, IsR (∑ k, (rowE m c r).err k * (rowE m c r).err k) := fun r => by
    by_cases h : r.val % 2176 < 112
    · exact ⟨0, (hp r h).trans EReal.coe_zero.symm⟩
    · rw [rowE_row m c h]; exact hE _ _
  refine (loss_sum hE fun b s hs => Finset.sum_eq_zero fun k _ => ?_).trans ?_
  · rw [err_pad (decide_eq_false (not_le.2 hs)), zero_mul]
  rw [← sum_eq m c (fun R => ∑ k, R.err k * R.err k) hp, ← sum_mul_real (fun t => IsR.sum fun y => hr _) ⟨_, word_half_1024⟩]
  exact Finset.sum_congr rfl fun t _ => mul_comm _ _

end Cert.PostEq

end
-- ==== Proof.PostProof.lean ====
/- The loss call: the value claim. -/
module

public import proofs.«01_k».proof.Defs
public import proofs.«01_k».proof.Proof.Gen.PostIdeal.Value
public import proofs.«01_k».proof.Proof.Gen.PostRefIdeal.Run
public import proofs.«01_k».proof.Proof.Gen.PostRefIdeal.Read
public import proofs.«01_k».proof.Proof.PostEq

@[expose] public section

set_option maxRecDepth 16384

noncomputable section

namespace Cert.PostEq

open Idealize.ShloMosaic Idealize.ShloMosaic.TcCoe Idealize.SL.Sem Cert.Common Cert.Norm
open Cert.PostIdeal Cert.PostIdeal.Row Cert.PostIdeal.Value

variable [Cert.Pre_post_finite.Facts]

/-- A finite array's entries are reals. -/
theorem isR_of {s : Shape} {a : FVec Ideal s .f32} (h : ∃ x : s.Idx → ℝ, a = fun i => (x i : EReal)) (i : s.Idx) : IsR (a i) := by
  obtain ⟨x, rfl⟩ := h
  exact ⟨x i, rfl⟩

/-- The precondition, read back: every row of the arguments is one of reals. -/
theorem real_of_pre (m : (ℓ : Loc nD τ sig) → Buf (Elt Ideal) ℓ) (h : Cert.Pre_PostIdeal_post_finite m) (c : Dev nD) (b : Fin 2) (s : Fin 2064) :
    (rowM m c b s).Real := by
  have h := congrFun (h c) (fun i => i.elim0)
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, hg⟩ := IntOp.andi_eq_one.1 h
  obtain ⟨hg, h6⟩ := IntOp.andi_eq_one.1 hg
  obtain ⟨h4, h5⟩ := IntOp.andi_eq_one.1 hg
  obtain ⟨h, h3⟩ := IntOp.andi_eq_one.1 h
  obtain ⟨h, h2⟩ := IntOp.andi_eq_one.1 h
  obtain ⟨h0, h1⟩ := IntOp.andi_eq_one.1 h
  exact ⟨fun _ => isR_of (finite_of_all _ _ _ _ _ h0) _, fun _ => isR_of (finite_of_all _ _ _ _ _ h1) _,
    fun _ => isR_of (finite_of_all _ _ _ _ _ h2) _, fun _ => isR_of (finite_of_all _ _ _ _ _ h3) _,
    fun _ => isR_of (finite_of_all _ _ _ _ _ h4) _, fun _ => isR_of (finite_of_all _ _ _ _ _ h5) _,
    fun _ => isR_of (finite_of_all _ _ _ _ _ h6) _, fun _ _ => isR_of (finite_of_all _ _ _ _ _ h7) _,
    fun _ _ => isR_of (finite_of_all _ _ _ _ _ h8) _, fun _ _ => isR_of (finite_of_all _ _ _ _ _ h9) _,
    fun _ _ => isR_of (finite_of_all _ _ _ _ _ h10) _⟩

set_option maxHeartbeats 4000000 in
theorem algebraic : Cert.algebraic_PostIdeal_PostRefIdeal_pre_post_finite := by
  pair_intro
  · run_from Cert.PostIdeal.Value.run_blocks m g
  · have H := real_of_pre m hpre
    have L : ∀ c, StableHlo.launchContents m' c (Proc.tc.devRef Cert.PostRefIdeal.main_arg0) = A0 m c ∧ StableHlo.launchContents m' c (Proc.tc.devRef Cert.PostRefIdeal.main_arg1) = A1 m c ∧ StableHlo.launchContents m' c (Proc.tc.devRef Cert.PostRefIdeal.main_arg2) = A2 m c
        ∧ StableHlo.launchContents m' c (Proc.tc.devRef Cert.PostRefIdeal.main_arg3) = A3 m c ∧ StableHlo.launchContents m' c (Proc.tc.devRef Cert.PostRefIdeal.main_arg4) = A4 m c ∧ StableHlo.launchContents m' c (Proc.tc.devRef Cert.PostRefIdeal.main_arg5) = A5 m c
        ∧ StableHlo.launchContents m' c (Proc.tc.devRef Cert.PostRefIdeal.main_arg6) = A6 m c ∧ StableHlo.launchContents m' c (Proc.tc.devRef Cert.PostRefIdeal.main_arg7) = A7 m c ∧ StableHlo.launchContents m' c (Proc.tc.devRef Cert.PostRefIdeal.main_arg8) = A8 m c
        ∧ StableHlo.launchContents m' c (Proc.tc.devRef Cert.PostRefIdeal.main_arg9) = A9 m c ∧ StableHlo.launchContents m' c (Proc.tc.devRef Cert.PostRefIdeal.main_arg10) = A10 m c := hagree
    run_from Cert.PostRefIdeal.Value.run m' g'
    · rw [← (hagree c).1]
      refine (Cert.PostRefIdeal.Read.val_main_v157_eq (StableHlo.launchContents m' c)).trans ?_
      obtain ⟨h0, h1, h2, h3, h4, h5, h6, h7, h8, h9, h10⟩ := L c
      refine Eq.trans ?_ (arr12 m c _ fun r k => doa_eq (H c) r k).symm
      rw [h0, h1, h2, h3, h4, h5, h6, h7, h8, h9, h10]
    · refine (Cert.PostRefIdeal.Read.val_main_v160_eq (StableHlo.launchContents m' c)).trans ?_
      obtain ⟨h0, h1, h2, h3, h4, h5, h6, h7, h8, h9, h10⟩ := L c
      refine Eq.trans ?_ (arr13 m c _ fun r k => dob_eq (H c) r k).symm
      rw [h0, h1, h2, h3, h4, h5, h6, h7, h8, h9, h10]
    · refine (Cert.PostRefIdeal.Read.val_main_v163_eq (StableHlo.launchContents m' c)).trans ?_
      obtain ⟨h0, h1, h2, h3, h4, h5, h6, h7, h8, h9, h10⟩ := L c
      refine Eq.trans ?_ (arr14 m c _ fun r k => dh1_eq (H c) r k).symm
      rw [h0, h1, h2, h3, h4, h5, h6, h7, h8, h9, h10]
    · refine (Cert.PostRefIdeal.Read.val_main_v168_eq (StableHlo.launchContents m' c)).trans ?_
      obtain ⟨h0, h1, h2, h3, h4, h5, h6, h7, h8, h9, h10⟩ := L c
      refine Eq.trans ?_ (arr15 m c _ fun r k => mix_eq r k).symm
      rw [h0, h1, h4, h5]
    · refine (Cert.PostRefIdeal.Read.val_main_v172_eq (StableHlo.launchContents m' c)).trans ?_
      obtain ⟨h0, h1, h2, h3, h4, h5, h6, h7, h8, h9, h10⟩ := L c
      refine Eq.trans ?_ (arr16 m c _ fun r k => hn_eq r k).symm
      rw [h0, h1, h2, h4, h5, h6, h7]
    · refine (Cert.PostRefIdeal.Read.val_main_v177_eq (StableHlo.launchContents m' c)).trans ?_
      obtain ⟨h0, h1, h2, h3, h4, h5, h6, h7, h8, h9, h10⟩ := L c
      refine Eq.trans ?_ (arr17 m c _ fun r k => act_eq (H c) r k).symm
      rw [h0, h1, h2, h4, h5, h6, h7, h8, h9]
    · refine (Cert.PostRefIdeal.Read.val_main_v182_eq (StableHlo.launchContents m' c)).trans ?_
      obtain ⟨h0, h1, h2, h3, h4, h5, h6, h7, h8, h9, h10⟩ := L c
      refine Eq.trans ?_ (arr18 m c _ fun r k => dgate_eq (H c) r k).symm
      rw [h0, h1, h2, h3, h4, h5, h6, h7, h8, h9, h10]
    · refine (Cert.PostRefIdeal.Read.val_main_v187_eq (StableHlo.launchContents m' c)).trans ?_
      obtain ⟨h0, h1, h2, h3, h4, h5, h6, h7, h8, h9, h10⟩ := L c
      refine Eq.trans ?_ (arr19 m c _ fun r k => dup_eq (H c) r k).symm
      rw [h0, h1, h2, h3, h4, h5, h6, h7, h8, h9, h10]
    · refine (Cert.PostRefIdeal.Read.val_main_v191_eq (StableHlo.launchContents m' c)).trans ?_
      obtain ⟨h0, h1, h2, h3, h4, h5, h6, h7, h8, h9, h10⟩ := L c
      refine Eq.trans ?_ (arr20 m c _ fun r k => dy_eq (H c) r k).symm
      rw [h0, h1, h2, h3, h4, h5, h6, h7, h8, h9, h10]
    · refine (Cert.PostRefIdeal.Read.val_main_v192_eq (StableHlo.launchContents m' c)).trans ?_
      obtain ⟨h0, h1, h2, h3, h4, h5, h6, h7, h8, h9, h10⟩ := L c
      refine Eq.trans ?_ (arr21 m c _ fun k => loss_eq (H c) k).symm
      rw [h0, h1, h2, h3, h4, h5, h6, h7, h8, h9, h10]
    · refine (Cert.PostRefIdeal.Read.val_main_v154_eq (StableHlo.launchContents m' c)).trans ?_
      obtain ⟨h0, h1, h2, h3, h4, h5, h6, h7, h8, h9, h10⟩ := L c
      refine Eq.trans ?_ (arr22 m c _ fun k => dga_eq (H c) k).symm
      rw [h0, h1, h2, h3, h4, h5, h6, h7, h8, h9, h10]
    · refine (Cert.PostRefIdeal.Read.val_main_v133_eq (StableHlo.launchContents m' c)).trans ?_
      obtain ⟨h0, h1, h2, h3, h4, h5, h6, h7, h8, h9, h10⟩ := L c
      refine Eq.trans ?_ (arr23 m c _ fun k => dgb_eq (H c) k).symm
      rw [h0, h1, h2, h3, h4, h5, h6, h7, h8, h9, h10]
    · refine (Cert.PostRefIdeal.Read.val_main_v109_eq (StableHlo.launchContents m' c)).trans ?_
      obtain ⟨h0, h1, h2, h3, h4, h5, h6, h7, h8, h9, h10⟩ := L c
      refine Eq.trans ?_ (arr24 m c _ fun k => dg2_eq (H c) k).symm
      rw [h0, h1, h2, h3, h4, h5, h6, h7, h8, h9, h10]

end Cert.PostEq

end
-- ==== Proof.lean ====
module

public import proofs.«01_k».proof.Defs
public import proofs.«01_k».proof.Proof.Gen.InBwd
public import proofs.«01_k».proof.Proof.Gen.InBwd.Frame
public import proofs.«01_k».proof.Proof.Gen.InBwdIdeal
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InBwdRefIdeal.Read
public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.Gen.AttnBwdIdeal.Value
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.Gen.QkvBwd
public import proofs.«01_k».proof.Proof.Gen.QkvBwd.Frame
public import proofs.«01_k».proof.Proof.Gen.QkvBwdIdeal
public import proofs.«01_k».proof.Proof.Gen.QkvBwdIdeal.Frame
public import proofs.«01_k».proof.Proof.Gen.QkvBwdIdeal.Value
public import proofs.«01_k».proof.Proof.Gen.QkvBwdRefIdeal
public import proofs.«01_k».proof.Proof.Gen.QkvBwdRefIdeal.Run
public import proofs.«01_k».proof.Proof.Gen.QkvBwdRefIdeal.Read
public import proofs.«01_k».proof.Proof.InProof
public import proofs.«01_k».proof.Proof.AttnProof
public import proofs.«01_k».proof.Proof.PostProof
public import Idealize.ShloMosaic.Adequacy
public import Idealize.ShloMosaic.Init

@[expose] public section

noncomputable section

namespace Cert.Proof

open Idealize.ShloMosaic Idealize.SL.Sem Cert.InBwd

theorem inPreFacts : Cert.Pre_in_finite.Facts := by
  constructor <;> decide +kernel
theorem attnPreFacts : Cert.Pre_attn_finite.Facts := by
  constructor <;> decide +kernel

theorem postPreFacts : Cert.Pre_post_finite.Facts := by
  constructor <;> decide +kernel

theorem inRefFrame : Cert.quiescent_InBwdRefIdeal := by
  exact fun m g _ => (θ_run _ _ _).mono
    (fun r h => ⟨fun c => (h c).2.2, sem_eq_zero_of_no_sems (by decide) r.2⟩) (Cert.InBwdRefIdeal.Value.run m g)
theorem attnRefFrame : Cert.quiescent_AttnBwdRefIdeal := by
  exact fun m g _ => (θ_run _ _ _).mono
    (fun r h => ⟨fun c => (h c).2.2.2, sem_eq_zero_of_no_sems (by decide) r.2⟩) (Cert.AttnBwdRefIdeal.Value.run m g)

theorem postRefFrame : Cert.quiescent_PostRefIdeal := by
  exact fun m g _ => (θ_run _ _ _).mono
    (fun r h => ⟨fun c => (h c).2.2.2.2.2.2.2.2.2.2.2.2.2, sem_eq_zero_of_no_sems (by decide) r.2⟩) (Cert.PostRefIdeal.Value.run m g)

theorem qkvRefFrame : Cert.quiescent_QkvBwdRefIdeal := by
  exact fun m g _ => (θ_run _ _ _).mono
    (fun r h => ⟨fun c => (h c).2.2.2.2.2.2, sem_eq_zero_of_no_sems (by decide) r.2⟩) (Cert.QkvBwdRefIdeal.Value.run m g)

theorem claim : Cert.Claim := ⟨Cert.InBwd.Gen.facts, Cert.InBwdIdeal.Gen.facts, Cert.InBwdRefIdeal.Gen.facts,
  Cert.AttnBwd.Gen.facts, Cert.AttnBwdIdeal.Gen.facts, Cert.AttnBwdRefIdeal.Gen.facts,
  Cert.Post.Gen.facts, Cert.PostIdeal.Gen.facts, Cert.PostRefIdeal.Gen.facts,
  Cert.QkvBwd.Gen.facts, Cert.QkvBwdIdeal.Gen.facts, Cert.QkvBwdRefIdeal.Gen.facts, inPreFacts, attnPreFacts, postPreFacts,
  fun m ρ _ => Cert.InBwd.Gen.frame m ρ, fun m ρ _ => Cert.InBwdIdeal.Gen.frame m ρ, fun m ρ _ => Cert.InBwdIdeal.Gen.frame m ρ,
  inRefFrame, fun m ρ _ => inRefFrame m ρ trivial,
  fun m ρ _ => Cert.AttnBwd.Gen.frame m ρ, fun m ρ _ => Cert.AttnBwdIdeal.Gen.frame m ρ, fun m ρ _ => Cert.AttnBwdIdeal.Gen.frame m ρ,
  attnRefFrame, fun m ρ _ => attnRefFrame m ρ trivial,
  fun m ρ _ => Cert.Post.Gen.frame m ρ, fun m ρ _ => Cert.PostIdeal.Gen.frame m ρ, fun m ρ _ => Cert.PostIdeal.Gen.frame m ρ,
  postRefFrame, fun m ρ _ => postRefFrame m ρ trivial,
  fun m ρ _ => Cert.QkvBwd.Gen.frame m ρ, fun m ρ _ => Cert.QkvBwdIdeal.Gen.frame m ρ,
  qkvRefFrame,
  trivial, @Cert.InEq.algebraic inPreFacts, trivial, @Cert.AttnEq.algebraic attnPreFacts,
  trivial, @Cert.PostEq.algebraic postPreFacts,
  IdealRules.named_const.statement Cert.QkvBwdIdeal.κ "inv_384" .f32 0x3B2AAAAB#32 ((1 / 384 : ℝ) : EReal) rfl,
  IdealRules.named_const.statement Cert.QkvBwdIdeal.κ "inv_96" .f32 0x3C2AAAAB#32 ((1 / 96 : ℝ) : EReal) rfl⟩

end Cert.Proof

end
